-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_TopK (m : (ℓ : Loc Cert.TopK.nD Cert.TopK.τ Cert.TopK.sig) → Buf (Elt Bits) ℓ) : Prop :=
  True

def Pre_TopKIdeal (m : (ℓ : Loc Cert.TopKIdeal.nD Cert.TopKIdeal.τ Cert.TopKIdeal.sig) → Buf (Elt Ideal) ℓ) : Prop :=
  True

def Pre_TopKIdeal_below_infinity [hPre_below_infinity : Cert.Pre_below_infinity.Facts] (m : (ℓ : Loc Cert.TopKIdeal.nD Cert.TopKIdeal.τ Cert.TopKIdeal.sig) → Buf (Elt Ideal) ℓ) : Prop :=
  ∀ c : Dev Cert.TopKIdeal.nD,
    (Cert.Pre_below_infinity.fn (F := Ideal) (m ((c.tc : Thread Cert.TopKIdeal.nD Cert.TopKIdeal.τ).loc Cert.TopKIdeal.main_arg0))) = (fun _ => 1#1)

def Pre_TopKReferenceIdeal (m : (ℓ : Loc Cert.TopKReferenceIdeal.nD Cert.TopKReferenceIdeal.τ Cert.TopKReferenceIdeal.sig) → Buf (Elt Ideal) ℓ) : Prop :=
  True

def Pre_TopKReferenceIdeal_below_infinity [hPre_below_infinity : Cert.Pre_below_infinity.Facts] (m : (ℓ : Loc Cert.TopKReferenceIdeal.nD Cert.TopKReferenceIdeal.τ Cert.TopKReferenceIdeal.sig) → Buf (Elt Ideal) ℓ) : Prop :=
  ∀ c : Dev Cert.TopKReferenceIdeal.nD,
    (Cert.Pre_below_infinity.fn (F := Ideal) (m ((c.tc : Thread Cert.TopKReferenceIdeal.nD Cert.TopKReferenceIdeal.τ).loc Cert.TopKReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_TopK [hTopK : Cert.TopK.Facts] : Prop :=
  ∀ (m : (ℓ : Loc Cert.TopK.nD Cert.TopK.τ Cert.TopK.sig) → Buf (Elt Bits) ℓ) (g : Dev Cert.TopK.nD → PrngReg), Pre_TopK m →
    θ_run (Cert.TopK.defs (F := Bits)) (onTc (τ := Cert.TopK.τ) (Cert.TopK.main (F := Bits))) ⟨m, fun _ => 0, g⟩ (fun r => (∀ c : Dev Cert.TopK.nD,
      r.2.mem ((c.tc : Thread Cert.TopK.nD Cert.TopK.τ).loc Cert.TopK.main_arg0) = m ((c.tc : Thread Cert.TopK.nD Cert.TopK.τ).loc Cert.TopK.main_arg0))
      ∧ r.2.sem = fun _ => 0)

def quiescent_TopKIdeal [hTopKIdeal : Cert.TopKIdeal.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ r.2.sem = fun _ => 0)

def quiescent_TopKIdeal_pre_below_infinity [hTopKIdeal : Cert.TopKIdeal.Facts] [hPre_below_infinity : Cert.Pre_below_infinity.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal_below_infinity m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ r.2.sem = fun _ => 0)

def quiescent_TopKReferenceIdeal [hTopKReferenceIdeal : Cert.TopKReferenceIdeal.Facts] : Prop :=
  ∀ (m : (ℓ : Loc Cert.TopKReferenceIdeal.nD Cert.TopKReferenceIdeal.τ Cert.TopKReferenceIdeal.sig) → Buf (Elt Ideal) ℓ) (g : Dev Cert.TopKReferenceIdeal.nD → PrngReg), Pre_TopKReferenceIdeal m →
    θ_run (Cert.TopKReferenceIdeal.defs (F := Ideal)) (onTc (τ := Cert.TopKReferenceIdeal.τ) (Cert.TopKReferenceIdeal.main (F := Ideal))) ⟨m, fun _ => 0, g⟩ (fun r => (∀ c : Dev Cert.TopKReferenceIdeal.nD,
      r.2.mem ((c.tc : Thread Cert.TopKReferenceIdeal.nD Cert.TopKReferenceIdeal.τ).loc Cert.TopKReferenceIdeal.main_arg0) = m ((c.tc : Thread Cert.TopKReferenceIdeal.nD Cert.TopKReferenceIdeal.τ).loc Cert.TopKReferenceIdeal.main_arg0))
      ∧ r.2.sem = fun _ => 0)

def quiescent_TopKReferenceIdeal_pre_below_infinity [hTopKReferenceIdeal : Cert.TopKReferenceIdeal.Facts] [hPre_below_infinity : Cert.Pre_below_infinity.Facts] : Prop :=
  ∀ (m : (ℓ : Loc Cert.TopKReferenceIdeal.nD Cert.TopKReferenceIdeal.τ Cert.TopKReferenceIdeal.sig) → Buf (Elt Ideal) ℓ) (g : Dev Cert.TopKReferenceIdeal.nD → PrngReg), Pre_TopKReferenceIdeal_below_infinity m →
    θ_run (Cert.TopKReferenceIdeal.defs (F := Ideal)) (onTc (τ := Cert.TopKReferenceIdeal.τ) (Cert.TopKReferenceIdeal.main (F := Ideal))) ⟨m, fun _ => 0, g⟩ (fun r => (∀ c : Dev Cert.TopKReferenceIdeal.nD,
      r.2.mem ((c.tc : Thread Cert.TopKReferenceIdeal.nD Cert.TopKReferenceIdeal.τ).loc Cert.TopKReferenceIdeal.main_arg0) = m ((c.tc : Thread Cert.TopKReferenceIdeal.nD Cert.TopKReferenceIdeal.τ).loc Cert.TopKReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v139)) (v1 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_v137) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_v218) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_TopK_TopKIdeal : Prop :=
  True

def algebraic_TopKIdeal_TopKReferenceIdeal_pre_below_infinity [hTopKIdeal : Cert.TopKIdeal.Facts] [hTopKReferenceIdeal : Cert.TopKReferenceIdeal.Facts] [hPre_below_infinity : Cert.Pre_below_infinity.Facts] : Prop :=
  ∀ (m : (ℓ : Loc Cert.TopKIdeal.nD Cert.TopKIdeal.τ Cert.TopKIdeal.sig) → Buf (Elt Ideal) ℓ) (g : Dev Cert.TopKIdeal.nD → PrngReg)
    (m' : (ℓ : Loc Cert.TopKReferenceIdeal.nD Cert.TopKReferenceIdeal.τ Cert.TopKReferenceIdeal.sig) → Buf (Elt Ideal) ℓ) (g' : Dev Cert.TopKReferenceIdeal.nD → PrngReg), Pre_TopKIdeal_below_infinity m →
    (∀ c : Dev Cert.TopKIdeal.nD,
      m' ((c.tc : Thread Cert.TopKReferenceIdeal.nD Cert.TopKReferenceIdeal.τ).loc Cert.TopKReferenceIdeal.main_arg0) = m ((c.tc : Thread Cert.TopKIdeal.nD Cert.TopKIdeal.τ).loc Cert.TopKIdeal.main_arg0)) →
    ∃ (v0 : (c : Dev Cert.TopKIdeal.nD) → Buf (Elt Ideal) ((c.tc : Thread Cert.TopKIdeal.nD Cert.TopKIdeal.τ).loc Cert.TopKIdeal.main_v0_0)) (v1 : (c : Dev Cert.TopKIdeal.nD) → Buf (Elt Ideal) ((c.tc : Thread Cert.TopKIdeal.nD Cert.TopKIdeal.τ).loc Cert.TopKIdeal.main_v0_1)),
      θ_run (Cert.TopKIdeal.defs (F := Ideal)) (onTc (τ := Cert.TopKIdeal.τ) (Cert.TopKIdeal.main (F := Ideal))) ⟨m, fun _ => 0, g⟩ (fun r => ∀ c : Dev Cert.TopKIdeal.nD,
          r.2.mem ((c.tc : Thread Cert.TopKIdeal.nD Cert.TopKIdeal.τ).loc Cert.TopKIdeal.main_v0_0) = v0 c
          ∧ r.2.mem ((c.tc : Thread Cert.TopKIdeal.nD Cert.TopKIdeal.τ).loc Cert.TopKIdeal.main_v0_1) = v1 c
          ∧ r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ θ_run (Cert.TopKReferenceIdeal.defs (F := Ideal)) (onTc (τ := Cert.TopKReferenceIdeal.τ) (Cert.TopKReferenceIdeal.main (F := Ideal))) ⟨m', fun _ => 0, g'⟩ (fun r => ∀ c : Dev Cert.TopKReferenceIdeal.nD,
          r.2.mem ((c.tc : Thread Cert.TopKReferenceIdeal.nD Cert.TopKReferenceIdeal.τ).loc Cert.TopKReferenceIdeal.main_v0) = v0 c
          ∧ r.2.mem ((c.tc : Thread Cert.TopKReferenceIdeal.nD Cert.TopKReferenceIdeal.τ).loc Cert.TopKReferenceIdeal.main_v1) = v1 c
          ∧ r.2.mem ((c.tc : Thread Cert.TopKReferenceIdeal.nD Cert.TopKReferenceIdeal.τ).loc Cert.TopKReferenceIdeal.main_arg0) = m' ((c.tc : Thread Cert.TopKReferenceIdeal.nD Cert.TopKReferenceIdeal.τ).loc Cert.TopKReferenceIdeal.main_arg0))

def Claim : Prop :=
  ∃ (hKernel : Cert.Kernel.Facts) (hKernelIdeal : Cert.KernelIdeal.Facts) (hReferenceIdeal : Cert.ReferenceIdeal.Facts) (hTopK : Cert.TopK.Facts) (hTopKIdeal : Cert.TopKIdeal.Facts) (hTopKReferenceIdeal : Cert.TopKReferenceIdeal.Facts) (hPre_below_infinity : Cert.Pre_below_infinity.Facts),
    quiescent_Kernel (hKernel := hKernel)
    ∧ quiescent_KernelIdeal (hKernelIdeal := hKernelIdeal)
    ∧ quiescent_ReferenceIdeal (hReferenceIdeal := hReferenceIdeal)
    ∧ quiescent_TopK (hTopK := hTopK)
    ∧ quiescent_TopKIdeal (hTopKIdeal := hTopKIdeal)
    ∧ quiescent_TopKIdeal_pre_below_infinity (hTopKIdeal := hTopKIdeal) (hPre_below_infinity := hPre_below_infinity)
    ∧ quiescent_TopKReferenceIdeal (hTopKReferenceIdeal := hTopKReferenceIdeal)
    ∧ quiescent_TopKReferenceIdeal_pre_below_infinity (hTopKReferenceIdeal := hTopKReferenceIdeal) (hPre_below_infinity := hPre_below_infinity)
    ∧ preserves_Kernel_KernelIdeal
    ∧ algebraic_KernelIdeal_ReferenceIdeal (hKernelIdeal := hKernelIdeal) (hReferenceIdeal := hReferenceIdeal)
    ∧ preserves_TopK_TopKIdeal
    ∧ algebraic_TopKIdeal_TopKReferenceIdeal_pre_below_infinity (hTopKIdeal := hTopKIdeal) (hTopKReferenceIdeal := hTopKReferenceIdeal) (hPre_below_infinity := hPre_below_infinity)
-- ==== Pre_below_infinity.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) : IVec S_ 1 :=
  let main_cst : FVec F S_ .f32 := constant S_ .f32 0x7F800000#32
  let main_v0 : FVec F S2048x2048 .f32 := broadcastInDim S2048x2048 ![] bcast_S_S2048x2048 main_cst
  let main_v1 : IVec S2048x2048 1 := cmpf .olt main_arg0 main_v0
  let main_c : IVec S_ 1 := constantI S_ 1 1#1
  let main_v2 : IVec S_ 1 := (fun x v => Host.reduce IntOp.andi x v reducesTo_S2048x2048_S_d0_1 h_S_) main_v1 main_c
  main_v2
-- ==== Kernel.lean ====
abbrev S2048x1x2048 : Shape := ⟨3, ![2048, 1, 2048]⟩
abbrev S1x1x2048x2048 : Shape := ⟨4, ![1, 1, 2048, 2048]⟩
abbrev S512x2048 : Shape := ⟨2, ![512, 2048]⟩
abbrev S512 : Shape := ⟨1, ![512]⟩
abbrev S3072x512 : Shape := ⟨2, ![3072, 512]⟩
abbrev S320x2048 : Shape := ⟨2, ![320, 2048]⟩
abbrev S256 : Shape := ⟨1, ![256]⟩
abbrev S2048x256 : Shape := ⟨2, ![2048, 256]⟩
abbrev S2048x2048 : Shape := ⟨2, ![2048, 2048]⟩
abbrev S2048x512 : Shape := ⟨2, ![2048, 512]⟩
abbrev S128x2048 : Shape := ⟨2, ![128, 2048]⟩
abbrev S128 : Shape := ⟨1, ![128]⟩
abbrev S16x2048 : Shape := ⟨2, ![16, 2048]⟩
abbrev S2048x1 : Shape := ⟨2, ![2048, 1]⟩
abbrev S32 : Shape := ⟨1, ![32]⟩
abbrev S_ : Shape := ⟨0, ![]⟩
abbrev S2048 : Shape := ⟨1, ![2048]⟩
abbrev S1x32 : Shape := ⟨2, ![1, 32]⟩
abbrev S2048x32 : Shape := ⟨2, ![2048, 32]⟩
abbrev S1x2048x1x32 : Shape := ⟨4, ![1, 2048, 1, 32]⟩
abbrev S1x2048x16x32 : Shape := ⟨4, ![1, 2048, 16, 32]⟩
abbrev S16 : Shape := ⟨1, ![16]⟩
abbrev S16x1 : Shape := ⟨2, ![16, 1]⟩
abbrev S1x128 : Shape := ⟨2, ![1, 128]⟩
abbrev S16x128 : Shape := ⟨2, ![16, 128]⟩
abbrev S16x32 : Shape := ⟨2, ![16, 32]⟩
abbrev S3072 : Shape := ⟨1, ![3072]⟩
abbrev S3072x1 : Shape := ⟨2, ![3072, 1]⟩
abbrev S512x3072 : Shape := ⟨2, ![512, 3072]⟩
abbrev S256x2048 : Shape := ⟨2, ![256, 2048]⟩
abbrev S32x1 : Shape := ⟨2, ![32, 1]⟩
abbrev S32x2048 : Shape := ⟨2, ![32, 2048]⟩
abbrev S2048x320 : Shape := ⟨2, ![2048, 320]⟩
abbrev S64 : Shape := ⟨1, ![64]⟩
abbrev S1x64 : Shape := ⟨2, ![1, 64]⟩
abbrev S16x64 : Shape := ⟨2, ![16, 64]⟩
abbrev S1024 : Shape := ⟨1, ![1024]⟩
abbrev S2048x128 : Shape := ⟨2, ![2048, 128]⟩
abbrev S2048x16 : Shape := ⟨2, ![2048, 16]⟩
abbrev S1x512 : Shape := ⟨2, ![1, 512]⟩
abbrev S1x256 : Shape := ⟨2, ![1, 256]⟩
abbrev S2048x1024 : Shape := ⟨2, ![2048, 1024]⟩
abbrev S2048x64 : Shape := ⟨2, ![2048, 64]⟩
abbrev S256x32 : Shape := ⟨2, ![256, 32]⟩
abbrev S256x512 : Shape := ⟨2, ![256, 512]⟩
abbrev S256x1024 : Shape := ⟨2, ![256, 1024]⟩
abbrev S256x64 : Shape := ⟨2, ![256, 64]⟩
abbrev S256x128 : Shape := ⟨2, ![256, 128]⟩
abbrev S256x16 : Shape := ⟨2, ![256, 16]⟩
abbrev S256x1 : Shape := ⟨2, ![256, 1]⟩
abbrev S256x320 : Shape := ⟨2, ![256, 320]⟩
abbrev S256x256 : Shape := ⟨2, ![256, 256]⟩
abbrev S256x3072 : Shape := ⟨2, ![256, 3072]⟩

abbrev nBuf : Space → Nat
  | .hbm => 191
  | .vmem => 79
  | .smem => 0
  | _ => 0

abbrev hbmTy0_0 (i : Nat) : BufTy := match i % 128 with
  | 0 => ⟨S2048x1x2048, .f32⟩
  | 1 => ⟨S1x1x2048x2048, .f32⟩
  | 2 => ⟨S512x2048, .f32⟩
  | 3 => ⟨S512, .f32⟩
  | 4 => ⟨S3072x512, .f32⟩
  | 5 => ⟨S320x2048, .f32⟩
  | 6 => ⟨S256, .f32⟩
  | 7 => ⟨S2048x256, .f32⟩
  | 8 => ⟨S2048x256, .f32⟩
  | 9 => ⟨S2048x2048, .f32⟩
  | 10 => ⟨S2048x512, .f32⟩
  | 11 => ⟨S128x2048, .f32⟩
  | 12 => ⟨S128, .f32⟩
  | 13 => ⟨S128, .f32⟩
  | 14 => ⟨S16x2048, .f32⟩
  | 15 => ⟨S2048x1, .f32⟩
  | 16 => ⟨S2048x2048, .f32⟩
  | 17 => ⟨S2048x2048, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S2048, .f32⟩
  | 35 => ⟨S2048x1, .f32⟩
  | 36 => ⟨S1x32, .f32⟩
  | 37 => ⟨S2048x32, .f32⟩
  | 38 => ⟨S2048x32, .f32⟩
  | 39 => ⟨S2048x32, .f32⟩
  | 40 => ⟨S2048x32, .f32⟩
  | 41 => ⟨S2048x32, .f32⟩
  | 42 => ⟨S1x2048x1x32, .f32⟩
  | 43 => ⟨S1x2048x16x32, .f32⟩
  | 44 => ⟨S2048x512, .f32⟩
  | 45 => ⟨S1x2048x1x32, .f32⟩
  | 46 => ⟨S1x2048x16x32, .f32⟩
  | 47 => ⟨S2048x512, .f32⟩
  | 48 => ⟨S32, .i32⟩
  | 49 => ⟨S_, .i32⟩
  | 50 => ⟨S32, .i32⟩
  | 51 => ⟨S32, .i32⟩
  | 52 => ⟨S_, .i32⟩
  | 53 => ⟨S32, .i32⟩
  | 54 => ⟨S32, .i32⟩
  | 55 => ⟨S32, .i32⟩
  | 56 => ⟨S_, .i32⟩
  | 57 => ⟨S32, .i32⟩
  | 58 => ⟨S32, .i32⟩
  | 59 => ⟨S_, .i32⟩
  | 60 => ⟨S32, .i32⟩
  | 61 => ⟨S32, .i32⟩
  | 62 => ⟨S16, .i32⟩
  | 63 => ⟨S16x1, .i32⟩
  | 64 => ⟨S_, .i32⟩
  | 65 => ⟨S16x1, .i32⟩
  | 66 => ⟨S16x1, .i32⟩
  | 67 => ⟨S128, .i32⟩
  | 68 => ⟨S1x128, .i32⟩
  | 69 => ⟨S16x128, .i32⟩
  | 70 => ⟨S16x128, .i32⟩
  | 71 => ⟨S16x128, .i32⟩
  | 72 => ⟨S2048, .i32⟩
  | 73 => ⟨S_, .i32⟩
  | 74 => ⟨S16x1, .i32⟩
  | 75 => ⟨S16x1, .i32⟩
  | 76 => ⟨S1x32, .i32⟩
  | 77 => ⟨S16x32, .i32⟩
  | 78 => ⟨S16x32, .i32⟩
  | 79 => ⟨S16x32, .i32⟩
  | 80 => ⟨S512, .i32⟩
  | 81 => ⟨S_, .i32⟩
  | 82 => ⟨S16x1, .i32⟩
  | 83 => ⟨S16x1, .i32⟩
  | 84 => ⟨S1x32, .i32⟩
  | 85 => ⟨S16x32, .i32⟩
  | 86 => ⟨S16x32, .i32⟩
  | 87 => ⟨S16x32, .i32⟩
  | 88 => ⟨S512, .i32⟩
  | 89 => ⟨S3072, .i32⟩
  | 90 => ⟨S_, .i32⟩
  | 91 => ⟨S3072, .i32⟩
  | 92 => ⟨S3072, .i1⟩
  | 93 => ⟨S_, .i32⟩
  | 94 => ⟨S3072, .i32⟩
  | 95 => ⟨S3072, .i32⟩
  | 96 => ⟨S3072, .i32⟩
  | 97 => ⟨S3072x1, .i32⟩
  | 98 => ⟨S3072x512, .f32⟩
  | 99 => ⟨S512x3072, .f32⟩
  | 100 => ⟨S256x2048, .f32⟩
  | 101 => ⟨S_, .i32⟩
  | 102 => ⟨S32, .i32⟩
  | 103 => ⟨S32, .i32⟩
  | 104 => ⟨S_, .i32⟩
  | 105 => ⟨S32, .i32⟩
  | 106 => ⟨S32, .i1⟩
  | 107 => ⟨S_, .i32⟩
  | 108 => ⟨S32, .i32⟩
  | 109 => ⟨S32, .i32⟩
  | 110 => ⟨S32, .i32⟩
  | 111 => ⟨S32x1, .i32⟩
  | 112 => ⟨S32x2048, .f32⟩
  | 113 => ⟨S_, .i32⟩
  | 114 => ⟨S32, .i32⟩
  | 115 => ⟨S32, .i32⟩
  | 116 => ⟨S_, .i32⟩
  | 117 => ⟨S32, .i32⟩
  | 118 => ⟨S32, .i1⟩
  | 119 => ⟨S_, .i32⟩
  | 120 => ⟨S32, .i32⟩
  | 121 => ⟨S32, .i32⟩
  | 122 => ⟨S32, .i32⟩
  | 123 => ⟨S32x1, .i32⟩
  | 124 => ⟨S32x2048, .f32⟩
  | 125 => ⟨S320x2048, .f32⟩
  | 126 => ⟨S2048x320, .f32⟩
  | 127 => ⟨S16, .i32⟩
  | _ => ⟨S2048x1x2048, .f32⟩

abbrev hbmTy0_1 (i : Nat) : BufTy := match i % 128 with
  | 0 => ⟨S16x1, .i32⟩
  | 1 => ⟨S_, .i32⟩
  | 2 => ⟨S16x1, .i32⟩
  | 3 => ⟨S16x1, .i32⟩
  | 4 => ⟨S32, .i32⟩
  | 5 => ⟨S1x32, .i32⟩
  | 6 => ⟨S16x32, .i32⟩
  | 7 => ⟨S16x32, .i32⟩
  | 8 => ⟨S16x32, .i32⟩
  | 9 => ⟨S512, .i32⟩
  | 10 => ⟨S_, .i32⟩
  | 11 => ⟨S16x1, .i32⟩
  | 12 => ⟨S16x1, .i32⟩
  | 13 => ⟨S32, .i32⟩
  | 14 => ⟨S1x32, .i32⟩
  | 15 => ⟨S16x32, .i32⟩
  | 16 => ⟨S16x32, .i32⟩
  | 17 => ⟨S16x32, .i32⟩
  | 18 => ⟨S512, .i32⟩
  | 19 => ⟨S_, .i32⟩
  | 20 => ⟨S16x1, .i32⟩
  | 21 => ⟨S16x1, .i32⟩
  | 22 => ⟨S64, .i32⟩
  | 23 => ⟨S1x64, .i32⟩
  | 24 => ⟨S16x64, .i32⟩
  | 25 => ⟨S16x64, .i32⟩
  | 26 => ⟨S16x64, .i32⟩
  | 27 => ⟨S1024, .i32⟩
  | 28 => ⟨S2048, .i32⟩
  | 29 => ⟨S_, .i32⟩
  | 30 => ⟨S2048, .i32⟩
  | 31 => ⟨S2048, .i1⟩
  | 32 => ⟨S_, .i32⟩
  | 33 => ⟨S2048, .i32⟩
  | 34 => ⟨S2048, .i32⟩
  | 35 => ⟨S2048, .i32⟩
  | 36 => ⟨S2048x1, .i32⟩
  | 37 => ⟨S2048x512, .f32⟩
  | 38 => ⟨S512x2048, .f32⟩
  | 39 => ⟨S2048x128, .f32⟩
  | 40 => ⟨S2048x512, .f32⟩
  | 41 => ⟨S256x2048, .f32⟩
  | 42 => ⟨S256x2048, .f32⟩
  | 43 => ⟨S2048x16, .f32⟩
  | 44 => ⟨S2048x2048, .f32⟩
  | 45 => ⟨S1x512, .f32⟩
  | 46 => ⟨S1x256, .f32⟩
  | 47 => ⟨S1x128, .f32⟩
  | 48 => ⟨S1x128, .f32⟩
  | 49 => ⟨S2048x2048, .f32⟩
  | 50 => ⟨S2048x512, .f32⟩
  | 51 => ⟨S2048x512, .f32⟩
  | 52 => ⟨S2048x512, .f32⟩
  | 53 => ⟨S2048x512, .f32⟩
  | 54 => ⟨S2048x1024, .f32⟩
  | 55 => ⟨S2048x2048, .f32⟩
  | 56 => ⟨S2048x2048, .f32⟩
  | 57 => ⟨S2048x64, .f32⟩
  | 58 => ⟨S2048x128, .f32⟩
  | 59 => ⟨S2048x16, .f32⟩
  | 60 => ⟨S2048x2048, .f32⟩
  | 61 => ⟨S2048x2048, .f32⟩
  | 62 => ⟨S2048x2048, .f32⟩
  | _ => ⟨S2048x1x2048, .f32⟩

abbrev hbmTy (i : Nat) : BufTy := match i / 128 with
  | 0 => hbmTy0_0 i
  | 1 => hbmTy0_1 i
  | _ => ⟨S2048x1x2048, .f32⟩

abbrev bufTy : (tb : Table) → Fin (tcTables nBuf tb) → BufTy
  | .hbm, ⟨i, _⟩ => hbmTy i
  | .local _ .vmem, ⟨0, _⟩ => ⟨S256x2048, .f32⟩
  | .local _ .vmem, ⟨1, _⟩ => ⟨S256x2048, .f32⟩
  | .local _ .vmem, ⟨2, _⟩ => ⟨S256x32, .f32⟩
  | .local _ .vmem, ⟨3, _⟩ => ⟨S256x32, .f32⟩
  | .local _ .vmem, ⟨4, _⟩ => ⟨S256x32, .f32⟩
  | .local _ .vmem, ⟨5, _⟩ => ⟨S256x32, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S2048x512, .f32⟩
  | .local _ .vmem, ⟨11, _⟩ => ⟨S1x512, .f32⟩
  | .local _ .vmem, ⟨12, _⟩ => ⟨S512x3072, .f32⟩
  | .local _ .vmem, ⟨13, _⟩ => ⟨S2048x320, .f32⟩
  | .local _ .vmem, ⟨14, _⟩ => ⟨S1x256, .f32⟩
  | .local _ .vmem, ⟨15, _⟩ => ⟨S256x2048, .f32⟩
  | .local _ .vmem, ⟨16, _⟩ => ⟨S256x2048, .f32⟩
  | .local _ .vmem, ⟨17, _⟩ => ⟨S512x2048, .f32⟩
  | .local _ .vmem, ⟨18, _⟩ => ⟨S2048x128, .f32⟩
  | .local _ .vmem, ⟨19, _⟩ => ⟨S1x128, .f32⟩
  | .local _ .vmem, ⟨20, _⟩ => ⟨S1x128, .f32⟩
  | .local _ .vmem, ⟨21, _⟩ => ⟨S2048x16, .f32⟩
  | .local _ .vmem, ⟨22, _⟩ => ⟨S256x2048, .f32⟩
  | .local _ .vmem, ⟨23, _⟩ => ⟨S256x2048, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x1024, .f32⟩
  | .local _ .vmem, ⟨33, _⟩ => ⟨S256x1024, .f32⟩
  | .local _ .vmem, ⟨34, _⟩ => ⟨S256x2048, .f32⟩
  | .local _ .vmem, ⟨35, _⟩ => ⟨S256x2048, .f32⟩
  | .local _ .vmem, ⟨36, _⟩ => ⟨S256x2048, .f32⟩
  | .local _ .vmem, ⟨37, _⟩ => ⟨S256x2048, .f32⟩
  | .local _ .vmem, ⟨38, _⟩ => ⟨S256x64, .f32⟩
  | .local _ .vmem, ⟨39, _⟩ => ⟨S256x64, .f32⟩
  | .local _ .vmem, ⟨40, _⟩ => ⟨S256x128, .f32⟩
  | .local _ .vmem, ⟨41, _⟩ => ⟨S256x128, .f32⟩
  | .local _ .vmem, ⟨42, _⟩ => ⟨S256x16, .f32⟩
  | .local _ .vmem, ⟨43, _⟩ => ⟨S256x16, .f32⟩
  | .local _ .vmem, ⟨44, _⟩ => ⟨S256x512, .f32⟩
  | .local _ .vmem, ⟨45, _⟩ => ⟨S256x512, .f32⟩
  | .local _ .vmem, ⟨46, _⟩ => ⟨S256x512, .f32⟩
  | .local _ .vmem, ⟨47, _⟩ => ⟨S256x512, .f32⟩
  | .local _ .vmem, ⟨48, _⟩ => ⟨S256x1024, .f32⟩
  | .local _ .vmem, ⟨49, _⟩ => ⟨S256x1024, .f32⟩
  | .local _ .vmem, ⟨50, _⟩ => ⟨S2048x128, .f32⟩
  | .local _ .vmem, ⟨51, _⟩ => ⟨S256x16, .f32⟩
  | .local _ .vmem, ⟨52, _⟩ => ⟨S256x16, .f32⟩
  | .local _ .vmem, ⟨53, _⟩ => ⟨S256x2048, .f32⟩
  | .local _ .vmem, ⟨54, _⟩ => ⟨S256x2048, .f32⟩
  | .local _ .vmem, ⟨55, _⟩ => ⟨S256x2048, .f32⟩
  | .local _ .vmem, ⟨56, _⟩ => ⟨S256x2048, .f32⟩
  | .local _ .vmem, ⟨57, _⟩ => ⟨S256x2048, .f32⟩
  | .local _ .vmem, ⟨58, _⟩ => ⟨S256x2048, .f32⟩
  | .local _ .vmem, ⟨59, _⟩ => ⟨S256x512, .f32⟩
  | .local _ .vmem, ⟨60, _⟩ => ⟨S256x512, .f32⟩
  | .local _ .vmem, ⟨61, _⟩ => ⟨S256x512, .f32⟩
  | .local _ .vmem, ⟨62, _⟩ => ⟨S256x512, .f32⟩
  | .local _ .vmem, ⟨63, _⟩ => ⟨S256x2048, .f32⟩
  | .local _ .vmem, ⟨64, _⟩ => ⟨S256x2048, .f32⟩
  | .local _ .vmem, ⟨65, _⟩ => ⟨S256x1, .f32⟩
  | .local _ .vmem, ⟨66, _⟩ => ⟨S256x1, .f32⟩
  | .local _ .vmem, ⟨67, _⟩ => ⟨S256x2048, .f32⟩
  | .local _ .vmem, ⟨68, _⟩ => ⟨S256x2048, .f32⟩
  | .local _ .vmem, ⟨69, _⟩ => ⟨S2048x2048, .f32⟩
  | .local _ .vmem, ⟨70, _⟩ => ⟨S2048x64, .f32⟩
  | .local _ .vmem, ⟨71, _⟩ => ⟨S2048x2048, .f32⟩
  | .local _ .vmem, ⟨72, _⟩ => ⟨S256x2048, .f32⟩
  | .local _ .vmem, ⟨73, _⟩ => ⟨S256x2048, .f32⟩
  | .local _ .vmem, ⟨74, _⟩ => ⟨S256x2048, .f32⟩
  | .local _ .vmem, ⟨75, _⟩ => ⟨S256x2048, .f32⟩
  | .local _ .vmem, ⟨76, _⟩ => ⟨S2048x2048, .f32⟩
  | .local _ .vmem, ⟨77, _⟩ => ⟨S256x2048, .f32⟩
  | .local _ .vmem, ⟨78, _⟩ => ⟨S256x2048, .f32⟩
  | _, _ => ⟨S2048x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_9 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_10 : Ref sig .tc := ⟨.hbm, 90, rfl⟩
abbrev main_v62 : Ref sig .tc := ⟨.hbm, 91, rfl⟩
abbrev main_v63 : Ref sig .tc := ⟨.hbm, 92, rfl⟩
abbrev main_c_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_12 : Ref sig .tc := ⟨.hbm, 101, rfl⟩
abbrev main_v71 : Ref sig .tc := ⟨.hbm, 102, rfl⟩
abbrev main_v72 : Ref sig .tc := ⟨.hbm, 103, rfl⟩
abbrev main_c_13 : Ref sig .tc := ⟨.hbm, 104, rfl⟩
abbrev main_v73 : Ref sig .tc := ⟨.hbm, 105, rfl⟩
abbrev main_v74 : Ref sig .tc := ⟨.hbm, 106, rfl⟩
abbrev main_c_14 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_15 : Ref sig .tc := ⟨.hbm, 113, rfl⟩
abbrev main_v80 : Ref sig .tc := ⟨.hbm, 114, rfl⟩
abbrev main_v81 : Ref sig .tc := ⟨.hbm, 115, rfl⟩
abbrev main_c_16 : Ref sig .tc := ⟨.hbm, 116, rfl⟩
abbrev main_v82 : Ref sig .tc := ⟨.hbm, 117, rfl⟩
abbrev main_v83 : Ref sig .tc := ⟨.hbm, 118, rfl⟩
abbrev main_c_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_18 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_c_19 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_20 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_c_21 : Ref sig .tc := ⟨.hbm, 157, rfl⟩
abbrev main_v118 : Ref sig .tc := ⟨.hbm, 158, rfl⟩
abbrev main_v119 : Ref sig .tc := ⟨.hbm, 159, rfl⟩
abbrev main_c_22 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136_0 : Ref sig .tc := ⟨.hbm, 177, rfl⟩
abbrev main_v136_1 : Ref sig .tc := ⟨.hbm, 178, rfl⟩
abbrev main_v136_2 : Ref sig .tc := ⟨.hbm, 179, rfl⟩
abbrev main_v136_3 : Ref sig .tc := ⟨.hbm, 180, rfl⟩
abbrev main_v136_4 : Ref sig .tc := ⟨.hbm, 181, rfl⟩
abbrev main_v136_5 : Ref sig .tc := ⟨.hbm, 182, rfl⟩
abbrev main_v136_6 : Ref sig .tc := ⟨.hbm, 183, rfl⟩
abbrev main_v136_7 : Ref sig .tc := ⟨.hbm, 184, rfl⟩
abbrev main_v136_8 : Ref sig .tc := ⟨.hbm, 185, rfl⟩
abbrev main_v136_9 : Ref sig .tc := ⟨.hbm, 186, rfl⟩
abbrev main_v136_10 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_stg26_0 : Ref sig .tc := ⟨.vmem, 40, rfl⟩
abbrev cc0_stg26_1 : Ref sig .tc := ⟨.vmem, 41, rfl⟩
abbrev cc0_stg27_0 : Ref sig .tc := ⟨.vmem, 42, rfl⟩
abbrev cc0_stg27_1 : Ref sig .tc := ⟨.vmem, 43, rfl⟩
abbrev cc1_stg0_0 : Ref sig .tc := ⟨.vmem, 44, rfl⟩
abbrev cc1_stg0_1 : Ref sig .tc := ⟨.vmem, 45, rfl⟩
abbrev cc1_stg1_0 : Ref sig .tc := ⟨.vmem, 46, rfl⟩
abbrev cc1_stg1_1 : Ref sig .tc := ⟨.vmem, 47, rfl⟩
abbrev cc1_stg2_0 : Ref sig .tc := ⟨.vmem, 48, rfl⟩
abbrev cc1_stg2_1 : Ref sig .tc := ⟨.vmem, 49, rfl⟩
abbrev cc1_stg3_0 : Ref sig .tc := ⟨.vmem, 50, rfl⟩
abbrev cc1_stg4_0 : Ref sig .tc := ⟨.vmem, 51, rfl⟩
abbrev cc1_stg4_1 : Ref sig .tc := ⟨.vmem, 52, rfl⟩
abbrev cc1_stg5_0 : Ref sig .tc := ⟨.vmem, 53, rfl⟩
abbrev cc1_stg5_1 : Ref sig .tc := ⟨.vmem, 54, rfl⟩
abbrev cc1_stg6_0 : Ref sig .tc := ⟨.vmem, 55, rfl⟩
abbrev cc1_stg6_1 : Ref sig .tc := ⟨.vmem, 56, rfl⟩
abbrev cc2_stg0_0 : Ref sig .tc := ⟨.vmem, 57, rfl⟩
abbrev cc2_stg0_1 : Ref sig .tc := ⟨.vmem, 58, rfl⟩
abbrev cc2_stg1_0 : Ref sig .tc := ⟨.vmem, 59, rfl⟩
abbrev cc2_stg1_1 : Ref sig .tc := ⟨.vmem, 60, rfl⟩
abbrev cc2_stg2_0 : Ref sig .tc := ⟨.vmem, 61, rfl⟩
abbrev cc2_stg2_1 : Ref sig .tc := ⟨.vmem, 62, rfl⟩
abbrev cc2_stg3_0 : Ref sig .tc := ⟨.vmem, 63, rfl⟩
abbrev cc2_stg3_1 : Ref sig .tc := ⟨.vmem, 64, rfl⟩
abbrev cc2_stg4_0 : Ref sig .tc := ⟨.vmem, 65, rfl⟩
abbrev cc2_stg4_1 : Ref sig .tc := ⟨.vmem, 66, rfl⟩
abbrev cc2_stg5_0 : Ref sig .tc := ⟨.vmem, 67, rfl⟩
abbrev cc2_stg5_1 : Ref sig .tc := ⟨.vmem, 68, rfl⟩
abbrev cc2_stg6_0 : Ref sig .tc := ⟨.vmem, 69, rfl⟩
abbrev cc2_stg7_0 : Ref sig .tc := ⟨.vmem, 70, rfl⟩
abbrev cc2_stg8_0 : Ref sig .tc := ⟨.vmem, 71, rfl⟩
abbrev cc2_stg9_0 : Ref sig .tc := ⟨.vmem, 72, rfl⟩
abbrev cc2_stg9_1 : Ref sig .tc := ⟨.vmem, 73, rfl⟩
abbrev cc3_stg0_0 : Ref sig .tc := ⟨.vmem, 74, rfl⟩
abbrev cc3_stg0_1 : Ref sig .tc := ⟨.vmem, 75, rfl⟩
abbrev cc3_stg1_0 : Ref sig .tc := ⟨.vmem, 76, rfl⟩
abbrev cc3_stg2_0 : Ref sig .tc := ⟨.vmem, 77, rfl⟩
abbrev cc3_stg2_1 : Ref sig .tc := ⟨.vmem, 78, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39
abbrev cc0_sem26_0 : DmaSem sig := 40
abbrev cc0_sem26_1 : DmaSem sig := 41
abbrev cc0_sem27_0 : DmaSem sig := 42
abbrev cc0_sem27_1 : DmaSem sig := 43
abbrev cc1_sem0_0 : DmaSem sig := 44
abbrev cc1_sem0_1 : DmaSem sig := 45
abbrev cc1_sem1_0 : DmaSem sig := 46
abbrev cc1_sem1_1 : DmaSem sig := 47
abbrev cc1_sem2_0 : DmaSem sig := 48
abbrev cc1_sem2_1 : DmaSem sig := 49
abbrev cc1_sem3_0 : DmaSem sig := 50
abbrev cc1_sem4_0 : DmaSem sig := 51
abbrev cc1_sem4_1 : DmaSem sig := 52
abbrev cc1_sem5_0 : DmaSem sig := 53
abbrev cc1_sem5_1 : DmaSem sig := 54
abbrev cc1_sem6_0 : DmaSem sig := 55
abbrev cc1_sem6_1 : DmaSem sig := 56
abbrev cc2_sem0_0 : DmaSem sig := 57
abbrev cc2_sem0_1 : DmaSem sig := 58
abbrev cc2_sem1_0 : DmaSem sig := 59
abbrev cc2_sem1_1 : DmaSem sig := 60
abbrev cc2_sem2_0 : DmaSem sig := 61
abbrev cc2_sem2_1 : DmaSem sig := 62
abbrev cc2_sem3_0 : DmaSem sig := 63
abbrev cc2_sem3_1 : DmaSem sig := 64
abbrev cc2_sem4_0 : DmaSem sig := 65
abbrev cc2_sem4_1 : DmaSem sig := 66
abbrev cc2_sem5_0 : DmaSem sig := 67
abbrev cc2_sem5_1 : DmaSem sig := 68
abbrev cc2_sem6_0 : DmaSem sig := 69
abbrev cc2_sem7_0 : DmaSem sig := 70
abbrev cc2_sem8_0 : DmaSem sig := 71
abbrev cc2_sem9_0 : DmaSem sig := 72
abbrev cc2_sem9_1 : DmaSem sig := 73
abbrev cc3_sem0_0 : DmaSem sig := 74
abbrev cc3_sem0_1 : DmaSem sig := 75
abbrev cc3_sem1_0 : DmaSem sig := 76
abbrev cc3_sem2_0 : DmaSem sig := 77
abbrev cc3_sem2_1 : DmaSem sig := 78

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x320 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2048x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x2048 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x2048 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x64 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x16 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2048x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S2048x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2048x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S2048x2048 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S256x2048 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== ReferenceIdeal.lean ====
abbrev S2048x1x2048 : Shape := ⟨3, ![2048, 1, 2048]⟩
abbrev S1x1x2048x2048 : Shape := ⟨4, ![1, 1, 2048, 2048]⟩
abbrev S512x2048 : Shape := ⟨2, ![512, 2048]⟩
abbrev S512 : Shape := ⟨1, ![512]⟩
abbrev S3072x512 : Shape := ⟨2, ![3072, 512]⟩
abbrev S320x2048 : Shape := ⟨2, ![320, 2048]⟩
abbrev S256 : Shape := ⟨1, ![256]⟩
abbrev S2048x256 : Shape := ⟨2, ![2048, 256]⟩
abbrev S2048x2048 : Shape := ⟨2, ![2048, 2048]⟩
abbrev S2048x512 : Shape := ⟨2, ![2048, 512]⟩
abbrev S128x2048 : Shape := ⟨2, ![128, 2048]⟩
abbrev S128 : Shape := ⟨1, ![128]⟩
abbrev S16x2048 : Shape := ⟨2, ![16, 2048]⟩
abbrev S2048x1 : Shape := ⟨2, ![2048, 1]⟩
abbrev S32 : Shape := ⟨1, ![32]⟩
abbrev S_ : Shape := ⟨0, ![]⟩
abbrev S2048 : Shape := ⟨1, ![2048]⟩
abbrev S1x32 : Shape := ⟨2, ![1, 32]⟩
abbrev S2048x32 : Shape := ⟨2, ![2048, 32]⟩
abbrev S1x512 : Shape := ⟨2, ![1, 512]⟩
abbrev S512x3072 : Shape := ⟨2, ![512, 3072]⟩
abbrev S2048x3072 : Shape := ⟨2, ![2048, 3072]⟩
abbrev S2048x16x192 : Shape := ⟨3, ![2048, 16, 192]⟩
abbrev S2048x16x128 : Shape := ⟨3, ![2048, 16, 128]⟩
abbrev S2048x16x64 : Shape := ⟨3, ![2048, 16, 64]⟩
abbrev S2048x16x32x2 : Shape := ⟨4, ![2048, 16, 32, 2]⟩
abbrev S2048x1x32 : Shape := ⟨3, ![2048, 1, 32]⟩
abbrev S2048x16x32x1 : Shape := ⟨4, ![2048, 16, 32, 1]⟩
abbrev S2048x16x32 : Shape := ⟨3, ![2048, 16, 32]⟩
abbrev S2048x320 : Shape := ⟨2, ![2048, 320]⟩
abbrev S2048x64 : Shape := ⟨2, ![2048, 64]⟩
abbrev S2048x1x64 : Shape := ⟨3, ![2048, 1, 64]⟩
abbrev S2048x1x32x2 : Shape := ⟨4, ![2048, 1, 32, 2]⟩
abbrev S2048x1x32x1 : Shape := ⟨4, ![2048, 1, 32, 1]⟩
abbrev S1x256 : Shape := ⟨2, ![1, 256]⟩
abbrev S256x2048 : Shape := ⟨2, ![256, 2048]⟩
abbrev S2048x16x2x32 : Shape := ⟨4, ![2048, 16, 2, 32]⟩
abbrev S2048x128 : Shape := ⟨2, ![2048, 128]⟩
abbrev S1x128 : Shape := ⟨2, ![1, 128]⟩
abbrev S2048x1x2x32 : Shape := ⟨4, ![2048, 1, 2, 32]⟩
abbrev S2048x16 : Shape := ⟨2, ![2048, 16]⟩
abbrev S2048x16x2048 : Shape := ⟨3, ![2048, 16, 2048]⟩
abbrev S2048x16x1 : Shape := ⟨3, ![2048, 16, 1]⟩
abbrev S16x2048x2048 : Shape := ⟨3, ![16, 2048, 2048]⟩
abbrev S1x2048x2048 : Shape := ⟨3, ![1, 2048, 2048]⟩
abbrev S16x2048x1 : Shape := ⟨3, ![16, 2048, 1]⟩
abbrev S16x128x2048 : Shape := ⟨3, ![16, 128, 2048]⟩

abbrev nBuf : Space → Nat
  | .hbm => 292
  | .vmem => 0
  | .smem => 0
  | _ => 0

abbrev hbmTy0_0 (i : Nat) : BufTy := match i % 128 with
  | 0 => ⟨S2048x1x2048, .f32⟩
  | 1 => ⟨S1x1x2048x2048, .f32⟩
  | 2 => ⟨S512x2048, .f32⟩
  | 3 => ⟨S512, .f32⟩
  | 4 => ⟨S3072x512, .f32⟩
  | 5 => ⟨S320x2048, .f32⟩
  | 6 => ⟨S256, .f32⟩
  | 7 => ⟨S2048x256, .f32⟩
  | 8 => ⟨S2048x256, .f32⟩
  | 9 => ⟨S2048x2048, .f32⟩
  | 10 => ⟨S2048x512, .f32⟩
  | 11 => ⟨S128x2048, .f32⟩
  | 12 => ⟨S128, .f32⟩
  | 13 => ⟨S128, .f32⟩
  | 14 => ⟨S16x2048, .f32⟩
  | 15 => ⟨S2048x1, .f32⟩
  | 16 => ⟨S2048x2048, .f32⟩
  | 17 => ⟨S2048x2048, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S2048, .f32⟩
  | 35 => ⟨S2048x1, .f32⟩
  | 36 => ⟨S1x32, .f32⟩
  | 37 => ⟨S2048x32, .f32⟩
  | 38 => ⟨S2048x32, .f32⟩
  | 39 => ⟨S2048x32, .f32⟩
  | 40 => ⟨S2048x32, .f32⟩
  | 41 => ⟨S2048x32, .f32⟩
  | 42 => ⟨S2048x512, .f32⟩
  | 43 => ⟨S2048x512, .f32⟩
  | 44 => ⟨S2048x512, .f32⟩
  | 45 => ⟨S_, .f32⟩
  | 46 => ⟨S2048, .f32⟩
  | 47 => ⟨S2048x1, .f32⟩
  | 48 => ⟨S_, .f32⟩
  | 49 => ⟨S2048x1, .f32⟩
  | 50 => ⟨S2048x1, .f32⟩
  | 51 => ⟨S_, .f32⟩
  | 52 => ⟨S2048x1, .f32⟩
  | 53 => ⟨S2048x1, .f32⟩
  | 54 => ⟨S2048x1, .f32⟩
  | 55 => ⟨S2048x512, .f32⟩
  | 56 => ⟨S2048x512, .f32⟩
  | 57 => ⟨S1x512, .f32⟩
  | 58 => ⟨S2048x512, .f32⟩
  | 59 => ⟨S2048x512, .f32⟩
  | 60 => ⟨S512x3072, .f32⟩
  | 61 => ⟨S2048x3072, .f32⟩
  | 62 => ⟨S2048x16x192, .f32⟩
  | 63 => ⟨S2048x16x128, .f32⟩
  | 64 => ⟨S2048x16x64, .f32⟩
  | 65 => ⟨S2048x16x32x2, .f32⟩
  | 66 => ⟨S2048x1x32, .f32⟩
  | 67 => ⟨S2048x1x32, .f32⟩
  | 68 => ⟨S2048x16x32x1, .f32⟩
  | 69 => ⟨S2048x16x32, .f32⟩
  | 70 => ⟨S2048x16x32, .f32⟩
  | 71 => ⟨S2048x16x32, .f32⟩
  | 72 => ⟨S2048x16x32x1, .f32⟩
  | 73 => ⟨S2048x16x32, .f32⟩
  | 74 => ⟨S2048x16x32, .f32⟩
  | 75 => ⟨S2048x16x32, .f32⟩
  | 76 => ⟨S2048x16x32, .f32⟩
  | 77 => ⟨S2048x16x32x1, .f32⟩
  | 78 => ⟨S2048x16x32, .f32⟩
  | 79 => ⟨S2048x16x32, .f32⟩
  | 80 => ⟨S2048x16x32, .f32⟩
  | 81 => ⟨S2048x16x32x1, .f32⟩
  | 82 => ⟨S2048x16x32, .f32⟩
  | 83 => ⟨S2048x16x32, .f32⟩
  | 84 => ⟨S2048x16x32, .f32⟩
  | 85 => ⟨S2048x16x32, .f32⟩
  | 86 => ⟨S2048x16x32x1, .f32⟩
  | 87 => ⟨S2048x16x32x1, .f32⟩
  | 88 => ⟨S2048x16x32x2, .f32⟩
  | 89 => ⟨S2048x16x64, .f32⟩
  | 90 => ⟨S2048x16x192, .f32⟩
  | 91 => ⟨S2048x320, .f32⟩
  | 92 => ⟨S2048x320, .f32⟩
  | 93 => ⟨S2048x256, .f32⟩
  | 94 => ⟨S2048x64, .f32⟩
  | 95 => ⟨S2048x1x64, .f32⟩
  | 96 => ⟨S2048x1x32x2, .f32⟩
  | 97 => ⟨S2048x1x32, .f32⟩
  | 98 => ⟨S2048x1x32, .f32⟩
  | 99 => ⟨S2048x1x32x1, .f32⟩
  | 100 => ⟨S2048x1x32, .f32⟩
  | 101 => ⟨S2048x1x32, .f32⟩
  | 102 => ⟨S2048x1x32x1, .f32⟩
  | 103 => ⟨S2048x1x32, .f32⟩
  | 104 => ⟨S2048x1x32, .f32⟩
  | 105 => ⟨S2048x1x32, .f32⟩
  | 106 => ⟨S2048x1x32x1, .f32⟩
  | 107 => ⟨S2048x1x32, .f32⟩
  | 108 => ⟨S2048x1x32, .f32⟩
  | 109 => ⟨S2048x1x32x1, .f32⟩
  | 110 => ⟨S2048x1x32, .f32⟩
  | 111 => ⟨S2048x1x32, .f32⟩
  | 112 => ⟨S2048x1x32, .f32⟩
  | 113 => ⟨S2048x1x32x1, .f32⟩
  | 114 => ⟨S2048x1x32x1, .f32⟩
  | 115 => ⟨S2048x1x32x2, .f32⟩
  | 116 => ⟨S2048x1x64, .f32⟩
  | 117 => ⟨S2048x256, .f32⟩
  | 118 => ⟨S_, .f32⟩
  | 119 => ⟨S2048, .f32⟩
  | 120 => ⟨S2048x1, .f32⟩
  | 121 => ⟨S_, .f32⟩
  | 122 => ⟨S2048x1, .f32⟩
  | 123 => ⟨S2048x1, .f32⟩
  | 124 => ⟨S_, .f32⟩
  | 125 => ⟨S2048x1, .f32⟩
  | 126 => ⟨S2048x1, .f32⟩
  | 127 => ⟨S2048x1, .f32⟩
  | _ => ⟨S2048x1x2048, .f32⟩

abbrev hbmTy0_1 (i : Nat) : BufTy := match i % 128 with
  | 0 => ⟨S2048x256, .f32⟩
  | 1 => ⟨S2048x256, .f32⟩
  | 2 => ⟨S1x256, .f32⟩
  | 3 => ⟨S2048x256, .f32⟩
  | 4 => ⟨S2048x256, .f32⟩
  | 5 => ⟨S256x2048, .f32⟩
  | 6 => ⟨S2048x2048, .f32⟩
  | 7 => ⟨S2048x16x128, .f32⟩
  | 8 => ⟨S256x2048, .f32⟩
  | 9 => ⟨S2048x2048, .f32⟩
  | 10 => ⟨S2048x16x128, .f32⟩
  | 11 => ⟨S2048x16x64, .f32⟩
  | 12 => ⟨S2048x16x192, .f32⟩
  | 13 => ⟨S512x2048, .f32⟩
  | 14 => ⟨S2048x2048, .f32⟩
  | 15 => ⟨S2048x16x128, .f32⟩
  | 16 => ⟨S2048x16x64, .f32⟩
  | 17 => ⟨S2048x16x64, .f32⟩
  | 18 => ⟨S2048x16x2x32, .f32⟩
  | 19 => ⟨S2048x16x32x2, .f32⟩
  | 20 => ⟨S2048x1x32, .f32⟩
  | 21 => ⟨S2048x1x32, .f32⟩
  | 22 => ⟨S2048x16x32x1, .f32⟩
  | 23 => ⟨S2048x16x32, .f32⟩
  | 24 => ⟨S2048x16x32, .f32⟩
  | 25 => ⟨S2048x16x32, .f32⟩
  | 26 => ⟨S2048x16x32x1, .f32⟩
  | 27 => ⟨S2048x16x32, .f32⟩
  | 28 => ⟨S2048x16x32, .f32⟩
  | 29 => ⟨S2048x16x32, .f32⟩
  | 30 => ⟨S2048x16x32, .f32⟩
  | 31 => ⟨S2048x16x32x1, .f32⟩
  | 32 => ⟨S2048x16x32, .f32⟩
  | 33 => ⟨S2048x16x32, .f32⟩
  | 34 => ⟨S2048x16x32, .f32⟩
  | 35 => ⟨S2048x16x32x1, .f32⟩
  | 36 => ⟨S2048x16x32, .f32⟩
  | 37 => ⟨S2048x16x32, .f32⟩
  | 38 => ⟨S2048x16x32, .f32⟩
  | 39 => ⟨S2048x16x32, .f32⟩
  | 40 => ⟨S2048x16x32x1, .f32⟩
  | 41 => ⟨S2048x16x32x1, .f32⟩
  | 42 => ⟨S2048x16x32x2, .f32⟩
  | 43 => ⟨S2048x16x64, .f32⟩
  | 44 => ⟨S2048x16x32, .f32⟩
  | 45 => ⟨S2048x16x32, .f32⟩
  | 46 => ⟨S2048x16x64, .f32⟩
  | 47 => ⟨S2048x16x128, .f32⟩
  | 48 => ⟨S2048x128, .f32⟩
  | 49 => ⟨S2048x128, .f32⟩
  | 50 => ⟨S_, .f32⟩
  | 51 => ⟨S2048, .f32⟩
  | 52 => ⟨S2048x1, .f32⟩
  | 53 => ⟨S_, .f32⟩
  | 54 => ⟨S2048x1, .f32⟩
  | 55 => ⟨S2048x1, .f32⟩
  | 56 => ⟨S2048x128, .f32⟩
  | 57 => ⟨S2048x128, .f32⟩
  | 58 => ⟨S2048x128, .f32⟩
  | 59 => ⟨S_, .f32⟩
  | 60 => ⟨S2048, .f32⟩
  | 61 => ⟨S2048x1, .f32⟩
  | 62 => ⟨S_, .f32⟩
  | 63 => ⟨S2048x1, .f32⟩
  | 64 => ⟨S2048x1, .f32⟩
  | 65 => ⟨S2048x128, .f32⟩
  | 66 => ⟨S2048x128, .f32⟩
  | 67 => ⟨S_, .f32⟩
  | 68 => ⟨S2048x1, .f32⟩
  | 69 => ⟨S2048x1, .f32⟩
  | 70 => ⟨S2048x1, .f32⟩
  | 71 => ⟨S2048x128, .f32⟩
  | 72 => ⟨S2048x128, .f32⟩
  | 73 => ⟨S1x128, .f32⟩
  | 74 => ⟨S2048x128, .f32⟩
  | 75 => ⟨S2048x128, .f32⟩
  | 76 => ⟨S1x128, .f32⟩
  | 77 => ⟨S2048x128, .f32⟩
  | 78 => ⟨S2048x128, .f32⟩
  | 79 => ⟨S2048x64, .f32⟩
  | 80 => ⟨S2048x64, .f32⟩
  | 81 => ⟨S2048x1x64, .f32⟩
  | 82 => ⟨S2048x1x2x32, .f32⟩
  | 83 => ⟨S2048x1x32x2, .f32⟩
  | 84 => ⟨S2048x1x32, .f32⟩
  | 85 => ⟨S2048x1x32, .f32⟩
  | 86 => ⟨S2048x1x32x1, .f32⟩
  | 87 => ⟨S2048x1x32, .f32⟩
  | 88 => ⟨S2048x1x32, .f32⟩
  | 89 => ⟨S2048x1x32x1, .f32⟩
  | 90 => ⟨S2048x1x32, .f32⟩
  | 91 => ⟨S2048x1x32, .f32⟩
  | 92 => ⟨S2048x1x32, .f32⟩
  | 93 => ⟨S2048x1x32x1, .f32⟩
  | 94 => ⟨S2048x1x32, .f32⟩
  | 95 => ⟨S2048x1x32, .f32⟩
  | 96 => ⟨S2048x1x32x1, .f32⟩
  | 97 => ⟨S2048x1x32, .f32⟩
  | 98 => ⟨S2048x1x32, .f32⟩
  | 99 => ⟨S2048x1x32, .f32⟩
  | 100 => ⟨S2048x1x32x1, .f32⟩
  | 101 => ⟨S2048x1x32x1, .f32⟩
  | 102 => ⟨S2048x1x32x2, .f32⟩
  | 103 => ⟨S2048x1x64, .f32⟩
  | 104 => ⟨S2048x1x32, .f32⟩
  | 105 => ⟨S2048x1x32, .f32⟩
  | 106 => ⟨S2048x1x64, .f32⟩
  | 107 => ⟨S2048x64, .f32⟩
  | 108 => ⟨S2048x128, .f32⟩
  | 109 => ⟨S2048x16, .f32⟩
  | 110 => ⟨S2048x16, .f32⟩
  | 111 => ⟨S_, .f32⟩
  | 112 => ⟨S2048x16, .f32⟩
  | 113 => ⟨S2048x16, .f32⟩
  | 114 => ⟨S2048x16x2048, .f32⟩
  | 115 => ⟨S_, .f32⟩
  | 116 => ⟨S2048x16x2048, .f32⟩
  | 117 => ⟨S2048x16x2048, .f32⟩
  | 118 => ⟨S_, .f32⟩
  | 119 => ⟨S2048x16x2048, .f32⟩
  | 120 => ⟨S2048x16x2048, .f32⟩
  | 121 => ⟨S2048x16x1, .f32⟩
  | 122 => ⟨S2048x16x2048, .f32⟩
  | 123 => ⟨S2048x16x2048, .f32⟩
  | 124 => ⟨S_, .f32⟩
  | 125 => ⟨S2048x2048, .f32⟩
  | 126 => ⟨S2048x2048, .f32⟩
  | 127 => ⟨S2048x2048, .f32⟩
  | _ => ⟨S2048x1x2048, .f32⟩

abbrev hbmTy0_2 (i : Nat) : BufTy := match i % 128 with
  | 0 => ⟨S2048x2048, .i1⟩
  | 1 => ⟨S_, .f32⟩
  | 2 => ⟨S_, .f32⟩
  | 3 => ⟨S2048x2048, .f32⟩
  | 4 => ⟨S2048x2048, .f32⟩
  | 5 => ⟨S2048x2048, .f32⟩
  | 6 => ⟨S16x2048x2048, .f32⟩
  | 7 => ⟨S_, .f32⟩
  | 8 => ⟨S16x2048x2048, .f32⟩
  | 9 => ⟨S16x2048x2048, .f32⟩
  | 10 => ⟨S1x2048x2048, .f32⟩
  | 11 => ⟨S16x2048x2048, .f32⟩
  | 12 => ⟨S16x2048x2048, .f32⟩
  | 13 => ⟨S2048x2048, .f32⟩
  | 14 => ⟨S1x2048x2048, .f32⟩
  | 15 => ⟨S16x2048x2048, .f32⟩
  | 16 => ⟨S16x2048x2048, .f32⟩
  | 17 => ⟨S_, .f32⟩
  | 18 => ⟨S16x2048, .f32⟩
  | 19 => ⟨S_, .f32⟩
  | 20 => ⟨S16x2048, .f32⟩
  | 21 => ⟨S16x2048, .f32⟩
  | 22 => ⟨S16x2048x1, .f32⟩
  | 23 => ⟨S16x2048x2048, .f32⟩
  | 24 => ⟨S16x2048x2048, .f32⟩
  | 25 => ⟨S16x2048x2048, .f32⟩
  | 26 => ⟨S_, .f32⟩
  | 27 => ⟨S16x2048, .f32⟩
  | 28 => ⟨S16x2048x1, .f32⟩
  | 29 => ⟨S16x2048x2048, .f32⟩
  | 30 => ⟨S16x2048x2048, .f32⟩
  | 31 => ⟨S16x128x2048, .f32⟩
  | 32 => ⟨S2048x16x128, .f32⟩
  | 33 => ⟨S2048x2048, .f32⟩
  | 34 => ⟨S2048x2048, .f32⟩
  | 35 => ⟨S2048x2048, .f32⟩
  | _ => ⟨S2048x1x2048, .f32⟩

abbrev hbmTy (i : Nat) : BufTy := match i / 128 with
  | 0 => hbmTy0_0 i
  | 1 => hbmTy0_1 i
  | 2 => hbmTy0_2 i
  | _ => ⟨S2048x1x2048, .f32⟩

abbrev bufTy : (tb : Table) → Fin (tcTables nBuf tb) → BufTy
  | .hbm, ⟨i, _⟩ => hbmTy i
  | _, _ => ⟨S2048x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_7 : Ref sig .tc := ⟨.hbm, 118, rfl⟩
abbrev main_v94 : Ref sig .tc := ⟨.hbm, 119, rfl⟩
abbrev main_v95 : Ref sig .tc := ⟨.hbm, 120, rfl⟩
abbrev main_cst_8 : Ref sig .tc := ⟨.hbm, 121, rfl⟩
abbrev main_v96 : Ref sig .tc := ⟨.hbm, 122, rfl⟩
abbrev main_v97 : Ref sig .tc := ⟨.hbm, 123, rfl⟩
abbrev main_cst_9 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_cst_10 : Ref sig .tc := ⟨.hbm, 178, rfl⟩
abbrev main_v151 : Ref sig .tc := ⟨.hbm, 179, rfl⟩
abbrev main_v152 : Ref sig .tc := ⟨.hbm, 180, rfl⟩
abbrev main_cst_11 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_cst_12 : Ref sig .tc := ⟨.hbm, 187, rfl⟩
abbrev main_v158 : Ref sig .tc := ⟨.hbm, 188, rfl⟩
abbrev main_v159 : Ref sig .tc := ⟨.hbm, 189, rfl⟩
abbrev main_cst_13 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_cst_14 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_cst_15 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_cst_16 : Ref sig .tc := ⟨.hbm, 243, rfl⟩
abbrev main_v210 : Ref sig .tc := ⟨.hbm, 244, rfl⟩
abbrev main_v211 : Ref sig .tc := ⟨.hbm, 245, rfl⟩
abbrev main_cst_17 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_cst_18 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_cst_19 : Ref sig .tc := ⟨.hbm, 257, rfl⟩
abbrev main_cst_20 : Ref sig .tc := ⟨.hbm, 258, rfl⟩
abbrev main_call0_v0 : Ref sig .tc := ⟨.hbm, 259, rfl⟩
abbrev main_call0_v1 : Ref sig .tc := ⟨.hbm, 260, rfl⟩
abbrev main_v221 : Ref sig .tc := ⟨.hbm, 261, rfl⟩
abbrev main_v222 : Ref sig .tc := ⟨.hbm, 262, rfl⟩
abbrev main_cst_21 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_cst_22 : Ref sig .tc := ⟨.hbm, 273, rfl⟩
abbrev main_v232 : Ref sig .tc := ⟨.hbm, 274, rfl⟩
abbrev main_cst_23 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_cst_24 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩

abbrev nD : Nat := 1
abbrev τ : Topo := Topo.v7x

variable {F : FTy → Type} [FloatOps F]
-- ==== TopK.lean ====
abbrev S2048x2048 : Shape := ⟨2, ![2048, 2048]⟩
abbrev S2048x512 : Shape := ⟨2, ![2048, 512]⟩
abbrev S2048x1 : Shape := ⟨2, ![2048, 1]⟩
abbrev S256x2048 : Shape := ⟨2, ![256, 2048]⟩
abbrev S256x512 : Shape := ⟨2, ![256, 512]⟩
abbrev S256x1 : Shape := ⟨2, ![256, 1]⟩
abbrev S256x2047 : Shape := ⟨2, ![256, 2047]⟩
abbrev S256x2046 : Shape := ⟨2, ![256, 2046]⟩
abbrev S256x2 : Shape := ⟨2, ![256, 2]⟩
abbrev S256x2044 : Shape := ⟨2, ![256, 2044]⟩
abbrev S256x4 : Shape := ⟨2, ![256, 4]⟩
abbrev S256x2040 : Shape := ⟨2, ![256, 2040]⟩
abbrev S256x8 : Shape := ⟨2, ![256, 8]⟩
abbrev S256x2032 : Shape := ⟨2, ![256, 2032]⟩
abbrev S256x16 : Shape := ⟨2, ![256, 16]⟩
abbrev S256x2016 : Shape := ⟨2, ![256, 2016]⟩
abbrev S256x32 : Shape := ⟨2, ![256, 32]⟩
abbrev S256x1984 : Shape := ⟨2, ![256, 1984]⟩
abbrev S256x64 : Shape := ⟨2, ![256, 64]⟩
abbrev S256x1920 : Shape := ⟨2, ![256, 1920]⟩
abbrev S256x128 : Shape := ⟨2, ![256, 128]⟩
abbrev S256x1792 : Shape := ⟨2, ![256, 1792]⟩
abbrev S256x256 : Shape := ⟨2, ![256, 256]⟩
abbrev S256x1536 : Shape := ⟨2, ![256, 1536]⟩
abbrev S256x1024 : Shape := ⟨2, ![256, 1024]⟩
abbrev S256 : Shape := ⟨1, ![256]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x512, .f32⟩
  | .hbm, ⟨2, _⟩ => ⟨S2048x1, .f32⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S256x1, .f32⟩
  | .local _ .vmem, ⟨5, _⟩ => ⟨S256x1, .f32⟩
  | .local _ .vmem, ⟨6, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== TopKReferenceIdeal.lean ====
abbrev S2048x2048 : Shape := ⟨2, ![2048, 2048]⟩
abbrev S2048x512 : Shape := ⟨2, ![2048, 512]⟩
abbrev S_ : Shape := ⟨0, ![]⟩
abbrev S2048 : Shape := ⟨1, ![2048]⟩
abbrev S2048x1 : Shape := ⟨2, ![2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x512, .f32⟩
  | .hbm, ⟨2, _⟩ => ⟨S2048x512, .i32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S2048x1, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x1, .f32⟩
  | .hbm, ⟨16, _⟩ => ⟨S2048x512, .f32⟩
  | .hbm, ⟨17, _⟩ => ⟨S2048x512, .f32⟩
  | .hbm, ⟨18, _⟩ => ⟨S2048x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩

abbrev nD : Nat := 1
abbrev τ : Topo := Topo.v7x

variable {F : FTy → Type} [FloatOps F]
-- ==== Proof.KernelIdealRegionA.lean ====
/- The projection region of `KernelIdeal`: what one block leaves, and its body's triple; the launch set-up with a larger budget. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__proj_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x2048 := Rect.unit (s := S256x2048) ![0, 0] S256x2048.size inb_S256x2048_S256x2048_0_0
abbrev r0_1 : Rect S256x32 := Rect.unit (s := S256x32) ![0, 0] S256x32.size inb_S256x32_S256x32_0_0
abbrev r0_2 : Rect S256x512 := Rect.unit (s := S256x512) ![0, 0] S256x512.size inb_S256x512_S256x512_0_0
abbrev r0_3 : Rect S2048x512 := Rect.unit (s := S2048x512) ![0, 0] S2048x512.size inb_S2048x512_S2048x512_0_0
abbrev r0_4 : Rect S1x512 := Rect.unit (s := S1x512) ![0, 0] S1x512.size inb_S1x512_S1x512_0_0
abbrev r0_5 : Rect S2048x320 := Rect.unit (s := S2048x320) ![0, 0] S2048x320.size inb_S2048x320_S2048x320_0_0
abbrev r0_6 : Rect S1x256 := Rect.unit (s := S1x256) ![0, 0] S1x256.size inb_S1x256_S1x256_0_0
abbrev r0_7 : Rect S256x64 := Rect.unit (s := S256x64) ![0, 0] S256x64.size inb_S256x64_S256x64_0_0
abbrev r0_8 : Rect S2048x128 := Rect.unit (s := S2048x128) ![0, 0] S2048x128.size inb_S2048x128_S2048x128_0_0
abbrev r0_9 : Rect S1x128 := Rect.unit (s := S1x128) ![0, 0] S1x128.size inb_S1x128_S1x128_0_0
abbrev r0_10 : Rect S256x128 := Rect.unit (s := S256x128) ![0, 0] S256x128.size inb_S256x128_S256x128_0_0
abbrev r0_11 : Rect S2048x16 := Rect.unit (s := S2048x16) ![0, 0] S2048x16.size inb_S2048x16_S2048x16_0_0
abbrev r0_12 : Rect S256x16 := Rect.unit (s := S256x16) ![0, 0] S256x16.size inb_S256x16_S256x16_0_0
abbrev r0_13 : Rect S512x3072 := Rect.unit (s := S512x3072) ![0, 0] S512x3072.size inb_S512x3072_S512x3072_0_0
abbrev r0_14 : Rect S512x2048 := Rect.unit (s := S512x2048) ![0, 0] S512x2048.size inb_S512x2048_S512x2048_0_0
abbrev r0_15 : Rect S256x1024 := Rect.unit (s := S256x1024) ![0, 0] S256x1024.size inb_S256x1024_S256x1024_0_0

/-! ## What the body leaves in each output window's buffer -/

/-! ### Values of the body that the stores' payloads, spelt out, would write more than once

    Each is a vector the body binds (often a part call's result), stated over the input windows' blocks and
    numbered on from the skeleton's payload functions (`k0_pay30` …, after `k0_pay29`), so that
    `out0_W` and the values after it name it instead of spelling it out (unfolding `out0_W` opens a canon
    with them, `unfold_payloads` opens them with the payloads); the comment after each is the printed function's
    name for the value (a count appended where that name is bound again). -/

def k0_pay30 (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) : FVec F S256x2048 .f32 :=
  k0_pay9 (View.ld x0 r0_0) -- `v1`
def k0_pay31 (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) : FVec F S256x32 .f32 :=
  k0_pay10 (View.ld x1 r0_1) -- `v3`
def k0_pay32 (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) : FVec F S256x32 .f32 :=
  k0_pay11 (View.ld x2 r0_1) -- `v5`
def k0_pay33 (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) : FVec F S256x512 .f32 :=
  k0_pay12 (View.ld x3 r0_2) -- `v7`
def k0_pay34 (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) : FVec F S256x512 .f32 :=
  k0_pay13 (View.ld x4 r0_2) -- `v9`
def k0_pay35 (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) : FVec F S256x512 .f32 :=
  k0_pay14 (View.ld x0 r0_0) (View.ld x5 r0_3) (View.ld x6 r0_4) -- `v26`
def k0_pay36 (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) : FVec F S256x256 .f32 :=
  k0_pay19 (k0_pay16 (View.ld x0 r0_0) (View.ld x8 r0_5)) (k0_pay17 (View.ld x9 r0_6)) (k0_pay18 (View.ld x0 r0_0) (View.ld x8 r0_5)) -- `v44`

/-- Window 17's staging buffer after the body, from the input windows' blocks: its 1 store as pieces, LAST
    FIRST (Lib/Pipeline/FrameBody.lean `View.canon`; the payloads are the skeleton's and the values stated above). -/
def out0_17 (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) : Vec F S256x2048 .f32 :=
  View.canon [⟨r0_0, k0_pay25 (k0_pay35 x0 x1 x2 x3 x4 x5 x6 x7 x8 x9 x10 x11 x12 x13 x14 x15 x16) (View.ld x7 r0_13)⟩]

/-- Its stores tile the buffer (checked by evaluation), so they cover it. -/
theorem cover0_17 (p0 : Vec F S256x2048 .f32) (y : S256x2048.Idx) :
    ∃ pc ∈ ([⟨r0_0, p0⟩] : List (View.Piece (Elt F) S256x2048 .f32)), y ∈ pc.1.set :=
  View.cover_of_tiled [⟨r0_0, p0⟩] S256x2048.size (by rfl) y

/-- Window 18's staging buffer after the body, from the input windows' blocks: its 1 store as pieces, LAST
    FIRST (Lib/Pipeline/FrameBody.lean `View.canon`; the payloads are the skeleton's and the values stated above). -/
def out0_18 (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) : Vec F S256x512 .f32 :=
  View.canon [⟨r0_2, k0_pay28 (k0_pay33 x0 x1 x2 x3 x4 x5 x6 x7 x8 x9 x10 x11 x12 x13 x14 x15 x16) (k0_pay34 x0 x1 x2 x3 x4 x5 x6 x7 x8 x9 x10 x11 x12 x13 x14 x15 x16) (k0_pay35 x0 x1 x2 x3 x4 x5 x6 x7 x8 x9 x10 x11 x12 x13 x14 x15 x16) (View.ld x7 r0_13)⟩]

/-- Its stores tile the buffer (checked by evaluation), so they cover it. -/
theorem cover0_18 (p0 : Vec F S256x512 .f32) (y : S256x512.Idx) :
    ∃ pc ∈ ([⟨r0_2, p0⟩] : List (View.Piece (Elt F) S256x512 .f32)), y ∈ pc.1.set :=
  View.cover_of_tiled [⟨r0_2, p0⟩] S256x512.size (by rfl) y

/-- Window 19's staging buffer after the body, from the input windows' blocks: its 1 store as pieces, LAST
    FIRST (Lib/Pipeline/FrameBody.lean `View.canon`; the payloads are the skeleton's and the values stated above). -/
def out0_19 (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) : Vec F S256x512 .f32 :=
  View.canon [⟨r0_2, k0_pay29 (k0_pay33 x0 x1 x2 x3 x4 x5 x6 x7 x8 x9 x10 x11 x12 x13 x14 x15 x16) (k0_pay34 x0 x1 x2 x3 x4 x5 x6 x7 x8 x9 x10 x11 x12 x13 x14 x15 x16) (k0_pay35 x0 x1 x2 x3 x4 x5 x6 x7 x8 x9 x10 x11 x12 x13 x14 x15 x16) (View.ld x7 r0_13)⟩]

/-- Its stores tile the buffer (checked by evaluation), so they cover it. -/
theorem cover0_19 (p0 : Vec F S256x512 .f32) (y : S256x512.Idx) :
    ∃ pc ∈ ([⟨r0_2, p0⟩] : List (View.Piece (Elt F) S256x512 .f32)), y ∈ pc.1.set :=
  View.cover_of_tiled [⟨r0_2, p0⟩] S256x512.size (by rfl) y

/-- Window 20's staging buffer after the body, from the input windows' blocks: its 1 store as pieces, LAST
    FIRST (Lib/Pipeline/FrameBody.lean `View.canon`; the payloads are the skeleton's and the values stated above). -/
def out0_20 (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) : Vec F S256x512 .f32 :=
  View.canon [⟨r0_2, k0_pay4 (k0_pay33 x0 x1 x2 x3 x4 x5 x6 x7 x8 x9 x10 x11 x12 x13 x14 x15 x16) (k0_pay34 x0 x1 x2 x3 x4 x5 x6 x7 x8 x9 x10 x11 x12 x13 x14 x15 x16) (k0_pay35 x0 x1 x2 x3 x4 x5 x6 x7 x8 x9 x10 x11 x12 x13 x14 x15 x16) (View.ld x12 r0_14)⟩]

/-- Its stores tile the buffer (checked by evaluation), so they cover it. -/
theorem cover0_20 (p0 : Vec F S256x512 .f32) (y : S256x512.Idx) :
    ∃ pc ∈ ([⟨r0_2, p0⟩] : List (View.Piece (Elt F) S256x512 .f32)), y ∈ pc.1.set :=
  View.cover_of_tiled [⟨r0_2, p0⟩] S256x512.size (by rfl) y

/-- Window 21's staging buffer after the body, from the input windows' blocks: its 1 store as pieces, LAST
    FIRST (Lib/Pipeline/FrameBody.lean `View.canon`; the payloads are the skeleton's and the values stated above). -/
def out0_21 (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) : Vec F S256x512 .f32 :=
  View.canon [⟨r0_2, k0_pay5 (k0_pay33 x0 x1 x2 x3 x4 x5 x6 x7 x8 x9 x10 x11 x12 x13 x14 x15 x16) (k0_pay34 x0 x1 x2 x3 x4 x5 x6 x7 x8 x9 x10 x11 x12 x13 x14 x15 x16) (k0_pay35 x0 x1 x2 x3 x4 x5 x6 x7 x8 x9 x10 x11 x12 x13 x14 x15 x16) (View.ld x12 r0_14)⟩]

/-- Its stores tile the buffer (checked by evaluation), so they cover it. -/
theorem cover0_21 (p0 : Vec F S256x512 .f32) (y : S256x512.Idx) :
    ∃ pc ∈ ([⟨r0_2, p0⟩] : List (View.Piece (Elt F) S256x512 .f32)), y ∈ pc.1.set :=
  View.cover_of_tiled [⟨r0_2, p0⟩] S256x512.size (by rfl) y

/-- Window 22's staging buffer after the body, from the input windows' blocks: its 1 store as pieces, LAST
    FIRST (Lib/Pipeline/FrameBody.lean `View.canon`; the payloads are the skeleton's and the values stated above). -/
def out0_22 (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) : Vec F S256x1024 .f32 :=
  View.canon [⟨r0_15, k0_pay6 (k0_pay35 x0 x1 x2 x3 x4 x5 x6 x7 x8 x9 x10 x11 x12 x13 x14 x15 x16) (View.ld x12 r0_14)⟩]

/-- Its stores tile the buffer (checked by evaluation), so they cover it. -/
theorem cover0_22 (p0 : Vec F S256x1024 .f32) (y : S256x1024.Idx) :
    ∃ pc ∈ ([⟨r0_15, p0⟩] : List (View.Piece (Elt F) S256x1024 .f32)), y ∈ pc.1.set :=
  View.cover_of_tiled [⟨r0_15, p0⟩] S256x1024.size (by rfl) y

/-- Window 23's staging buffer after the body, from the input windows' blocks: its 1 store as pieces, LAST
    FIRST (Lib/Pipeline/FrameBody.lean `View.canon`; the payloads are the skeleton's and the values stated above). -/
def out0_23 (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) : Vec F S256x2048 .f32 :=
  View.canon [⟨r0_0, k0_pay7 (k0_pay36 x0 x1 x2 x3 x4 x5 x6 x7 x8 x9 x10 x11 x12 x13 x14 x15 x16) (View.ld x10 r0_0)⟩]

/-- Its stores tile the buffer (checked by evaluation), so they cover it. -/
theorem cover0_23 (p0 : Vec F S256x2048 .f32) (y : S256x2048.Idx) :
    ∃ pc ∈ ([⟨r0_0, p0⟩] : List (View.Piece (Elt F) S256x2048 .f32)), y ∈ pc.1.set :=
  View.cover_of_tiled [⟨r0_0, p0⟩] S256x2048.size (by rfl) y

/-- Window 24's staging buffer after the body, from the input windows' blocks: its 1 store as pieces, LAST
    FIRST (Lib/Pipeline/FrameBody.lean `View.canon`; the payloads are the skeleton's and the values stated above). -/
def out0_24 (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) : Vec F S256x2048 .f32 :=
  View.canon [⟨r0_0, k0_pay8 (k0_pay36 x0 x1 x2 x3 x4 x5 x6 x7 x8 x9 x10 x11 x12 x13 x14 x15 x16) (View.ld x11 r0_0)⟩]

/-- Its stores tile the buffer (checked by evaluation), so they cover it. -/
theorem cover0_24 (p0 : Vec F S256x2048 .f32) (y : S256x2048.Idx) :
    ∃ pc ∈ ([⟨r0_0, p0⟩] : List (View.Piece (Elt F) S256x2048 .f32)), y ∈ pc.1.set :=
  View.cover_of_tiled [⟨r0_0, p0⟩] S256x2048.size (by rfl) y

/-- Window 25's staging buffer after the body, from the input windows' blocks: its 1 store as pieces, LAST
    FIRST (Lib/Pipeline/FrameBody.lean `View.canon`; the payloads are the skeleton's and the values stated above). -/
def out0_25 (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) : Vec F S256x64 .f32 :=
  View.canon [⟨r0_7, k0_pay20 (k0_pay31 x0 x1 x2 x3 x4 x5 x6 x7 x8 x9 x10 x11 x12 x13 x14 x15 x16) (k0_pay32 x0 x1 x2 x3 x4 x5 x6 x7 x8 x9 x10 x11 x12 x13 x14 x15 x16) (k0_pay15 (View.ld x0 r0_0) (View.ld x8 r0_5))⟩]

/-- Its stores tile the buffer (checked by evaluation), so they cover it. -/
theorem cover0_25 (p0 : Vec F S256x64 .f32) (y : S256x64.Idx) :
    ∃ pc ∈ ([⟨r0_7, p0⟩] : List (View.Piece (Elt F) S256x64 .f32)), y ∈ pc.1.set :=
  View.cover_of_tiled [⟨r0_7, p0⟩] S256x64.size (by rfl) y

/-- Window 26's staging buffer after the body, from the input windows' blocks: its 1 store as pieces, LAST
    FIRST (Lib/Pipeline/FrameBody.lean `View.canon`; the payloads are the skeleton's and the values stated above). -/
def out0_26 (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) : Vec F S256x128 .f32 :=
  View.canon [⟨r0_10, k0_pay22 (k0_pay31 x0 x1 x2 x3 x4 x5 x6 x7 x8 x9 x10 x11 x12 x13 x14 x15 x16) (k0_pay32 x0 x1 x2 x3 x4 x5 x6 x7 x8 x9 x10 x11 x12 x13 x14 x15 x16) (k0_pay21 (k0_pay30 x0 x1 x2 x3 x4 x5 x6 x7 x8 x9 x10 x11 x12 x13 x14 x15 x16) (View.ld x13 r0_8) (View.ld x14 r0_9)) (View.ld x15 r0_9)⟩]

/-- Its stores tile the buffer (checked by evaluation), so they cover it. -/
theorem cover0_26 (p0 : Vec F S256x128 .f32) (y : S256x128.Idx) :
    ∃ pc ∈ ([⟨r0_10, p0⟩] : List (View.Piece (Elt F) S256x128 .f32)), y ∈ pc.1.set :=
  View.cover_of_tiled [⟨r0_10, p0⟩] S256x128.size (by rfl) y

/-- Window 27's staging buffer after the body, from the input windows' blocks: its 1 store as pieces, LAST
    FIRST (Lib/Pipeline/FrameBody.lean `View.canon`; the payloads are the skeleton's and the values stated above). -/
def out0_27 (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) : Vec F S256x16 .f32 :=
  View.canon [⟨r0_12, k0_pay23 (k0_pay30 x0 x1 x2 x3 x4 x5 x6 x7 x8 x9 x10 x11 x12 x13 x14 x15 x16) (View.ld x16 r0_11)⟩]

/-- Its stores tile the buffer (checked by evaluation), so they cover it. -/
theorem cover0_27 (p0 : Vec F S256x16 .f32) (y : S256x16.Idx) :
    ∃ pc ∈ ([⟨r0_12, p0⟩] : List (View.Piece (Elt F) S256x16 .f32)), y ∈ pc.1.set :=
  View.cover_of_tiled [⟨r0_12, p0⟩] S256x16.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x2048 .f32) (harg1 : arg1.IsWhole) (arg2 : Memref sig .tc .vmem S256x32 .f32) (harg2 : arg2.IsWhole) (arg3 : Memref sig .tc .vmem S256x32 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2048x512 .f32) (harg6 : arg6.IsWhole) (arg7 : Memref sig .tc .vmem S1x512 .f32) (harg7 : arg7.IsWhole) (arg8 : Memref sig .tc .vmem S512x3072 .f32) (harg8 : arg8.IsWhole) (arg9 : Memref sig .tc .vmem S2048x320 .f32) (harg9 : arg9.IsWhole) (arg10 : Memref sig .tc .vmem S1x256 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S512x2048 .f32) (harg13 : arg13.IsWhole) (arg14 : Memref sig .tc .vmem S2048x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S2048x16 .f32) (harg17 : arg17.IsWhole) (arg18 : Memref sig .tc .vmem S256x2048 .f32) (harg18 : arg18.IsWhole) (arg19 : Memref sig .tc .vmem S256x512 .f32) (harg19 : arg19.IsWhole) (arg20 : Memref sig .tc .vmem S256x512 .f32) (harg20 : arg20.IsWhole) (arg21 : Memref sig .tc .vmem S256x512 .f32) (harg21 : arg21.IsWhole) (arg22 : Memref sig .tc .vmem S256x512 .f32) (harg22 : arg22.IsWhole) (arg23 : Memref sig .tc .vmem S256x1024 .f32) (harg23 : arg23.IsWhole) (arg24 : Memref sig .tc .vmem S256x2048 .f32) (harg24 : arg24.IsWhole) (arg25 : Memref sig .tc .vmem S256x2048 .f32) (harg25 : arg25.IsWhole) (arg26 : Memref sig .tc .vmem S256x64 .f32) (harg26 : arg26.IsWhole) (arg27 : Memref sig .tc .vmem S256x128 .f32) (harg27 : arg27.IsWhole) (arg28 : Memref sig .tc .vmem S256x16 .f32) (harg28 : arg28.IsWhole)
    (x0 : Vec F S256x2048 .f32) (x1 : Vec F S256x32 .f32) (x2 : Vec F S256x32 .f32) (x3 : Vec F S256x512 .f32) (x4 : Vec F S256x512 .f32) (x5 : Vec F S2048x512 .f32) (x6 : Vec F S1x512 .f32) (x7 : Vec F S512x3072 .f32) (x8 : Vec F S2048x320 .f32) (x9 : Vec F S1x256 .f32) (x10 : Vec F S256x2048 .f32) (x11 : Vec F S256x2048 .f32) (x12 : Vec F S512x2048 .f32) (x13 : Vec F S2048x128 .f32) (x14 : Vec F S1x128 .f32) (x15 : Vec F S1x128 .f32) (x16 : Vec F S2048x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16) ∗ owns (c : Thread nD τ) arg19 fullShare (out0_18 x0 x1 x2 x3 x4 x5 x6 x7 x8 x9 x10 x11 x12 x13 x14 x15 x16) ∗ owns (c : Thread nD τ) arg20 fullShare (out0_19 x0 x1 x2 x3 x4 x5 x6 x7 x8 x9 x10 x11 x12 x13 x14 x15 x16) ∗ owns (c : Thread nD τ) arg21 fullShare (out0_20 x0 x1 x2 x3 x4 x5 x6 x7 x8 x9 x10 x11 x12 x13 x14 x15 x16) ∗ owns (c : Thread nD τ) arg22 fullShare (out0_21 x0 x1 x2 x3 x4 x5 x6 x7 x8 x9 x10 x11 x12 x13 x14 x15 x16) ∗ owns (c : Thread nD τ) arg23 fullShare (out0_22 x0 x1 x2 x3 x4 x5 x6 x7 x8 x9 x10 x11 x12 x13 x14 x15 x16) ∗ owns (c : Thread nD τ) arg24 fullShare (out0_23 x0 x1 x2 x3 x4 x5 x6 x7 x8 x9 x10 x11 x12 x13 x14 x15 x16) ∗ owns (c : Thread nD τ) arg25 fullShare (out0_24 x0 x1 x2 x3 x4 x5 x6 x7 x8 x9 x10 x11 x12 x13 x14 x15 x16) ∗ owns (c : Thread nD τ) arg26 fullShare (out0_25 x0 x1 x2 x3 x4 x5 x6 x7 x8 x9 x10 x11 x12 x13 x14 x15 x16) ∗ owns (c : Thread nD τ) arg27 fullShare (out0_26 x0 x1 x2 x3 x4 x5 x6 x7 x8 x9 x10 x11 x12 x13 x14 x15 x16) ∗ owns (c : Thread nD τ) arg28 fullShare (out0_27 x0 x1 x2 x3 x4 x5 x6 x7 x8 x9 x10 x11 x12 x13 x14 x15 x16)) -∗ K ⟨⟩))
      ⊢ wp frame (wpE (defs₀ (F := F)) Variants.none c none) E (cc0__proj_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0__proj_body_eq_skeleton]; unfold cc0__proj_body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  iexists _; isplitr
  swap; · iexact H27
  ipureintro
  refine (View.read_writes_eq_canon _ _ _ (cover0_27 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)
    | ⟨18, _⟩ => out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)
    | ⟨19, _⟩ => out0_19 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)
    | ⟨20, _⟩ => out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)
    | ⟨21, _⟩ => out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)
    | ⟨22, _⟩ => out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)
    | ⟨23, _⟩ => out0_23 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)
    | ⟨24, _⟩ => out0_24 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)
    | ⟨25, _⟩ => out0_25 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)
    | ⟨26, _⟩ => out0_26 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)
    | ⟨27, _⟩ => out0_27 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)
    | ⟨_ + 28, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) := by dsimp only [dat0]
theorem after0_18 (c : Dev nD) (t : Fin cfg0.N) : (dat0 V c).after 18 t = out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) := by dsimp only [dat0]
theorem after0_19 (c : Dev nD) (t : Fin cfg0.N) : (dat0 V c).after 19 t = out0_19 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) := by dsimp only [dat0]
theorem after0_20 (c : Dev nD) (t : Fin cfg0.N) : (dat0 V c).after 20 t = out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) := by dsimp only [dat0]
theorem after0_21 (c : Dev nD) (t : Fin cfg0.N) : (dat0 V c).after 21 t = out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) := by dsimp only [dat0]
theorem after0_22 (c : Dev nD) (t : Fin cfg0.N) : (dat0 V c).after 22 t = out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) := by dsimp only [dat0]
theorem after0_23 (c : Dev nD) (t : Fin cfg0.N) : (dat0 V c).after 23 t = out0_23 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) := by dsimp only [dat0]
theorem after0_24 (c : Dev nD) (t : Fin cfg0.N) : (dat0 V c).after 24 t = out0_24 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) := by dsimp only [dat0]
theorem after0_25 (c : Dev nD) (t : Fin cfg0.N) : (dat0 V c).after 25 t = out0_25 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) := by dsimp only [dat0]
theorem after0_26 (c : Dev nD) (t : Fin cfg0.N) : (dat0 V c).after 26 t = out0_26 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) := by dsimp only [dat0]
theorem after0_27 (c : Dev nD) (t : Fin cfg0.N) : (dat0 V c).after 27 t = out0_27 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d))
    ∗ (∃ d, owns (c : Thread nD τ) (st0_25 t) fullShare ((dat0 V c).before 25 t d))
    ∗ (∃ d, owns (c : Thread nD τ) (st0_26 t) fullShare ((dat0 V c).before 26 t d))
    ∗ (∃ d, owns (c : Thread nD τ) (st0_27 t) fullShare ((dat0 V c).before 27 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t)
    ∗ owns (c : Thread nD τ) (st0_25 t) fullShare ((dat0 V c).after 25 t)
    ∗ owns (c : Thread nD τ) (st0_26 t) fullShare ((dat0 V c).after 26 t)
    ∗ owns (c : Thread nD τ) (st0_27 t) fullShare ((dat0 V c).after 27 t))

set_option maxHeartbeats 3200000 in
/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel0 c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

set_option maxHeartbeats 3200000 in
/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.KernelIdealRegionsB.lean ====
/- The logits, attention and output regions of `KernelIdeal`: what one block leaves, and each body's triple; launch set-up. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))
/-! # REGION 1 of @main: custom_call 1, `cc1__logits_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S2048x128 := Rect.unit (s := S2048x128) ![0, 0] S2048x128.size inb_S2048x128_S2048x128_0_0
abbrev r1_1 : Rect S256x16 := Rect.unit (s := S256x16) ![0, 0] S256x16.size inb_S256x16_S256x16_0_0
abbrev r1_2 : Rect S256x2048 := Rect.unit (s := S256x2048) ![0, 0] S256x2048.size inb_S256x2048_S256x2048_0_0
abbrev r1_3 : Rect S256x512 := Rect.unit (s := S256x512) ![0, 0] S256x32.size inb_S256x512_S256x32_0_0
abbrev r1_4 : Rect S256x1024 := Rect.unit (s := S256x1024) ![0, 0] S256x64.size inb_S256x1024_S256x64_0_0
abbrev r1_5 : Rect S256x512 := Rect.unit (s := S256x512) ![0, 32] S256x32.size inb_S256x512_S256x32_0_32
abbrev r1_6 : Rect S256x1024 := Rect.unit (s := S256x1024) ![0, 64] S256x64.size inb_S256x1024_S256x64_0_64
abbrev r1_7 : Rect S256x512 := Rect.unit (s := S256x512) ![0, 64] S256x32.size inb_S256x512_S256x32_0_64
abbrev r1_8 : Rect S256x1024 := Rect.unit (s := S256x1024) ![0, 128] S256x64.size inb_S256x1024_S256x64_0_128
abbrev r1_9 : Rect S256x512 := Rect.unit (s := S256x512) ![0, 96] S256x32.size inb_S256x512_S256x32_0_96
abbrev r1_10 : Rect S256x1024 := Rect.unit (s := S256x1024) ![0, 192] S256x64.size inb_S256x1024_S256x64_0_192
abbrev r1_11 : Rect S256x512 := Rect.unit (s := S256x512) ![0, 128] S256x32.size inb_S256x512_S256x32_0_128
abbrev r1_12 : Rect S256x1024 := Rect.unit (s := S256x1024) ![0, 256] S256x64.size inb_S256x1024_S256x64_0_256
abbrev r1_13 : Rect S256x512 := Rect.unit (s := S256x512) ![0, 160] S256x32.size inb_S256x512_S256x32_0_160
abbrev r1_14 : Rect S256x1024 := Rect.unit (s := S256x1024) ![0, 320] S256x64.size inb_S256x1024_S256x64_0_320
abbrev r1_15 : Rect S256x512 := Rect.unit (s := S256x512) ![0, 192] S256x32.size inb_S256x512_S256x32_0_192
abbrev r1_16 : Rect S256x1024 := Rect.unit (s := S256x1024) ![0, 384] S256x64.size inb_S256x1024_S256x64_0_384
abbrev r1_17 : Rect S256x512 := Rect.unit (s := S256x512) ![0, 224] S256x32.size inb_S256x512_S256x32_0_224
abbrev r1_18 : Rect S256x1024 := Rect.unit (s := S256x1024) ![0, 448] S256x64.size inb_S256x1024_S256x64_0_448
abbrev r1_19 : Rect S256x512 := Rect.unit (s := S256x512) ![0, 256] S256x32.size inb_S256x512_S256x32_0_256
abbrev r1_20 : Rect S256x1024 := Rect.unit (s := S256x1024) ![0, 512] S256x64.size inb_S256x1024_S256x64_0_512
abbrev r1_21 : Rect S256x512 := Rect.unit (s := S256x512) ![0, 288] S256x32.size inb_S256x512_S256x32_0_288
abbrev r1_22 : Rect S256x1024 := Rect.unit (s := S256x1024) ![0, 576] S256x64.size inb_S256x1024_S256x64_0_576
abbrev r1_23 : Rect S256x512 := Rect.unit (s := S256x512) ![0, 320] S256x32.size inb_S256x512_S256x32_0_320
abbrev r1_24 : Rect S256x1024 := Rect.unit (s := S256x1024) ![0, 640] S256x64.size inb_S256x1024_S256x64_0_640
abbrev r1_25 : Rect S256x512 := Rect.unit (s := S256x512) ![0, 352] S256x32.size inb_S256x512_S256x32_0_352
abbrev r1_26 : Rect S256x1024 := Rect.unit (s := S256x1024) ![0, 704] S256x64.size inb_S256x1024_S256x64_0_704
abbrev r1_27 : Rect S256x512 := Rect.unit (s := S256x512) ![0, 384] S256x32.size inb_S256x512_S256x32_0_384
abbrev r1_28 : Rect S256x1024 := Rect.unit (s := S256x1024) ![0, 768] S256x64.size inb_S256x1024_S256x64_0_768
abbrev r1_29 : Rect S256x512 := Rect.unit (s := S256x512) ![0, 416] S256x32.size inb_S256x512_S256x32_0_416
abbrev r1_30 : Rect S256x1024 := Rect.unit (s := S256x1024) ![0, 832] S256x64.size inb_S256x1024_S256x64_0_832
abbrev r1_31 : Rect S256x512 := Rect.unit (s := S256x512) ![0, 448] S256x32.size inb_S256x512_S256x32_0_448
abbrev r1_32 : Rect S256x1024 := Rect.unit (s := S256x1024) ![0, 896] S256x64.size inb_S256x1024_S256x64_0_896
abbrev r1_33 : Rect S256x512 := Rect.unit (s := S256x512) ![0, 480] S256x32.size inb_S256x512_S256x32_0_480
abbrev r1_34 : Rect S256x1024 := Rect.unit (s := S256x1024) ![0, 960] S256x64.size inb_S256x1024_S256x64_0_960

/-! ## What the body leaves in each output window's buffer -/

/-! ### Values of the body that the stores' payloads, spelt out, would write more than once

    Each is a vector the body binds (often a part call's result), stated over the input windows' blocks and
    numbered on from the skeleton's payload functions (`k1_pay23` …, after `k1_pay22`), so that
    `out1_W` and the values after it name it instead of spelling it out (unfolding `out1_W` opens a canon
    with them, `unfold_payloads` opens them with the payloads); the comment after each is the printed function's
    name for the value (a count appended where that name is bound again). -/

def k1_pay23 (x0 : Vec F S256x512 .f32) (x1 : Vec F S256x512 .f32) (x2 : Vec F S256x1024 .f32) (x3 : Vec F S2048x128 .f32) (x4 : Vec F S256x16 .f32) (x5 : Vec F S256x2048 .f32) : FVec F S2048x32 .f32 :=
  k1_pay3 (View.ld x3 r1_0) -- `v2`
def k1_pay24 (x0 : Vec F S256x512 .f32) (x1 : Vec F S256x512 .f32) (x2 : Vec F S256x1024 .f32) (x3 : Vec F S2048x128 .f32) (x4 : Vec F S256x16 .f32) (x5 : Vec F S256x2048 .f32) : FVec F S2048x32 .f32 :=
  k1_pay4 (View.ld x3 r1_0) -- `v3`
def k1_pay25 (x0 : Vec F S256x512 .f32) (x1 : Vec F S256x512 .f32) (x2 : Vec F S256x1024 .f32) (x3 : Vec F S2048x128 .f32) (x4 : Vec F S256x16 .f32) (x5 : Vec F S256x2048 .f32) : FVec F S2048x64 .f32 :=
  k1_pay5 (View.ld x3 r1_0) -- `v4`
def k1_pay26 (x0 : Vec F S256x512 .f32) (x1 : Vec F S256x512 .f32) (x2 : Vec F S256x1024 .f32) (x3 : Vec F S2048x128 .f32) (x4 : Vec F S256x16 .f32) (x5 : Vec F S256x2048 .f32) : FVec F S256x16 .f32 :=
  k1_pay6 (View.ld x4 r1_1) -- `v6`

/-- Window 6's staging buffer after the body, from the input windows' blocks: its 1 store as pieces, LAST
    FIRST (Lib/Pipeline/FrameBody.lean `View.canon`; the payloads are the skeleton's and the values stated above). -/
def out1_6 (x0 : Vec F S256x512 .f32) (x1 : Vec F S256x512 .f32) (x2 : Vec F S256x1024 .f32) (x3 : Vec F S2048x128 .f32) (x4 : Vec F S256x16 .f32) (x5 : Vec F S256x2048 .f32) : Vec F S256x2048 .f32 :=
  View.canon [⟨r1_2, k1_pay1 (k1_pay25 x0 x1 x2 x3 x4 x5) (k1_pay26 x0 x1 x2 x3 x4 x5) (k1_pay21 (k1_pay23 x0 x1 x2 x3 x4 x5) (k1_pay24 x0 x1 x2 x3 x4 x5) (k1_pay25 x0 x1 x2 x3 x4 x5) (k1_pay26 x0 x1 x2 x3 x4 x5) (k1_pay19 (k1_pay23 x0 x1 x2 x3 x4 x5) (k1_pay24 x0 x1 x2 x3 x4 x5) (k1_pay25 x0 x1 x2 x3 x4 x5) (k1_pay26 x0 x1 x2 x3 x4 x5) (k1_pay17 (k1_pay23 x0 x1 x2 x3 x4 x5) (k1_pay24 x0 x1 x2 x3 x4 x5) (k1_pay25 x0 x1 x2 x3 x4 x5) (k1_pay26 x0 x1 x2 x3 x4 x5) (k1_pay15 (k1_pay23 x0 x1 x2 x3 x4 x5) (k1_pay24 x0 x1 x2 x3 x4 x5) (k1_pay25 x0 x1 x2 x3 x4 x5) (k1_pay26 x0 x1 x2 x3 x4 x5) (k1_pay13 (k1_pay23 x0 x1 x2 x3 x4 x5) (k1_pay24 x0 x1 x2 x3 x4 x5) (k1_pay25 x0 x1 x2 x3 x4 x5) (k1_pay26 x0 x1 x2 x3 x4 x5) (k1_pay11 (k1_pay23 x0 x1 x2 x3 x4 x5) (k1_pay24 x0 x1 x2 x3 x4 x5) (k1_pay25 x0 x1 x2 x3 x4 x5) (k1_pay26 x0 x1 x2 x3 x4 x5) (k1_pay9 (k1_pay23 x0 x1 x2 x3 x4 x5) (k1_pay24 x0 x1 x2 x3 x4 x5) (k1_pay25 x0 x1 x2 x3 x4 x5) (k1_pay26 x0 x1 x2 x3 x4 x5) (k1_pay7 (View.ld x3 r1_0) (View.ld x4 r1_1) (View.ld x5 r1_2) (View.ld x0 r1_3) (View.ld x1 r1_3) (View.ld x2 r1_4)) (k1_pay8 (View.ld x3 r1_0) (View.ld x0 r1_5) (View.ld x1 r1_5)) (View.ld x2 r1_6) (View.ld x0 r1_7) (View.ld x1 r1_7) (View.ld x2 r1_8)) (k1_pay10 (k1_pay23 x0 x1 x2 x3 x4 x5) (k1_pay24 x0 x1 x2 x3 x4 x5) (View.ld x0 r1_9) (View.ld x1 r1_9)) (View.ld x2 r1_10) (View.ld x0 r1_11) (View.ld x1 r1_11) (View.ld x2 r1_12)) (k1_pay12 (k1_pay23 x0 x1 x2 x3 x4 x5) (k1_pay24 x0 x1 x2 x3 x4 x5) (View.ld x0 r1_13) (View.ld x1 r1_13)) (View.ld x2 r1_14) (View.ld x0 r1_15) (View.ld x1 r1_15) (View.ld x2 r1_16)) (k1_pay14 (k1_pay23 x0 x1 x2 x3 x4 x5) (k1_pay24 x0 x1 x2 x3 x4 x5) (View.ld x0 r1_17) (View.ld x1 r1_17)) (View.ld x2 r1_18) (View.ld x0 r1_19) (View.ld x1 r1_19) (View.ld x2 r1_20)) (k1_pay16 (k1_pay23 x0 x1 x2 x3 x4 x5) (k1_pay24 x0 x1 x2 x3 x4 x5) (View.ld x0 r1_21) (View.ld x1 r1_21)) (View.ld x2 r1_22) (View.ld x0 r1_23) (View.ld x1 r1_23) (View.ld x2 r1_24)) (k1_pay18 (k1_pay23 x0 x1 x2 x3 x4 x5) (k1_pay24 x0 x1 x2 x3 x4 x5) (View.ld x0 r1_25) (View.ld x1 r1_25)) (View.ld x2 r1_26) (View.ld x0 r1_27) (View.ld x1 r1_27) (View.ld x2 r1_28)) (k1_pay20 (k1_pay23 x0 x1 x2 x3 x4 x5) (k1_pay24 x0 x1 x2 x3 x4 x5) (View.ld x0 r1_29) (View.ld x1 r1_29)) (View.ld x2 r1_30) (View.ld x0 r1_31) (View.ld x1 r1_31) (View.ld x2 r1_32)) (k1_pay22 (k1_pay23 x0 x1 x2 x3 x4 x5) (k1_pay24 x0 x1 x2 x3 x4 x5) (View.ld x0 r1_33) (View.ld x1 r1_33)) (View.ld x2 r1_34)⟩]

/-- Its stores tile the buffer (checked by evaluation), so they cover it. -/
theorem cover1_6 (p0 : Vec F S256x2048 .f32) (y : S256x2048.Idx) :
    ∃ pc ∈ ([⟨r1_2, p0⟩] : List (View.Piece (Elt F) S256x2048 .f32)), y ∈ pc.1.set :=
  View.cover_of_tiled [⟨r1_2, p0⟩] S256x2048.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S256x512 .f32) (harg1 : arg1.IsWhole) (arg2 : Memref sig .tc .vmem S256x512 .f32) (harg2 : arg2.IsWhole) (arg3 : Memref sig .tc .vmem S256x1024 .f32) (harg3 : arg3.IsWhole) (arg4 : Memref sig .tc .vmem S2048x128 .f32) (harg4 : arg4.IsWhole) (arg5 : Memref sig .tc .vmem S256x16 .f32) (harg5 : arg5.IsWhole) (arg6 : Memref sig .tc .vmem S256x2048 .f32) (harg6 : arg6.IsWhole) (arg7 : Memref sig .tc .vmem S256x2048 .f32) (harg7 : arg7.IsWhole)
    (x0 : Vec F S256x512 .f32) (x1 : Vec F S256x512 .f32) (x2 : Vec F S256x1024 .f32) (x3 : Vec F S2048x128 .f32) (x4 : Vec F S256x16 .f32) (x5 : Vec F S256x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__logits_body i arg1 harg1 arg2 harg2 arg3 harg3 arg4 harg4 arg5 harg5 arg6 harg6 arg7 harg7) K := by
  simp only [cc1__logits_body_eq_skeleton]; unfold cc1__logits_body_skel
  simp only [k1_part1_eq_skeleton, k1_part2_eq_skeleton, k1_part3_eq_skeleton, k1_part4_eq_skeleton, k1_part5_eq_skeleton, k1_part6_eq_skeleton, k1_part7_eq_skeleton, k1_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover1_6 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2__attn_body` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S256x2048 := Rect.unit (s := S256x2048) ![0, 0] S256x2048.size inb_S256x2048_S256x2048_0_0
abbrev r2_1 : Rect S256x1 := Rect.unit (s := S256x1) ![0, 0] S256x1.size inb_S256x1_S256x1_0_0
abbrev r2_2 : Rect S2048x64 := Rect.unit (s := S2048x64) ![0, 0] S2048x64.size inb_S2048x64_S2048x64_0_0
abbrev r2_3 : Rect S256x2048 := Rect.unit (s := S256x2048) ![0, 0] S256x128.size inb_S256x2048_S256x128_0_0
abbrev r2_4 : Rect S2048x2048 := Rect.unit (s := S2048x2048) ![0, 0] S2048x128.size inb_S2048x2048_S2048x128_0_0
abbrev r2_5 : Rect S256x512 := Rect.unit (s := S256x512) ![0, 0] S256x32.size inb_S256x512_S256x32_0_0
abbrev r2_6 : Rect S256x2048 := Rect.unit (s := S256x2048) ![0, 128] S256x128.size inb_S256x2048_S256x128_0_128
abbrev r2_7 : Rect S2048x2048 := Rect.unit (s := S2048x2048) ![0, 128] S2048x128.size inb_S2048x2048_S2048x128_0_128
abbrev r2_8 : Rect S256x512 := Rect.unit (s := S256x512) ![0, 32] S256x32.size inb_S256x512_S256x32_0_32
abbrev r2_9 : Rect S256x2048 := Rect.unit (s := S256x2048) ![0, 256] S256x128.size inb_S256x2048_S256x128_0_256
abbrev r2_10 : Rect S2048x2048 := Rect.unit (s := S2048x2048) ![0, 256] S2048x128.size inb_S2048x2048_S2048x128_0_256
abbrev r2_11 : Rect S256x512 := Rect.unit (s := S256x512) ![0, 64] S256x32.size inb_S256x512_S256x32_0_64
abbrev r2_12 : Rect S256x2048 := Rect.unit (s := S256x2048) ![0, 384] S256x128.size inb_S256x2048_S256x128_0_384
abbrev r2_13 : Rect S2048x2048 := Rect.unit (s := S2048x2048) ![0, 384] S2048x128.size inb_S2048x2048_S2048x128_0_384
abbrev r2_14 : Rect S256x512 := Rect.unit (s := S256x512) ![0, 96] S256x32.size inb_S256x512_S256x32_0_96
abbrev r2_15 : Rect S256x2048 := Rect.unit (s := S256x2048) ![0, 512] S256x128.size inb_S256x2048_S256x128_0_512
abbrev r2_16 : Rect S2048x2048 := Rect.unit (s := S2048x2048) ![0, 512] S2048x128.size inb_S2048x2048_S2048x128_0_512
abbrev r2_17 : Rect S256x512 := Rect.unit (s := S256x512) ![0, 128] S256x32.size inb_S256x512_S256x32_0_128
abbrev r2_18 : Rect S256x2048 := Rect.unit (s := S256x2048) ![0, 640] S256x128.size inb_S256x2048_S256x128_0_640
abbrev r2_19 : Rect S2048x2048 := Rect.unit (s := S2048x2048) ![0, 640] S2048x128.size inb_S2048x2048_S2048x128_0_640
abbrev r2_20 : Rect S256x512 := Rect.unit (s := S256x512) ![0, 160] S256x32.size inb_S256x512_S256x32_0_160
abbrev r2_21 : Rect S256x2048 := Rect.unit (s := S256x2048) ![0, 768] S256x128.size inb_S256x2048_S256x128_0_768
abbrev r2_22 : Rect S2048x2048 := Rect.unit (s := S2048x2048) ![0, 768] S2048x128.size inb_S2048x2048_S2048x128_0_768
abbrev r2_23 : Rect S256x512 := Rect.unit (s := S256x512) ![0, 192] S256x32.size inb_S256x512_S256x32_0_192
abbrev r2_24 : Rect S256x2048 := Rect.unit (s := S256x2048) ![0, 896] S256x128.size inb_S256x2048_S256x128_0_896
abbrev r2_25 : Rect S2048x2048 := Rect.unit (s := S2048x2048) ![0, 896] S2048x128.size inb_S2048x2048_S2048x128_0_896
abbrev r2_26 : Rect S256x512 := Rect.unit (s := S256x512) ![0, 224] S256x32.size inb_S256x512_S256x32_0_224
abbrev r2_27 : Rect S256x2048 := Rect.unit (s := S256x2048) ![0, 1024] S256x128.size inb_S256x2048_S256x128_0_1024
abbrev r2_28 : Rect S2048x2048 := Rect.unit (s := S2048x2048) ![0, 1024] S2048x128.size inb_S2048x2048_S2048x128_0_1024
abbrev r2_29 : Rect S256x512 := Rect.unit (s := S256x512) ![0, 256] S256x32.size inb_S256x512_S256x32_0_256
abbrev r2_30 : Rect S256x2048 := Rect.unit (s := S256x2048) ![0, 1152] S256x128.size inb_S256x2048_S256x128_0_1152
abbrev r2_31 : Rect S2048x2048 := Rect.unit (s := S2048x2048) ![0, 1152] S2048x128.size inb_S2048x2048_S2048x128_0_1152
abbrev r2_32 : Rect S256x512 := Rect.unit (s := S256x512) ![0, 288] S256x32.size inb_S256x512_S256x32_0_288
abbrev r2_33 : Rect S256x2048 := Rect.unit (s := S256x2048) ![0, 1280] S256x128.size inb_S256x2048_S256x128_0_1280
abbrev r2_34 : Rect S2048x2048 := Rect.unit (s := S2048x2048) ![0, 1280] S2048x128.size inb_S2048x2048_S2048x128_0_1280
abbrev r2_35 : Rect S256x512 := Rect.unit (s := S256x512) ![0, 320] S256x32.size inb_S256x512_S256x32_0_320
abbrev r2_36 : Rect S256x2048 := Rect.unit (s := S256x2048) ![0, 1408] S256x128.size inb_S256x2048_S256x128_0_1408
abbrev r2_37 : Rect S2048x2048 := Rect.unit (s := S2048x2048) ![0, 1408] S2048x128.size inb_S2048x2048_S2048x128_0_1408
abbrev r2_38 : Rect S256x512 := Rect.unit (s := S256x512) ![0, 352] S256x32.size inb_S256x512_S256x32_0_352
abbrev r2_39 : Rect S256x2048 := Rect.unit (s := S256x2048) ![0, 1536] S256x128.size inb_S256x2048_S256x128_0_1536
abbrev r2_40 : Rect S2048x2048 := Rect.unit (s := S2048x2048) ![0, 1536] S2048x128.size inb_S2048x2048_S2048x128_0_1536
abbrev r2_41 : Rect S256x512 := Rect.unit (s := S256x512) ![0, 384] S256x32.size inb_S256x512_S256x32_0_384
abbrev r2_42 : Rect S256x2048 := Rect.unit (s := S256x2048) ![0, 1664] S256x128.size inb_S256x2048_S256x128_0_1664
abbrev r2_43 : Rect S2048x2048 := Rect.unit (s := S2048x2048) ![0, 1664] S2048x128.size inb_S2048x2048_S2048x128_0_1664
abbrev r2_44 : Rect S256x512 := Rect.unit (s := S256x512) ![0, 416] S256x32.size inb_S256x512_S256x32_0_416
abbrev r2_45 : Rect S256x2048 := Rect.unit (s := S256x2048) ![0, 1792] S256x128.size inb_S256x2048_S256x128_0_1792
abbrev r2_46 : Rect S2048x2048 := Rect.unit (s := S2048x2048) ![0, 1792] S2048x128.size inb_S2048x2048_S2048x128_0_1792
abbrev r2_47 : Rect S256x512 := Rect.unit (s := S256x512) ![0, 448] S256x32.size inb_S256x512_S256x32_0_448
abbrev r2_48 : Rect S256x2048 := Rect.unit (s := S256x2048) ![0, 1920] S256x128.size inb_S256x2048_S256x128_0_1920
abbrev r2_49 : Rect S2048x2048 := Rect.unit (s := S2048x2048) ![0, 1920] S2048x128.size inb_S2048x2048_S2048x128_0_1920
abbrev r2_50 : Rect S256x512 := Rect.unit (s := S256x512) ![0, 480] S256x32.size inb_S256x512_S256x32_0_480

/-! ## What the body leaves in each output window's buffer -/

/-! ### Values of the body that the stores' payloads, spelt out, would write more than once

    Each is a vector the body binds (often a part call's result), stated over the input windows' blocks and
    numbered on from the skeleton's payload functions (`k2_pay32` …, after `k2_pay31`), so that
    `out2_W` and the values after it name it instead of spelling it out (unfolding `out2_W` opens a canon
    with them, `unfold_payloads` opens them with the payloads); the comment after each is the printed function's
    name for the value (a count appended where that name is bound again). -/

def k2_pay32 (x0 : Vec F S256x2048 .f32) (x1 : Vec F S256x512 .f32) (x2 : Vec F S256x512 .f32) (x3 : Vec F S256x2048 .f32) (x4 : Vec F S256x1 .f32) (x5 : Vec F S256x2048 .f32) (x6 : Vec F S2048x2048 .f32) (x7 : Vec F S2048x64 .f32) (x8 : Vec F S2048x2048 .f32) : FVec F S256x2048 .f32 :=
  k2_pay2 (View.ld x3 r2_0) (View.ld x4 r2_1) (View.ld x5 r2_0) -- `v10`
def k2_pay33 (x0 : Vec F S256x2048 .f32) (x1 : Vec F S256x512 .f32) (x2 : Vec F S256x512 .f32) (x3 : Vec F S256x2048 .f32) (x4 : Vec F S256x1 .f32) (x5 : Vec F S256x2048 .f32) (x6 : Vec F S2048x2048 .f32) (x7 : Vec F S2048x64 .f32) (x8 : Vec F S2048x2048 .f32) : FVec F S2048x32 .f32 :=
  k2_pay4 (View.ld x7 r2_2) -- `v13`
def k2_pay34 (x0 : Vec F S256x2048 .f32) (x1 : Vec F S256x512 .f32) (x2 : Vec F S256x512 .f32) (x3 : Vec F S256x2048 .f32) (x4 : Vec F S256x1 .f32) (x5 : Vec F S256x2048 .f32) (x6 : Vec F S2048x2048 .f32) (x7 : Vec F S2048x64 .f32) (x8 : Vec F S2048x2048 .f32) : FVec F S2048x32 .f32 :=
  k2_pay5 (View.ld x7 r2_2) -- `v14`

/-- Window 9's staging buffer after the body, from the input windows' blocks: its 16 stores as pieces, LAST
    FIRST (Lib/Pipeline/FrameBody.lean `View.canon`; the payloads are the skeleton's and the values stated above). -/
def out2_9 (x0 : Vec F S256x2048 .f32) (x1 : Vec F S256x512 .f32) (x2 : Vec F S256x512 .f32) (x3 : Vec F S256x2048 .f32) (x4 : Vec F S256x1 .f32) (x5 : Vec F S256x2048 .f32) (x6 : Vec F S2048x2048 .f32) (x7 : Vec F S2048x64 .f32) (x8 : Vec F S2048x2048 .f32) : Vec F S256x2048 .f32 :=
  View.canon [⟨r2_48, k2_pay1 (k2_pay32 x0 x1 x2 x3 x4 x5 x6 x7 x8) (k2_pay34 x0 x1 x2 x3 x4 x5 x6 x7 x8) (k2_pay31 (k2_pay33 x0 x1 x2 x3 x4 x5 x6 x7 x8) (View.ld x0 r2_48) (View.ld x6 r2_49) (View.ld x1 r2_50)) (View.ld x2 r2_50) (View.ld x8 r2_49)⟩,
    ⟨r2_45, k2_pay30 (k2_pay32 x0 x1 x2 x3 x4 x5 x6 x7 x8) (k2_pay33 x0 x1 x2 x3 x4 x5 x6 x7 x8) (k2_pay34 x0 x1 x2 x3 x4 x5 x6 x7 x8) (k2_pay28 (View.ld x0 r2_45)) (k2_pay29 (View.ld x6 r2_46)) (View.ld x1 r2_47) (View.ld x2 r2_47) (View.ld x8 r2_46)⟩,
    ⟨r2_42, k2_pay27 (k2_pay32 x0 x1 x2 x3 x4 x5 x6 x7 x8) (k2_pay33 x0 x1 x2 x3 x4 x5 x6 x7 x8) (k2_pay34 x0 x1 x2 x3 x4 x5 x6 x7 x8) (View.ld x0 r2_42) (View.ld x6 r2_43) (View.ld x1 r2_44) (View.ld x2 r2_44) (View.ld x8 r2_43)⟩,
    ⟨r2_39, k2_pay26 (k2_pay32 x0 x1 x2 x3 x4 x5 x6 x7 x8) (k2_pay33 x0 x1 x2 x3 x4 x5 x6 x7 x8) (k2_pay34 x0 x1 x2 x3 x4 x5 x6 x7 x8) (View.ld x0 r2_39) (View.ld x6 r2_40) (View.ld x1 r2_41) (View.ld x2 r2_41) (View.ld x8 r2_40)⟩,
    ⟨r2_36, k2_pay25 (k2_pay24 (k2_pay32 x0 x1 x2 x3 x4 x5 x6 x7 x8) (k2_pay33 x0 x1 x2 x3 x4 x5 x6 x7 x8) (k2_pay34 x0 x1 x2 x3 x4 x5 x6 x7 x8) (View.ld x0 r2_36) (View.ld x6 r2_37) (View.ld x1 r2_38) (View.ld x2 r2_38)) (View.ld x8 r2_37)⟩,
    ⟨r2_33, k2_pay23 (k2_pay32 x0 x1 x2 x3 x4 x5 x6 x7 x8) (k2_pay22 (k2_pay33 x0 x1 x2 x3 x4 x5 x6 x7 x8) (k2_pay34 x0 x1 x2 x3 x4 x5 x6 x7 x8) (View.ld x0 r2_33) (View.ld x6 r2_34) (View.ld x1 r2_35) (View.ld x2 r2_35)) (View.ld x8 r2_34)⟩,
    ⟨r2_30, k2_pay21 (k2_pay32 x0 x1 x2 x3 x4 x5 x6 x7 x8) (k2_pay33 x0 x1 x2 x3 x4 x5 x6 x7 x8) (k2_pay34 x0 x1 x2 x3 x4 x5 x6 x7 x8) (k2_pay20 (View.ld x0 r2_30) (View.ld x6 r2_31)) (View.ld x1 r2_32) (View.ld x2 r2_32) (View.ld x8 r2_31)⟩,
    ⟨r2_27, k2_pay19 (k2_pay32 x0 x1 x2 x3 x4 x5 x6 x7 x8) (k2_pay33 x0 x1 x2 x3 x4 x5 x6 x7 x8) (k2_pay34 x0 x1 x2 x3 x4 x5 x6 x7 x8) (View.ld x0 r2_27) (View.ld x6 r2_28) (View.ld x1 r2_29) (View.ld x2 r2_29) (View.ld x8 r2_28)⟩,
    ⟨r2_24, k2_pay18 (k2_pay32 x0 x1 x2 x3 x4 x5 x6 x7 x8) (k2_pay33 x0 x1 x2 x3 x4 x5 x6 x7 x8) (k2_pay34 x0 x1 x2 x3 x4 x5 x6 x7 x8) (View.ld x0 r2_24) (View.ld x6 r2_25) (View.ld x1 r2_26) (View.ld x2 r2_26) (View.ld x8 r2_25)⟩,
    ⟨r2_21, k2_pay17 (k2_pay16 (k2_pay32 x0 x1 x2 x3 x4 x5 x6 x7 x8) (k2_pay33 x0 x1 x2 x3 x4 x5 x6 x7 x8) (k2_pay34 x0 x1 x2 x3 x4 x5 x6 x7 x8) (View.ld x0 r2_21) (View.ld x6 r2_22) (View.ld x1 r2_23) (View.ld x2 r2_23)) (View.ld x8 r2_22)⟩,
    ⟨r2_18, k2_pay15 (k2_pay14 (k2_pay32 x0 x1 x2 x3 x4 x5 x6 x7 x8) (k2_pay33 x0 x1 x2 x3 x4 x5 x6 x7 x8) (k2_pay34 x0 x1 x2 x3 x4 x5 x6 x7 x8) (View.ld x0 r2_18) (View.ld x6 r2_19) (View.ld x1 r2_20) (View.ld x2 r2_20)) (View.ld x8 r2_19)⟩,
    ⟨r2_15, k2_pay13 (k2_pay32 x0 x1 x2 x3 x4 x5 x6 x7 x8) (k2_pay34 x0 x1 x2 x3 x4 x5 x6 x7 x8) (k2_pay12 (k2_pay33 x0 x1 x2 x3 x4 x5 x6 x7 x8) (View.ld x0 r2_15) (View.ld x6 r2_16) (View.ld x1 r2_17)) (View.ld x2 r2_17) (View.ld x8 r2_16)⟩,
    ⟨r2_12, k2_pay11 (k2_pay32 x0 x1 x2 x3 x4 x5 x6 x7 x8) (k2_pay33 x0 x1 x2 x3 x4 x5 x6 x7 x8) (k2_pay34 x0 x1 x2 x3 x4 x5 x6 x7 x8) (k2_pay10 (View.ld x0 r2_12)) (View.ld x6 r2_13) (View.ld x1 r2_14) (View.ld x2 r2_14) (View.ld x8 r2_13)⟩,
    ⟨r2_9, k2_pay9 (k2_pay32 x0 x1 x2 x3 x4 x5 x6 x7 x8) (k2_pay33 x0 x1 x2 x3 x4 x5 x6 x7 x8) (k2_pay34 x0 x1 x2 x3 x4 x5 x6 x7 x8) (View.ld x0 r2_9) (View.ld x6 r2_10) (View.ld x1 r2_11) (View.ld x2 r2_11) (View.ld x8 r2_10)⟩,
    ⟨r2_6, k2_pay8 (k2_pay32 x0 x1 x2 x3 x4 x5 x6 x7 x8) (k2_pay33 x0 x1 x2 x3 x4 x5 x6 x7 x8) (k2_pay34 x0 x1 x2 x3 x4 x5 x6 x7 x8) (View.ld x0 r2_6) (View.ld x6 r2_7) (View.ld x1 r2_8) (View.ld x2 r2_8) (View.ld x8 r2_7)⟩,
    ⟨r2_3, k2_pay7 (k2_pay6 (View.ld x3 r2_0) (View.ld x4 r2_1) (View.ld x5 r2_0) (View.ld x7 r2_2) (View.ld x0 r2_3) (View.ld x6 r2_4) (View.ld x1 r2_5) (View.ld x2 r2_5)) (View.ld x8 r2_4)⟩]

/-- Its stores tile the buffer (checked by evaluation), so they cover it. -/
theorem cover2_9 (p0 : Vec F S256x128 .f32) (p1 : Vec F S256x128 .f32) (p2 : Vec F S256x128 .f32) (p3 : Vec F S256x128 .f32) (p4 : Vec F S256x128 .f32) (p5 : Vec F S256x128 .f32) (p6 : Vec F S256x128 .f32) (p7 : Vec F S256x128 .f32) (p8 : Vec F S256x128 .f32) (p9 : Vec F S256x128 .f32) (p10 : Vec F S256x128 .f32) (p11 : Vec F S256x128 .f32) (p12 : Vec F S256x128 .f32) (p13 : Vec F S256x128 .f32) (p14 : Vec F S256x128 .f32) (p15 : Vec F S256x128 .f32) (y : S256x2048.Idx) :
    ∃ pc ∈ ([⟨r2_48, p0⟩, ⟨r2_45, p1⟩, ⟨r2_42, p2⟩, ⟨r2_39, p3⟩, ⟨r2_36, p4⟩, ⟨r2_33, p5⟩, ⟨r2_30, p6⟩, ⟨r2_27, p7⟩, ⟨r2_24, p8⟩, ⟨r2_21, p9⟩, ⟨r2_18, p10⟩, ⟨r2_15, p11⟩, ⟨r2_12, p12⟩, ⟨r2_9, p13⟩, ⟨r2_6, p14⟩, ⟨r2_3, p15⟩] : List (View.Piece (Elt F) S256x2048 .f32)), y ∈ pc.1.set :=
  View.cover_of_tiled [⟨r2_48, p0⟩, ⟨r2_45, p1⟩, ⟨r2_42, p2⟩, ⟨r2_39, p3⟩, ⟨r2_36, p4⟩, ⟨r2_33, p5⟩, ⟨r2_30, p6⟩, ⟨r2_27, p7⟩, ⟨r2_24, p8⟩, ⟨r2_21, p9⟩, ⟨r2_18, p10⟩, ⟨r2_15, p11⟩, ⟨r2_12, p12⟩, ⟨r2_9, p13⟩, ⟨r2_6, p14⟩, ⟨r2_3, p15⟩] S256x128.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S256x2048 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x2048 .f32) (harg4 : arg4.IsWhole) (arg5 : Memref sig .tc .vmem S256x1 .f32) (harg5 : arg5.IsWhole) (arg6 : Memref sig .tc .vmem S256x2048 .f32) (harg6 : arg6.IsWhole) (arg7 : Memref sig .tc .vmem S2048x2048 .f32) (harg7 : arg7.IsWhole) (arg8 : Memref sig .tc .vmem S2048x64 .f32) (harg8 : arg8.IsWhole) (arg9 : Memref sig .tc .vmem S2048x2048 .f32) (harg9 : arg9.IsWhole) (arg10 : Memref sig .tc .vmem S256x2048 .f32) (harg10 : arg10.IsWhole)
    (x0 : Vec F S256x2048 .f32) (x1 : Vec F S256x512 .f32) (x2 : Vec F S256x512 .f32) (x3 : Vec F S256x2048 .f32) (x4 : Vec F S256x1 .f32) (x5 : Vec F S256x2048 .f32) (x6 : Vec F S2048x2048 .f32) (x7 : Vec F S2048x64 .f32) (x8 : Vec F S2048x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__attn_body i arg1 harg1 arg2 harg2 arg3 harg3 arg4 harg4 arg5 harg5 arg6 harg6 arg7 harg7 arg8 harg8 arg9 harg9 arg10 harg10) K := by
  simp only [cc2__attn_body_eq_skeleton]; unfold cc2__attn_body_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  refine (View.read_writes_eq_canon _ _ _ (cover2_9 _ _ _ _ _ _ _ _ _ _ _ _ _ _ _ _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-! # REGION 3 of @main: custom_call 3, `cc3__proj_out_body` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S256x2048 := Rect.unit (s := S256x2048) ![0, 0] S256x2048.size inb_S256x2048_S256x2048_0_0
abbrev r3_1 : Rect S2048x2048 := Rect.unit (s := S2048x2048) ![0, 0] S2048x2048.size inb_S2048x2048_S2048x2048_0_0

/-! ## What the body leaves in each output window's buffer -/

/-- Window 2's staging buffer after the body, from the input windows' blocks: its 1 store as pieces, LAST
    FIRST (Lib/Pipeline/FrameBody.lean `View.canon`; the payloads are the skeleton's). -/
def out3_2 (x0 : Vec F S256x2048 .f32) (x1 : Vec F S2048x2048 .f32) : Vec F S256x2048 .f32 :=
  View.canon [⟨r3_0, k3_pay1 (View.ld x0 r3_0) (View.ld x1 r3_1)⟩]

/-- Its stores tile the buffer (checked by evaluation), so they cover it. -/
theorem cover3_2 (p0 : Vec F S256x2048 .f32) (y : S256x2048.Idx) :
    ∃ pc ∈ ([⟨r3_0, p0⟩] : List (View.Piece (Elt F) S256x2048 .f32)), y ∈ pc.1.set :=
  View.cover_of_tiled [⟨r3_0, p0⟩] S256x2048.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg1 : Memref sig .tc .vmem S256x2048 .f32) (harg1 : arg1.IsWhole) (arg2 : Memref sig .tc .vmem S2048x2048 .f32) (harg2 : arg2.IsWhole) (arg3 : Memref sig .tc .vmem S256x2048 .f32) (harg3 : arg3.IsWhole)
    (x0 : Vec F S256x2048 .f32) (x1 : Vec F S2048x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__proj_out_body i arg1 harg1 arg2 harg2 arg3 harg3) K := by
  simp only [cc3__proj_out_body_eq_skeleton]; unfold cc3__proj_out_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.KernelIdealRun.lean ====
/- The run of `KernelIdeal`: its host operations and its four regions, boundary by boundary; launch set-up. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdealRegionA
public import proofs.«01_k».proof.Proof.KernelIdealRegionsB
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_cst, main_v3, main_v4, main_cst_0, main_v5, main_v6, main_cst_1, main_v7, main_v8, main_cst_2, main_v9, main_v10, main_cst_3, main_v11, main_v12, main_v13, main_v14, main_v15, main_v16, main_v17, main_v18, main_v19, main_v20, main_v21, main_v22, main_v23, main_v24, main_v25, main_v26, main_v27, main_c, main_v28, main_v29, main_c_4, main_v30, main_v31, main_v32, main_c_5, main_v33, main_v34, main_c_6, main_v35, main_v36, main_v37, main_v38, main_c_7, main_v39, main_v40, main_v41, main_v42, main_v43, main_v44, main_v45, main_v46, main_c_8, main_v47, main_v48, main_v49, main_v50, main_v51, main_v52, main_v53, main_c_9, main_v54, main_v55, main_v56, main_v57, main_v58, main_v59, main_v60, main_v61, main_c_10, main_v62, main_v63, main_c_11, main_v64, main_v65, main_v66, main_v67, main_v68, main_v69, main_v70, main_c_12, main_v71, main_v72, main_c_13, main_v73, main_v74, main_c_14, main_v75, main_v76, main_v77, main_v78, main_v79, main_c_15, main_v80, main_v81, main_c_16, main_v82, main_v83, main_c_17, main_v84, main_v85, main_v86, main_v87, main_v88, main_v89, main_v90, main_v91, main_v92, main_c_18, main_v93, main_v94, main_v95, main_v96, main_v97, main_v98, main_v99, main_v100, main_c_19, main_v101, main_v102, main_v103, main_v104, main_v105, main_v106, main_v107, main_v108, main_c_20, main_v109, main_v110, main_v111, main_v112, main_v113, main_v114, main_v115, main_v116, main_v117, main_c_21, main_v118, main_v119, main_c_22, main_v120, main_v121, main_v122, main_v123, main_v124, main_v125, main_v126, main_v127, main_v128, main_v129, main_v130, main_v131, main_v132, main_v133, main_v134, main_v135]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`) (region 3's entry). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- A reference that is none of region 3's OUTPUT arrays keeps its entry contents across it: an input window's
    array is never written back (`Dat.arrAt_in`, `A_eq3`); any other buffer is left as is. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)
theorem W5_main_arg10 (c : Dev nD) : W5 m ρ c (Proc.devRef .tc main_arg10) = m ((c : Thread nD τ).loc main_arg10) :=
  W5_args m ρ c main_arg10 (by decide)
theorem W5_main_arg11 (c : Dev nD) : W5 m ρ c (Proc.devRef .tc main_arg11) = m ((c : Thread nD τ).loc main_arg11) :=
  W5_args m ρ c main_arg11 (by decide)
theorem W5_main_arg12 (c : Dev nD) : W5 m ρ c (Proc.devRef .tc main_arg12) = m ((c : Thread nD τ).loc main_arg12) :=
  W5_args m ρ c main_arg12 (by decide)
theorem W5_main_arg13 (c : Dev nD) : W5 m ρ c (Proc.devRef .tc main_arg13) = m ((c : Thread nD τ).loc main_arg13) :=
  W5_args m ρ c main_arg13 (by decide)
theorem W5_main_arg14 (c : Dev nD) : W5 m ρ c (Proc.devRef .tc main_arg14) = m ((c : Thread nD τ).loc main_arg14) :=
  W5_args m ρ c main_arg14 (by decide)
theorem W5_main_arg15 (c : Dev nD) : W5 m ρ c (Proc.devRef .tc main_arg15) = m ((c : Thread nD τ).loc main_arg15) :=
  W5_args m ρ c main_arg15 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W4`, left at `W5`
    (what the launch reads at the end). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W5_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h => h.1) (frame m ρ)

end Cert.KernelIdeal.Gen

end
-- ==== Proof.Proj.lean ====
/- Plain formulas of the projection call, row by row, and the kernel's payloads as those formulas. -/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.Mla

open Idealize.ShloMosaic Idealize.ShloMosaic.TcCoe Idealize.SL.Sem
open Cert.KernelIdeal Cert.KernelIdeal.Gen

/-- A row times a matrix. -/
def lin {m n : ℕ} (x : Fin m → EReal) (w : Fin m → Fin n → EReal) (j : Fin n) : EReal := ∑ k, x k * w k j

/-- The small number added under each root. -/
abbrev eps : EReal := Ideal.ofBits .f32 0x358637BD#32

/-- The mean of a row, `n` the number of its entries. -/
def mean {m : ℕ} (n : EReal) (y : Fin m → EReal) : EReal := Ideal.div (∑ k, y k) n

/-- A row divided by its root mean square, times the weights. -/
def rms {m : ℕ} (n : EReal) (y w : Fin m → EReal) (j : Fin m) : EReal :=
  y j * Ideal.rsqrt (mean n (fun k => y k * y k) + eps) * w j

/-- A row without its mean, divided by its standard deviation, times the weights. -/
def lnorm {m : ℕ} (n : EReal) (y w : Fin m → EReal) (j : Fin m) : EReal :=
  Ideal.div (y j - mean n y) (Ideal.sqrt (mean n (fun k => (y k - mean n y) * (y k - mean n y)) + eps)) * w j

/-- The two coordinates of a rotated pair. -/
def rotA (a b c s : EReal) : EReal := a * c - b * s
def rotB (a b c s : EReal) : EReal := a * s + b * c

/-- The normalised low-rank query row. -/
def qrS (x : Fin 2048 → EReal) (w : Fin 2048 → Fin 512 → EReal) (l : Fin 512 → EReal) : Fin 512 → EReal :=
  rms (Ideal.ofBits .f32 0x44000000#32) (lin x w) l

/-- The normalised low-rank key/value row. -/
def kvS (x : Fin 2048 → EReal) (w : Fin 2048 → Fin 320 → EReal) (l : Fin 256 → EReal) : Fin 256 → EReal :=
  rms (Ideal.ofBits .f32 0x43800000#32) (fun k => lin x w ⟨k, by omega⟩) l

/-- The rotated key row: first coordinates, then second coordinates. -/
def kpeS (x : Fin 2048 → EReal) (w : Fin 2048 → Fin 320 → EReal) (c s : Fin 32 → EReal) (j : Fin 64) : EReal :=
  if h : j.val < 32 then rotA (lin x w ⟨256 + j, by omega⟩) (lin x w ⟨288 + j, by omega⟩) (c ⟨j, h⟩) (s ⟨j, h⟩)
  else rotB (lin x w ⟨256 + (j - 32), by omega⟩) (lin x w ⟨288 + (j - 32), by omega⟩) (c ⟨j - 32, by omega⟩) (s ⟨j - 32, by omega⟩)

/-- The normalised index key row. -/
def kiS (x : Fin 2048 → EReal) (w : Fin 2048 → Fin 128 → EReal) (l b : Fin 128 → EReal) : Fin 128 → EReal :=
  fun k => lnorm (Ideal.ofBits .f32 0x43000000#32) (lin x w) l k + b k

/-- A row of 128 with its first 64 entries rotated, pairs 32 apart. -/
def rotRow (y : Fin 128 → EReal) (c s : Fin 32 → EReal) (j : Fin 128) : EReal :=
  if h : j.val < 32 then rotA (y ⟨j, by omega⟩) (y ⟨32 + j, by omega⟩) (c ⟨j, h⟩) (s ⟨j, h⟩)
  else if h' : j.val - 32 < 32 then rotB (y ⟨j - 32, by omega⟩) (y ⟨32 + (j - 32), by omega⟩) (c ⟨j - 32, h'⟩) (s ⟨j - 32, h'⟩)
  else y ⟨64 + (j - 32 - 32), by omega⟩

theorem qr_at (x : FVec Ideal S256x2048 .f32) (w : FVec Ideal S2048x512 .f32) (l : FVec Ideal S1x512 .f32) (r : Fin 256) (j : Fin 512) :
    k0_pay14 (F := Ideal) x w l (ix2 r j) = qrS (fun k => x (ix2 r k)) (fun k n => w (ix2 k n)) (fun k => l (ix2 0 k)) j := by
  pointwise [k0_pay14, k0_pay9]
  rfl

theorem kv_at (x : FVec Ideal S256x2048 .f32) (w : FVec Ideal S2048x320 .f32) (l : FVec Ideal S1x256 .f32) (r : Fin 256) (j : Fin 256) :
    k0_pay19 (F := Ideal) (k0_pay16 x w) (k0_pay17 l) (k0_pay18 x w) (ix2 r j)
      = kvS (fun k => x (ix2 r k)) (fun k n => w (ix2 k n)) (fun k => l (ix2 0 k)) j := by
  pointwise [k0_pay19, k0_pay18, k0_pay17, k0_pay16, k0_pay15, k0_pay9]
  rfl

theorem kpe_at (x : FVec Ideal S256x2048 .f32) (w : FVec Ideal S2048x320 .f32) (c s : FVec Ideal S256x32 .f32) (r : Fin 256) (j : Fin 64) :
    k0_pay20 (F := Ideal) (k0_pay10 c) (k0_pay11 s) (k0_pay15 x w) (ix2 r j)
      = kpeS (fun k => x (ix2 r k)) (fun k n => w (ix2 k n)) (fun k => c (ix2 r k)) (fun k => s (ix2 r k)) j := by
  pointwise [k0_pay20, k0_pay10, k0_pay11, k0_pay15, k0_pay9]
  rfl

theorem ln_at (x : FVec Ideal S256x2048 .f32) (w : FVec Ideal S2048x128 .f32) (l : FVec Ideal S1x128 .f32) (r : Fin 256) (j : Fin 128) :
    k0_pay21 (F := Ideal) (k0_pay9 x) w l (ix2 r j)
      = lnorm (Ideal.ofBits .f32 0x43000000#32) (lin (fun k => x (ix2 r k)) (fun k n => w (ix2 k n))) (fun k => l (ix2 0 k)) j := by
  pointwise [k0_pay21, k0_pay9]
  rfl

theorem rot_at (y : FVec Ideal S256x128 .f32) (b : FVec Ideal S1x128 .f32) (c s : FVec Ideal S256x32 .f32) (r : Fin 256) (j : Fin 128) :
    k0_pay22 (F := Ideal) (k0_pay10 c) (k0_pay11 s) y b (ix2 r j)
      = rotRow (fun k => y (ix2 r k) + b (ix2 0 k)) (fun k => c (ix2 r k)) (fun k => s (ix2 r k)) j := by
  pointwise [k0_pay22, k0_pay10, k0_pay11]
  rfl

theorem kidx_at (x : FVec Ideal S256x2048 .f32) (w : FVec Ideal S2048x128 .f32) (l b : FVec Ideal S1x128 .f32)
    (c s : FVec Ideal S256x32 .f32) (r : Fin 256) (j : Fin 128) :
    k0_pay22 (F := Ideal) (k0_pay10 c) (k0_pay11 s) (k0_pay21 (k0_pay9 x) w l) b (ix2 r j)
      = rotRow (kiS (fun k => x (ix2 r k)) (fun k n => w (ix2 k n)) (fun k => l (ix2 0 k)) (fun k => b (ix2 0 k)))
          (fun k => c (ix2 r k)) (fun k => s (ix2 r k)) j := by
  rw [rot_at]
  simp only [ln_at]
  rfl

/-- The head weights' row. -/
def wtsS (x : Fin 2048 → EReal) (w : Fin 2048 → Fin 16 → EReal) (j : Fin 16) : EReal := lin x w j * Ideal.ofBits .f32 0x3E800000#32

theorem wts_at (x : FVec Ideal S256x2048 .f32) (w : FVec Ideal S2048x16 .f32) (r : Fin 256) (j : Fin 16) :
    k0_pay23 (F := Ideal) (k0_pay9 x) w (ix2 r j) = wtsS (fun k => x (ix2 r k)) (fun k n => w (ix2 k n)) j := by
  pointwise [k0_pay23, k0_pay9]
  rfl

/-- The head parts of the query row and of the index query row. -/
def qnS (q : Fin 512 → EReal) (w : Fin 512 → Fin 3072 → EReal) (j : Fin 2048) : EReal := lin q w ⟨j, by omega⟩
def qpaS (q : Fin 512 → EReal) (w : Fin 512 → Fin 3072 → EReal) (c s : Fin 512 → EReal) (j : Fin 512) : EReal :=
  rotA (lin q w ⟨2048 + j, by omega⟩) (lin q w ⟨2560 + j, by omega⟩) (c j) (s j)
def qpbS (q : Fin 512 → EReal) (w : Fin 512 → Fin 3072 → EReal) (c s : Fin 512 → EReal) (j : Fin 512) : EReal :=
  rotB (lin q w ⟨2048 + j, by omega⟩) (lin q w ⟨2560 + j, by omega⟩) (c j) (s j)
def qiaS (q : Fin 512 → EReal) (w : Fin 512 → Fin 2048 → EReal) (c s : Fin 512 → EReal) (j : Fin 512) : EReal :=
  rotA (lin q w ⟨j, by omega⟩) (lin q w ⟨512 + j, by omega⟩) (c j) (s j)
def qibS (q : Fin 512 → EReal) (w : Fin 512 → Fin 2048 → EReal) (c s : Fin 512 → EReal) (j : Fin 512) : EReal :=
  rotB (lin q w ⟨j, by omega⟩) (lin q w ⟨512 + j, by omega⟩) (c j) (s j)
def qinS (q : Fin 512 → EReal) (w : Fin 512 → Fin 2048 → EReal) (j : Fin 1024) : EReal := lin q w ⟨1024 + j, by omega⟩

theorem qn_at (q : FVec Ideal S256x512 .f32) (w : FVec Ideal S512x3072 .f32) (r : Fin 256) (j : Fin 2048) :
    k0_pay25 (F := Ideal) q w (ix2 r j) = qnS (fun k => q (ix2 r k)) (fun k n => w (ix2 k n)) j := by
  pointwise [k0_pay25, k0_pay24]
  rfl

theorem qpa_at (c s q : FVec Ideal S256x512 .f32) (w : FVec Ideal S512x3072 .f32) (r : Fin 256) (j : Fin 512) :
    k0_pay28 (F := Ideal) (k0_pay12 c) (k0_pay13 s) q w (ix2 r j)
      = qpaS (fun k => q (ix2 r k)) (fun k n => w (ix2 k n)) (fun k => c (ix2 r k)) (fun k => s (ix2 r k)) j := by
  pointwise [k0_pay28, k0_pay27, k0_pay26, k0_pay24, k0_pay12, k0_pay13]
  rfl

theorem qpb_at (c s q : FVec Ideal S256x512 .f32) (w : FVec Ideal S512x3072 .f32) (r : Fin 256) (j : Fin 512) :
    k0_pay29 (F := Ideal) (k0_pay12 c) (k0_pay13 s) q w (ix2 r j)
      = qpbS (fun k => q (ix2 r k)) (fun k n => w (ix2 k n)) (fun k => c (ix2 r k)) (fun k => s (ix2 r k)) j := by
  pointwise [k0_pay29, k0_pay27, k0_pay26, k0_pay24, k0_pay12, k0_pay13]
  rfl

theorem qia_at (c s q : FVec Ideal S256x512 .f32) (w : FVec Ideal S512x2048 .f32) (r : Fin 256) (j : Fin 512) :
    k0_pay4 (F := Ideal) (k0_pay12 c) (k0_pay13 s) q w (ix2 r j)
      = qiaS (fun k => q (ix2 r k)) (fun k n => w (ix2 k n)) (fun k => c (ix2 r k)) (fun k => s (ix2 r k)) j := by
  pointwise [k0_pay4, k0_pay3, k0_pay2, k0_pay1, k0_pay12, k0_pay13]
  rfl

theorem qib_at (c s q : FVec Ideal S256x512 .f32) (w : FVec Ideal S512x2048 .f32) (r : Fin 256) (j : Fin 512) :
    k0_pay5 (F := Ideal) (k0_pay12 c) (k0_pay13 s) q w (ix2 r j)
      = qibS (fun k => q (ix2 r k)) (fun k n => w (ix2 k n)) (fun k => c (ix2 r k)) (fun k => s (ix2 r k)) j := by
  pointwise [k0_pay5, k0_pay3, k0_pay2, k0_pay1, k0_pay12, k0_pay13]
  rfl

theorem qin_at (q : FVec Ideal S256x512 .f32) (w : FVec Ideal S512x2048 .f32) (r : Fin 256) (j : Fin 1024) :
    k0_pay6 (F := Ideal) q w (ix2 r j) = qinS (fun k => q (ix2 r k)) (fun k n => w (ix2 k n)) j := by
  pointwise [k0_pay6, k0_pay1]
  rfl

theorem kn_at' (q : FVec Ideal S256x256 .f32) (w : FVec Ideal S256x2048 .f32) (r : Fin 256) (j : Fin 2048) :
    k0_pay7 (F := Ideal) q w (ix2 r j) = lin (fun k => q (ix2 r k)) (fun k n => w (ix2 k n)) j := by
  pointwise [k0_pay7]
  rfl

theorem v_at (q : FVec Ideal S256x256 .f32) (w : FVec Ideal S256x2048 .f32) (r : Fin 256) (j : Fin 2048) :
    k0_pay8 (F := Ideal) q w (ix2 r j) = lin (fun k => q (ix2 r k)) (fun k n => w (ix2 k n)) j := by
  pointwise [k0_pay8]
  rfl

end Cert.Mla
-- ==== Proof.Logits.lean ====
/- The index-logits call: what one block of rows computes, and what the array of logits holds after the call. -/
module

public import proofs.«01_k».proof.Proof.KernelIdealRegionsB
public import Idealize.ShloMosaic.Lib.Pipeline.ValueKit
public import Idealize.ShloMosaic.Lib.Pointwise
public import Idealize.ShloMosaic.Lib.Claim

@[expose] public section

set_option maxRecDepth 16384

noncomputable section

namespace Cert.Mla

open Idealize.ShloMosaic Idealize.ShloMosaic.TcCoe Idealize.SL.Sem
open Idealize.ShloMosaic.Pipeline (Dat)
open Cert.KernelIdeal Cert.KernelIdeal.Gen

/-- The term of one head: the product of query and key, scaled, cut at zero, times the head's weight. -/
def term (d w : EReal) : EReal := max (d * Ideal.ofBits .f32 0x3DB504F3#32) 0 * w

/-- A sum of 16 terms, written out. -/
theorem sum16 (f : Fin 16 → EReal) : ∑ h, f h = f 0 + f 1 + f 2 + f 3 + f 4 + f 5 + f 6 + f 7 + f 8 + f 9 + f 10 + f 11
    + f 12 + f 13 + f 14 + f 15 := by
  simp only [Fin.sum_univ_castSucc, Fin.sum_univ_zero, zero_add]
  rfl

/-- The product of query and key in head `h`, in the three parts the kernel keeps. -/
def dot3 (qa qb : Fin 512 → EReal) (qn : Fin 1024 → EReal) (k : Fin 128 → EReal) (h : Fin 16) : EReal :=
  ∑ j : Fin 32, qa ⟨32 * h + j, by omega⟩ * k ⟨j, by omega⟩ + ∑ j : Fin 32, qb ⟨32 * h + j, by omega⟩ * k ⟨32 + j, by omega⟩
    + ∑ j : Fin 64, qn ⟨64 * h + j, by omega⟩ * k ⟨64 + j, by omega⟩

/-- The index logit of one pair of rows: the causal mask plus the sum of the 16 heads' terms. -/
def logit (qa qb : Fin 512 → EReal) (qn : Fin 1024 → EReal) (k : Fin 128 → EReal) (w : Fin 16 → EReal) (am : EReal) : EReal :=
  am + ∑ h : Fin 16, term (dot3 qa qb qn k h) (w h)

theorem logit_congr {qa qa' qb qb' : Fin 512 → EReal} {qn qn' : Fin 1024 → EReal} {k k' : Fin 128 → EReal}
    {w w' : Fin 16 → EReal} {am am' : EReal} (e1 : ∀ j, qa j = qa' j) (e2 : ∀ j, qb j = qb' j) (e3 : ∀ j, qn j = qn' j)
    (e4 : ∀ j, k j = k' j) (e5 : ∀ j, w j = w' j) (e6 : am = am') :
    logit qa qb qn k w am = logit qa' qb' qn' k' w' am' := by
  cases funext e1; cases funext e2; cases funext e3; cases funext e4; cases funext e5; cases e6; rfl

/-- The keys' three parts. -/
theorem ka_at (k : FVec Ideal S2048x128 .f32) (s : Fin 2048) (j : Fin 32) :
    k1_pay3 (F := Ideal) k (ix2 s j) = k (ix2 s ⟨j, by omega⟩) := by pointwise [k1_pay3, k1_pay2]
theorem kb_at (k : FVec Ideal S2048x128 .f32) (s : Fin 2048) (j : Fin 32) :
    k1_pay4 (F := Ideal) k (ix2 s j) = k (ix2 s ⟨32 + j, by omega⟩) := by pointwise [k1_pay4, k1_pay2]
theorem kn_at (k : FVec Ideal S2048x128 .f32) (s : Fin 2048) (j : Fin 64) :
    k1_pay5 (F := Ideal) k (ix2 s j) = k (ix2 s ⟨64 + j, by omega⟩) := by pointwise [k1_pay5, k1_pay2]

/-- Head 0, added to the mask. -/
theorem head0_at (k : FVec Ideal S2048x128 .f32) (w : FVec Ideal S256x16 .f32) (m : FVec Ideal S256x2048 .f32)
    (a b : FVec Ideal S256x32 .f32) (n : FVec Ideal S256x64 .f32) (r : Fin 256) (s : Fin 2048) :
    k1_pay7 (F := Ideal) k w m a b n (ix2 r s) = m (ix2 r s)
      + term (∑ j, a (ix2 r j) * k (ix2 s ⟨j, by omega⟩) + ∑ j, b (ix2 r j) * k (ix2 s ⟨32 + j, by omega⟩)
          + ∑ j, n (ix2 r j) * k (ix2 s ⟨64 + j, by omega⟩)) (w (ix2 r 0)) := by
  pointwise [k1_pay7, k1_pay2, k1_pay3, k1_pay4, k1_pay5, k1_pay6]
  try rfl

/-- The first two products of head 1. -/
theorem start1_at (k : FVec Ideal S2048x128 .f32) (a b : FVec Ideal S256x32 .f32) (r : Fin 256) (s : Fin 2048) :
    k1_pay8 (F := Ideal) k a b (ix2 r s)
      = ∑ j, a (ix2 r j) * k (ix2 s ⟨j, by omega⟩) + ∑ j, b (ix2 r j) * k (ix2 s ⟨32 + j, by omega⟩) := by
  pointwise [k1_pay8, k1_pay2, k1_pay3, k1_pay4]

/-- Heads 1 and 2. -/
theorem heads1_at (ka kb : FVec Ideal S2048x32 .f32) (kn : FVec Ideal S2048x64 .f32) (w : FVec Ideal S256x16 .f32)
    (acc p : FVec Ideal S256x2048 .f32) (n : FVec Ideal S256x64 .f32) (a b : FVec Ideal S256x32 .f32)
    (n' : FVec Ideal S256x64 .f32) (r : Fin 256) (s : Fin 2048) :
    k1_pay9 (F := Ideal) ka kb kn w acc p n a b n' (ix2 r s) = acc (ix2 r s)
      + term (p (ix2 r s) + ∑ j, n (ix2 r j) * kn (ix2 s j)) (w (ix2 r 1))
      + term (∑ j, a (ix2 r j) * ka (ix2 s j) + ∑ j, b (ix2 r j) * kb (ix2 s j) + ∑ j, n' (ix2 r j) * kn (ix2 s j))
          (w (ix2 r 2)) := by
  pointwise [k1_pay9]
  try rfl

theorem start3_at (ka kb : FVec Ideal S2048x32 .f32) (a b : FVec Ideal S256x32 .f32) (r : Fin 256) (s : Fin 2048) :
    k1_pay10 (F := Ideal) ka kb a b (ix2 r s)
      = ∑ j, a (ix2 r j) * ka (ix2 s j) + ∑ j, b (ix2 r j) * kb (ix2 s j) := by
  pointwise [k1_pay10]

/-- Heads 3 and 4. -/
theorem heads3_at (ka kb : FVec Ideal S2048x32 .f32) (kn : FVec Ideal S2048x64 .f32) (w : FVec Ideal S256x16 .f32)
    (acc p : FVec Ideal S256x2048 .f32) (n : FVec Ideal S256x64 .f32) (a b : FVec Ideal S256x32 .f32)
    (n' : FVec Ideal S256x64 .f32) (r : Fin 256) (s : Fin 2048) :
    k1_pay11 (F := Ideal) ka kb kn w acc p n a b n' (ix2 r s) = acc (ix2 r s)
      + term (p (ix2 r s) + ∑ j, n (ix2 r j) * kn (ix2 s j)) (w (ix2 r 3))
      + term (∑ j, a (ix2 r j) * ka (ix2 s j) + ∑ j, b (ix2 r j) * kb (ix2 s j) + ∑ j, n' (ix2 r j) * kn (ix2 s j))
          (w (ix2 r 4)) := by
  pointwise [k1_pay11]
  try rfl

theorem start5_at (ka kb : FVec Ideal S2048x32 .f32) (a b : FVec Ideal S256x32 .f32) (r : Fin 256) (s : Fin 2048) :
    k1_pay12 (F := Ideal) ka kb a b (ix2 r s)
      = ∑ j, a (ix2 r j) * ka (ix2 s j) + ∑ j, b (ix2 r j) * kb (ix2 s j) := by
  pointwise [k1_pay12]

/-- Heads 5 and 6. -/
theorem heads5_at (ka kb : FVec Ideal S2048x32 .f32) (kn : FVec Ideal S2048x64 .f32) (w : FVec Ideal S256x16 .f32)
    (acc p : FVec Ideal S256x2048 .f32) (n : FVec Ideal S256x64 .f32) (a b : FVec Ideal S256x32 .f32)
    (n' : FVec Ideal S256x64 .f32) (r : Fin 256) (s : Fin 2048) :
    k1_pay13 (F := Ideal) ka kb kn w acc p n a b n' (ix2 r s) = acc (ix2 r s)
      + term (p (ix2 r s) + ∑ j, n (ix2 r j) * kn (ix2 s j)) (w (ix2 r 5))
      + term (∑ j, a (ix2 r j) * ka (ix2 s j) + ∑ j, b (ix2 r j) * kb (ix2 s j) + ∑ j, n' (ix2 r j) * kn (ix2 s j))
          (w (ix2 r 6)) := by
  pointwise [k1_pay13]
  try rfl

theorem start7_at (ka kb : FVec Ideal S2048x32 .f32) (a b : FVec Ideal S256x32 .f32) (r : Fin 256) (s : Fin 2048) :
    k1_pay14 (F := Ideal) ka kb a b (ix2 r s)
      = ∑ j, a (ix2 r j) * ka (ix2 s j) + ∑ j, b (ix2 r j) * kb (ix2 s j) := by
  pointwise [k1_pay14]

/-- Heads 7 and 8. -/
theorem heads7_at (ka kb : FVec Ideal S2048x32 .f32) (kn : FVec Ideal S2048x64 .f32) (w : FVec Ideal S256x16 .f32)
    (acc p : FVec Ideal S256x2048 .f32) (n : FVec Ideal S256x64 .f32) (a b : FVec Ideal S256x32 .f32)
    (n' : FVec Ideal S256x64 .f32) (r : Fin 256) (s : Fin 2048) :
    k1_pay15 (F := Ideal) ka kb kn w acc p n a b n' (ix2 r s) = acc (ix2 r s)
      + term (p (ix2 r s) + ∑ j, n (ix2 r j) * kn (ix2 s j)) (w (ix2 r 7))
      + term (∑ j, a (ix2 r j) * ka (ix2 s j) + ∑ j, b (ix2 r j) * kb (ix2 s j) + ∑ j, n' (ix2 r j) * kn (ix2 s j))
          (w (ix2 r 8)) := by
  pointwise [k1_pay15]
  try rfl

theorem start9_at (ka kb : FVec Ideal S2048x32 .f32) (a b : FVec Ideal S256x32 .f32) (r : Fin 256) (s : Fin 2048) :
    k1_pay16 (F := Ideal) ka kb a b (ix2 r s)
      = ∑ j, a (ix2 r j) * ka (ix2 s j) + ∑ j, b (ix2 r j) * kb (ix2 s j) := by
  pointwise [k1_pay16]

/-- Heads 9 and 10. -/
theorem heads9_at (ka kb : FVec Ideal S2048x32 .f32) (kn : FVec Ideal S2048x64 .f32) (w : FVec Ideal S256x16 .f32)
    (acc p : FVec Ideal S256x2048 .f32) (n : FVec Ideal S256x64 .f32) (a b : FVec Ideal S256x32 .f32)
    (n' : FVec Ideal S256x64 .f32) (r : Fin 256) (s : Fin 2048) :
    k1_pay17 (F := Ideal) ka kb kn w acc p n a b n' (ix2 r s) = acc (ix2 r s)
      + term (p (ix2 r s) + ∑ j, n (ix2 r j) * kn (ix2 s j)) (w (ix2 r 9))
      + term (∑ j, a (ix2 r j) * ka (ix2 s j) + ∑ j, b (ix2 r j) * kb (ix2 s j) + ∑ j, n' (ix2 r j) * kn (ix2 s j))
          (w (ix2 r 10)) := by
  pointwise [k1_pay17]
  try rfl

theorem start11_at (ka kb : FVec Ideal S2048x32 .f32) (a b : FVec Ideal S256x32 .f32) (r : Fin 256) (s : Fin 2048) :
    k1_pay18 (F := Ideal) ka kb a b (ix2 r s)
      = ∑ j, a (ix2 r j) * ka (ix2 s j) + ∑ j, b (ix2 r j) * kb (ix2 s j) := by
  pointwise [k1_pay18]

/-- Heads 11 and 12. -/
theorem heads11_at (ka kb : FVec Ideal S2048x32 .f32) (kn : FVec Ideal S2048x64 .f32) (w : FVec Ideal S256x16 .f32)
    (acc p : FVec Ideal S256x2048 .f32) (n : FVec Ideal S256x64 .f32) (a b : FVec Ideal S256x32 .f32)
    (n' : FVec Ideal S256x64 .f32) (r : Fin 256) (s : Fin 2048) :
    k1_pay19 (F := Ideal) ka kb kn w acc p n a b n' (ix2 r s) = acc (ix2 r s)
      + term (p (ix2 r s) + ∑ j, n (ix2 r j) * kn (ix2 s j)) (w (ix2 r 11))
      + term (∑ j, a (ix2 r j) * ka (ix2 s j) + ∑ j, b (ix2 r j) * kb (ix2 s j) + ∑ j, n' (ix2 r j) * kn (ix2 s j))
          (w (ix2 r 12)) := by
  pointwise [k1_pay19]
  try rfl

theorem start13_at (ka kb : FVec Ideal S2048x32 .f32) (a b : FVec Ideal S256x32 .f32) (r : Fin 256) (s : Fin 2048) :
    k1_pay20 (F := Ideal) ka kb a b (ix2 r s)
      = ∑ j, a (ix2 r j) * ka (ix2 s j) + ∑ j, b (ix2 r j) * kb (ix2 s j) := by
  pointwise [k1_pay20]

/-- Heads 13 and 14. -/
theorem heads13_at (ka kb : FVec Ideal S2048x32 .f32) (kn : FVec Ideal S2048x64 .f32) (w : FVec Ideal S256x16 .f32)
    (acc p : FVec Ideal S256x2048 .f32) (n : FVec Ideal S256x64 .f32) (a b : FVec Ideal S256x32 .f32)
    (n' : FVec Ideal S256x64 .f32) (r : Fin 256) (s : Fin 2048) :
    k1_pay21 (F := Ideal) ka kb kn w acc p n a b n' (ix2 r s) = acc (ix2 r s)
      + term (p (ix2 r s) + ∑ j, n (ix2 r j) * kn (ix2 s j)) (w (ix2 r 13))
      + term (∑ j, a (ix2 r j) * ka (ix2 s j) + ∑ j, b (ix2 r j) * kb (ix2 s j) + ∑ j, n' (ix2 r j) * kn (ix2 s j))
          (w (ix2 r 14)) := by
  pointwise [k1_pay21]
  try rfl

theorem start15_at (ka kb : FVec Ideal S2048x32 .f32) (a b : FVec Ideal S256x32 .f32) (r : Fin 256) (s : Fin 2048) :
    k1_pay22 (F := Ideal) ka kb a b (ix2 r s)
      = ∑ j, a (ix2 r j) * ka (ix2 s j) + ∑ j, b (ix2 r j) * kb (ix2 s j) := by
  pointwise [k1_pay22]

/-- Head 15. -/
theorem head15_at (kn : FVec Ideal S2048x64 .f32) (w : FVec Ideal S256x16 .f32)
    (acc p : FVec Ideal S256x2048 .f32) (n : FVec Ideal S256x64 .f32) (r : Fin 256) (s : Fin 2048) :
    k1_pay1 (F := Ideal) kn w acc p n (ix2 r s) = acc (ix2 r s)
      + term (p (ix2 r s) + ∑ j, n (ix2 r j) * kn (ix2 s j)) (w (ix2 r 15)) := by
  pointwise [k1_pay1]
  try rfl

theorem wts_id (w : FVec Ideal S256x16 .f32) (r : Fin 256) (h : Fin 16) :
    k1_pay6 (F := Ideal) w (ix2 r h) = w (ix2 r h) := by pointwise [k1_pay6]

set_option maxHeartbeats 3200000 in
/-- One block of the logits call. -/
theorem logit_block (x0 x1 : Vec Ideal S256x512 .f32) (x2 : Vec Ideal S256x1024 .f32) (x3 : Vec Ideal S2048x128 .f32)
    (x4 : Vec Ideal S256x16 .f32) (x5 : Vec Ideal S256x2048 .f32) (y : S256x2048.Idx) :
    out1_6 (F := Ideal) x0 x1 x2 x3 x4 x5 y
      = logit (fun j => x0 (ix2 (y 0) j)) (fun j => x1 (ix2 (y 0) j)) (fun j => x2 (ix2 (y 0) j)) (fun j => x3 (ix2 (y 1) j))
          (fun j => x4 (ix2 (y 0) j)) (x5 (ix2 (y 0) (y 1))) := by
  unfold out1_6 k1_pay26 k1_pay25 k1_pay24 k1_pay23
  canon_tiles x h
  obtain ⟨r, c, rfl⟩ : ∃ (r : Fin 256) (c : Fin 2048), x = ix2 r c := ⟨x 0, x 1, by funext i; fin_cases i <;> rfl⟩
  have e0 : y 0 = r := Fin.ext h0
  have e1 : y 1 = c := Fin.ext h1
  rw [e0, e1]
  clear h0 h1 e0 e1
  refine (head15_at _ _ _ _ _ r c).trans ?_
  simp only [heads13_at, heads11_at, heads9_at, heads7_at, heads5_at, heads3_at, heads1_at, head0_at, start15_at, start13_at,
    start11_at, start9_at, start7_at, start5_at, start3_at, start1_at, ka_at, kb_at, kn_at, wts_id]
  simp only [logit, sum16, ← add_assoc, dot3]
  pointwise

variable (V : (c : Dev nD) → (b : Ref sig .tc) → Buf (Elt Ideal) ((c : Thread nD τ).loc b))

/-- Where each window's block lies at point `t`. -/
theorem idx1 : ∀ t : Fin cfg1.N, win1_0.index t = ![t.val, 0] ∧ win1_1.index t = ![t.val, 0] ∧ win1_2.index t = ![t.val, 0]
    ∧ win1_3.index t = ![0, 0] ∧ win1_4.index t = ![t.val, 0] ∧ win1_5.index t = ![t.val, 0] ∧ win1_6.index t = ![t.val, 0] :=
  (by decide +kernel : ∀ t : Fin grid1.N, _)

set_option maxHeartbeats 1600000 in
/-- The array of logits, from the arrays the call finds. -/
theorem logit_array (c : Dev nD) : (dat1 V c).arrAt 6 cfg1.N = fun j : S2048x2048.Idx =>
    logit (fun k => V c main_v136_3 (ix2 (j 0) k)) (fun k => V c main_v136_4 (ix2 (j 0) k)) (fun k => V c main_v136_5 (ix2 (j 0) k))
      (fun k => V c main_v136_9 (ix2 (j 1) k)) (fun k => V c main_v136_10 (ix2 (j 0) k)) (V c main_v1 (ix2 (j 0) (j 1))) := by
  refine (dat1 V c).arrAt_eq_of_covers 6 _ (by decide +kernel) fun t _ y => ?_
  blk_simp
  rw [after1_6]
  refine (logit_block _ _ _ _ _ _ y).trans ?_
  refine logit_congr (fun k => ?_) (fun k => ?_) (fun k => ?_) (fun k => ?_) (fun k => ?_) ?_
  all_goals blk_ext [iblk1, idx1 t]

end Cert.Mla
-- ==== Proof.OutProduct.lean ====
/- The output product's call: what the result array holds after it. -/
module

public import proofs.«01_k».proof.Proof.KernelIdealRegionsB
public import Idealize.ShloMosaic.Lib.Pipeline.ValueKit
public import Idealize.ShloMosaic.Lib.Pointwise
public import Idealize.ShloMosaic.Lib.Claim

@[expose] public section

set_option maxRecDepth 16384

noncomputable section

namespace Cert.Mla

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Where each window's block lies at point `t`. -/
theorem idx3 : ∀ t : Fin cfg3.N, win3_0.index t = ![t.val, 0] ∧ win3_1.index t = ![0, 0] ∧ win3_2.index t = ![t.val, 0] :=
  (by decide +kernel : ∀ t : Fin grid3.N, _)

/-- One entry of a product of a row with a column. -/
def dotRow (a b : Fin 2048 → EReal) : EReal := ∑ k, a k * b k

/-- The result array, from the arrays the call finds. -/
theorem out_array (c : Dev nD) : (dat3 V c).arrAt 2 cfg3.N = fun j : S2048x2048.Idx =>
    dotRow (fun k => V c main_v138 (ix2 (j 0) k)) (fun k => V c main_v131 (ix2 k (j 1))) := by
  refine (dat3 V c).arrAt_eq_of_covers 2 _ (by decide +kernel) fun t _ y => ?_
  blk_simp
  rw [after3_2]
  frame_out
  pointwise [k3_pay1, dotRow]
  blk_point [iblk3, idx3 t]

end Cert.Mla
-- ==== Proof.Head.lean ====
/- Plain formulas of the attention call: the softmax of one query row, the score of one head, and the value one head
   of one row gives. The kernel's payload for one head is that formula. -/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.Mla

open Idealize.ShloMosaic Idealize.ShloMosaic.TcCoe Idealize.SL.Sem
open Cert.KernelIdeal Cert.KernelIdeal.Gen

/-- The largest score of a row. -/
def top (s : Fin 2048 → EReal) : EReal := Finset.fold max (Ideal.ofBits .f32 0xFF800000#32) s Finset.univ

/-- The softmax weight of column `x` in the row of scores `s`. -/
def wgt (s : Fin 2048 → EReal) (x : Fin 2048) : EReal :=
  Ideal.div (Ideal.exp (s x - top s)) (∑ y, Ideal.exp (s y - top s))

/-- The score of a query (parts `q`, `a`, `b`) against a key (parts `k`, `ka`, `kb`), scaled and masked by `m`. -/
def score (q k : Fin 128 → EReal) (a ka b kb : Fin 32 → EReal) (m : EReal) : EReal :=
  (∑ j, q j * k j + ∑ j, a j * ka j + ∑ j, b j * kb j) * Ideal.ofBits .f32 0x3E0A7AB9#32 + m

/-- The mask of one entry: the selection by the threshold plus the causal mask. -/
def pick (lg th am : EReal) : EReal := (if th ≤ lg then 0 else Ideal.ofBits .f32 0xCE6E6B28#32) + am

/-- The attention output of one query row in head `h` at value column `d`, from that row's queries, logits, causal mask
    and threshold, and from all keys and values. -/
def attn (qn : Fin 2048 → EReal) (qa qb : Fin 512 → EReal) (lg : Fin 2048 → EReal) (th : EReal) (am : Fin 2048 → EReal)
    (kn : Fin 2048 → Fin 2048 → EReal) (kp : Fin 2048 → Fin 64 → EReal) (v : Fin 2048 → Fin 2048 → EReal)
    (h : Fin 16) (d : Fin 128) : EReal :=
  ∑ x, wgt (fun s => score (fun k => qn ⟨128 * h + k, by omega⟩) (fun k => kn s ⟨128 * h + k, by omega⟩)
      (fun k => qa ⟨32 * h + k, by omega⟩) (fun k => kp s ⟨k, by omega⟩)
      (fun k => qb ⟨32 * h + k, by omega⟩) (fun k => kp s ⟨32 + k, by omega⟩)
      (pick (lg s) th (am s))) x * v x ⟨128 * h + d, by omega⟩

/-- One head's payload at row `r`, value column `d`. -/
theorem head_at (v10 : FVec Ideal S256x2048 .f32) (v13 v14 : FVec Ideal S2048x32 .f32) (v73 : FVec Ideal S256x128 .f32)
    (v75 : FVec Ideal S2048x128 .f32) (v78 v82 : FVec Ideal S256x32 .f32) (v98 : FVec Ideal S2048x128 .f32)
    (r : Fin 256) (d : Fin 128) :
    k2_pay9 v10 v13 v14 v73 v75 v78 v82 v98 (ix2 r d)
      = ∑ x, wgt (fun s => score (fun k => v73 (ix2 r k)) (fun k => v75 (ix2 s k)) (fun k => v78 (ix2 r k))
          (fun k => v13 (ix2 s k)) (fun k => v82 (ix2 r k)) (fun k => v14 (ix2 s k)) (v10 (ix2 r s))) x * v98 (ix2 x d) := by
  pointwise [k2_pay9]
  rfl

/-- The mask payload at row `r`, column `s`. -/
theorem mask_at (v0 : FVec Ideal S256x2048 .f32) (v2 : FVec Ideal S256x1 .f32) (v8 : FVec Ideal S256x2048 .f32)
    (r : Fin 256) (s : Fin 2048) :
    (k2_pay2 (F := Ideal) v0 v2 v8 : FVec Ideal S256x2048 .f32) (ix2 r s)
      = pick (v0 (ix2 r s)) (v2 (ix2 r 0)) (v8 (ix2 r s)) := by
  pointwise [k2_pay2]
  rfl

/-- The two halves of the rotated keys. -/
theorem half_a (v : FVec Ideal S2048x64 .f32) (s : Fin 2048) (k : Fin 32) :
    k2_pay4 (F := Ideal) v (ix2 s k) = v (ix2 s ⟨k, by omega⟩) := by
  pointwise [k2_pay4, k2_pay3]

theorem half_b (v : FVec Ideal S2048x64 .f32) (s : Fin 2048) (k : Fin 32) :
    k2_pay5 (F := Ideal) v (ix2 s k) = v (ix2 s ⟨32 + k, by omega⟩) := by
  pointwise [k2_pay5, k2_pay3]

end Cert.Mla
-- ==== Proof.Args.lean ====
/- The arguments as plain functions, and the kernel's two results as plain formulas of them. -/
module

public import proofs.«01_k».proof.Proof.Proj
public import proofs.«01_k».proof.Proof.Logits
public import proofs.«01_k».proof.Proof.OutProduct
public import proofs.«01_k».proof.Proof.Head

@[expose] public section

noncomputable section

namespace Cert.Mla

/-- Row of the query weight that column `n` of the arranged one holds. -/
def rowUp (n : Fin 3072) : Fin 3072 :=
  if h : n.val < 2048 then ⟨n / 128 * 192 + n % 128, by omega⟩
  else if h : n.val < 2560 then ⟨(n - 2048) / 32 * 192 + 128 + 2 * ((n - 2048) % 32), by omega⟩
  else ⟨(n - 2560) / 32 * 192 + 128 + 2 * ((n - 2560) % 32) + 1, by omega⟩

/-- Row of the key/value weight that column `n` of the arranged one holds. -/
def rowKv (n : Fin 320) : Fin 320 :=
  if h : n.val < 256 then n
  else if h : n.val < 288 then ⟨256 + 2 * (n - 256), by omega⟩
  else ⟨256 + 2 * (n - 288) + 1, by omega⟩

/-- Row of the index query weight that column `n` of the arranged one holds. -/
def rowIq (n : Fin 2048) : Fin 2048 :=
  if h : n.val < 512 then ⟨n / 32 * 128 + n % 32, by omega⟩
  else if h : n.val < 1024 then ⟨(n - 512) / 32 * 128 + 32 + (n - 512) % 32, by omega⟩
  else ⟨(n - 1024) / 64 * 128 + 64 + (n - 1024) % 64, by omega⟩

/-- The arguments, and the two tables of the rotation. -/
structure Args where
  x : Fin 2048 → Fin 2048 → EReal
  am : Fin 2048 → Fin 2048 → EReal
  wqd : Fin 512 → Fin 2048 → EReal
  qln : Fin 512 → EReal
  wqup : Fin 3072 → Fin 512 → EReal
  wkv : Fin 320 → Fin 2048 → EReal
  kvln : Fin 256 → EReal
  wkup : Fin 2048 → Fin 256 → EReal
  wvup : Fin 2048 → Fin 256 → EReal
  wproj : Fin 2048 → Fin 2048 → EReal
  iqb : Fin 2048 → Fin 512 → EReal
  iki : Fin 128 → Fin 2048 → EReal
  kiw : Fin 128 → EReal
  kib : Fin 128 → EReal
  wwp : Fin 16 → Fin 2048 → EReal
  th : Fin 2048 → EReal
  cos : Fin 2048 → Fin 32 → EReal
  sin : Fin 2048 → Fin 32 → EReal

namespace Args

variable (a : Args)

/-- The low-rank rows. -/
def qr (i : Fin 2048) : Fin 512 → EReal := qrS (a.x i) (fun k n => a.wqd n k) a.qln
def kv (i : Fin 2048) : Fin 256 → EReal := kvS (a.x i) (fun k n => a.wkv (rowKv n) k) a.kvln

/-- The tables repeated for each head. -/
def cosr (i : Fin 2048) (k : Fin 512) : EReal := a.cos i ⟨k % 32, by omega⟩
def sinr (i : Fin 2048) (k : Fin 512) : EReal := a.sin i ⟨k % 32, by omega⟩

/-- What the projection call leaves. -/
def qn (i : Fin 2048) : Fin 2048 → EReal := qnS (a.qr i) (fun k n => a.wqup (rowUp n) k)
def qpa (i : Fin 2048) : Fin 512 → EReal := qpaS (a.qr i) (fun k n => a.wqup (rowUp n) k) (a.cosr i) (a.sinr i)
def qpb (i : Fin 2048) : Fin 512 → EReal := qpbS (a.qr i) (fun k n => a.wqup (rowUp n) k) (a.cosr i) (a.sinr i)
def qia (i : Fin 2048) : Fin 512 → EReal := qiaS (a.qr i) (fun k n => a.iqb (rowIq n) k) (a.cosr i) (a.sinr i)
def qib (i : Fin 2048) : Fin 512 → EReal := qibS (a.qr i) (fun k n => a.iqb (rowIq n) k) (a.cosr i) (a.sinr i)
def qin (i : Fin 2048) : Fin 1024 → EReal := qinS (a.qr i) (fun k n => a.iqb (rowIq n) k)
def kn (i : Fin 2048) : Fin 2048 → EReal := lin (a.kv i) (fun k n => a.wkup n k)
def v (i : Fin 2048) : Fin 2048 → EReal := lin (a.kv i) (fun k n => a.wvup n k)
def kpe (i : Fin 2048) : Fin 64 → EReal := kpeS (a.x i) (fun k n => a.wkv (rowKv n) k) (a.cos i) (a.sin i)
def kidx (i : Fin 2048) : Fin 128 → EReal := rotRow (kiS (a.x i) (fun k n => a.iki n k) a.kiw a.kib) (a.cos i) (a.sin i)
def wts (i : Fin 2048) : Fin 16 → EReal := wtsS (a.x i) (fun k n => a.wwp n k)

/-- The index logits. -/
def logK (i j : Fin 2048) : EReal := logit (a.qia i) (a.qib i) (a.qin i) (a.kidx j) (a.wts i) (a.am i j)

/-- The attention output. -/
def attK (i : Fin 2048) (h : Fin 16) (d : Fin 128) : EReal :=
  attn (a.qn i) (a.qpa i) (a.qpb i) (a.logK i) (a.th i) (a.am i) a.kn a.kpe a.v h d

/-- The result. -/
def outK (i j : Fin 2048) : EReal :=
  dotRow (fun k => a.attK i ⟨k / 128, by omega⟩ ⟨k % 128, by omega⟩) (fun k => a.wproj j k)

end Args

end Cert.Mla
-- ==== Proof.Host.lean ====
/- The host's arrangement of the arguments for the kernel's calls, read entry by entry. -/
module

public import proofs.«01_k».proof.Proof.KernelIdealRun
public import proofs.«01_k».proof.Proof.Args
public import Idealize.ShloMosaic.Lib.StableHlo.Run
public import Idealize.ShloMosaic.Lib.Pointwise
public import Idealize.ShloMosaic.Lib.Claim
public import Idealize.ShloMosaic.Lib.Routing.Ops

@[expose] public section

set_option maxRecDepth 16384

noncomputable section

namespace Cert.Mla

open Idealize.ShloMosaic Idealize.ShloMosaic.TcCoe Idealize.SL.Sem
open Cert.KernelIdeal Cert.KernelIdeal.Gen
open Idealize.ShloMosaic.Routing (gather_row)

/-- Operations cut in two run one part after the other. -/
theorem after_cut (l₁ l₂ : List (HloOp τ sig (Elt Ideal))) : ∀ V : Valuation τ sig (Elt Ideal),
    StableHlo.after (l₁ ++ l₂) V = StableHlo.after l₂ (StableHlo.after l₁ V) := by
  induction l₁ with
  | nil => exact fun V => rfl
  | cons o l ih => exact fun V => ih _

theorem after_at (n : ℕ) (V : Valuation τ sig (Elt Ideal)) :
    StableHlo.after hostOps0 V = StableHlo.after (hostOps0.drop n) (StableHlo.after (hostOps0.take n) V) := by
  rw [← after_cut, List.take_append_drop]

/-- A row number that is not negative is taken as it is. -/
theorem word_pick (w x : BitVec 32) (m : ℕ) (hw : w = BitVec.ofNat 32 m) (h : m < 2 ^ 31) :
    Scalar.select (IntOp.cmpi .slt w 0#32) x w = BitVec.ofNat 32 m := by
  subst hw
  have e : (BitVec.ofNat 32 m).slt 0#32 = false := by
    have hm : (BitVec.ofNat 32 m).toNat = m := by rw [BitVec.toNat_ofNat]; omega
    rw [BitVec.slt, decide_eq_false_iff_not, BitVec.toInt_eq_toNat_cond, hm, if_pos (by omega)]
    simp
  simp [Scalar.select, IntOp.cmpi, e]

variable (A : Valuation τ sig (Elt Ideal))

set_option maxHeartbeats 2000000 in
theorem host_x (r k : Fin 2048) : (StableHlo.after hostOps0 A (Proc.devRef .tc main_v0) : FVec Ideal S2048x2048 .f32) (ix2 r k)
    = (A (Proc.devRef .tc main_arg0) : FVec Ideal S2048x1x2048 .f32) (ix3 r 0 k) := by
  after_results_simp
  pointwise

set_option maxHeartbeats 2000000 in
theorem host_mask (r k : Fin 2048) : (StableHlo.after hostOps0 A (Proc.devRef .tc main_v1) : FVec Ideal S2048x2048 .f32) (ix2 r k)
    = (A (Proc.devRef .tc main_arg1) : FVec Ideal S1x1x2048x2048 .f32) (ix4 0 0 r k) := by
  after_results_simp
  pointwise

set_option maxHeartbeats 2000000 in
theorem host_qd (k : Fin 2048) (n : Fin 512) : (StableHlo.after hostOps0 A (Proc.devRef .tc main_v127) : FVec Ideal S2048x512 .f32) (ix2 k n)
    = (A (Proc.devRef .tc main_arg2) : FVec Ideal S512x2048 .f32) (ix2 n k) := by
  after_results_simp
  pointwise

set_option maxHeartbeats 2000000 in
theorem host_kup (k : Fin 256) (n : Fin 2048) : (StableHlo.after hostOps0 A (Proc.devRef .tc main_v128) : FVec Ideal S256x2048 .f32) (ix2 k n)
    = (A (Proc.devRef .tc main_arg7) : FVec Ideal S2048x256 .f32) (ix2 n k) := by
  after_results_simp
  pointwise

set_option maxHeartbeats 2000000 in
theorem host_vup (k : Fin 256) (n : Fin 2048) : (StableHlo.after hostOps0 A (Proc.devRef .tc main_v129) : FVec Ideal S256x2048 .f32) (ix2 k n)
    = (A (Proc.devRef .tc main_arg8) : FVec Ideal S2048x256 .f32) (ix2 n k) := by
  after_results_simp
  pointwise

set_option maxHeartbeats 2000000 in
theorem host_wp (k : Fin 2048) (n : Fin 16) : (StableHlo.after hostOps0 A (Proc.devRef .tc main_v130) : FVec Ideal S2048x16 .f32) (ix2 k n)
    = (A (Proc.devRef .tc main_arg14) : FVec Ideal S16x2048 .f32) (ix2 n k) := by
  after_results_simp
  pointwise

set_option maxHeartbeats 2000000 in
theorem host_proj (k n : Fin 2048) : (StableHlo.after hostOps0 A (Proc.devRef .tc main_v131) : FVec Ideal S2048x2048 .f32) (ix2 k n)
    = (A (Proc.devRef .tc main_arg9) : FVec Ideal S2048x2048 .f32) (ix2 n k) := by
  after_results_simp
  pointwise

set_option maxHeartbeats 2000000 in
theorem host_ki (k : Fin 2048) (n : Fin 128) : (StableHlo.after hostOps0 A (Proc.devRef .tc main_v126) : FVec Ideal S2048x128 .f32) (ix2 k n)
    = (A (Proc.devRef .tc main_arg11) : FVec Ideal S128x2048 .f32) (ix2 n k) := by
  after_results_simp
  pointwise

set_option maxHeartbeats 2000000 in
theorem host_qln (k : Fin 512) : (StableHlo.after hostOps0 A (Proc.devRef .tc main_v132) : FVec Ideal S1x512 .f32) (ix2 0 k)
    = (A (Proc.devRef .tc main_arg3) : FVec Ideal S512 .f32) (ix1 k) := by
  after_results_simp
  pointwise

set_option maxHeartbeats 2000000 in
theorem host_kvln (k : Fin 256) : (StableHlo.after hostOps0 A (Proc.devRef .tc main_v133) : FVec Ideal S1x256 .f32) (ix2 0 k)
    = (A (Proc.devRef .tc main_arg6) : FVec Ideal S256 .f32) (ix1 k) := by
  after_results_simp
  pointwise

set_option maxHeartbeats 2000000 in
theorem host_kilnw (k : Fin 128) : (StableHlo.after hostOps0 A (Proc.devRef .tc main_v134) : FVec Ideal S1x128 .f32) (ix2 0 k)
    = (A (Proc.devRef .tc main_arg12) : FVec Ideal S128 .f32) (ix1 k) := by
  after_results_simp
  pointwise

set_option maxHeartbeats 2000000 in
theorem host_kilnb (k : Fin 128) : (StableHlo.after hostOps0 A (Proc.devRef .tc main_v135) : FVec Ideal S1x128 .f32) (ix2 0 k)
    = (A (Proc.devRef .tc main_arg13) : FVec Ideal S128 .f32) (ix1 k) := by
  after_results_simp
  pointwise

set_option maxHeartbeats 2000000 in
theorem host_cosr (r : Fin 2048) (k : Fin 512) : (StableHlo.after hostOps0 A (Proc.devRef .tc main_v23) : FVec Ideal S2048x512 .f32) (ix2 r k)
    = (StableHlo.after hostOps0 A (Proc.devRef .tc main_v19) : FVec Ideal S2048x32 .f32) (ix2 r ⟨k % 32, by omega⟩) := by
  after_results_simp
  pointwise

set_option maxHeartbeats 2000000 in
theorem host_sinr (r : Fin 2048) (k : Fin 512) : (StableHlo.after hostOps0 A (Proc.devRef .tc main_v26) : FVec Ideal S2048x512 .f32) (ix2 r k)
    = (StableHlo.after hostOps0 A (Proc.devRef .tc main_v20) : FVec Ideal S2048x32 .f32) (ix2 r ⟨k % 32, by omega⟩) := by
  after_results_simp
  pointwise

set_option maxHeartbeats 2000000 in
theorem take_46 (i : Fin 2048) : (StableHlo.after (hostOps0.take 73) A (Proc.devRef .tc main_v46) : IVec S2048 32) (ix1 i)
    = BitVec.ofNat 32 (i / 128 * 192 + i % 128) := by
  simp only [hostOps0, List.take_succ_cons, List.take_zero]
  after_results_simp
  pointwise
  simp only [IntOp.addi, IntOp.muli, BitVec.ofNat_add, BitVec.ofNat_mul]
  try simp only [BitVec.zero_add]
  try rw [BitVec.add_comm 1#32, ← BitVec.add_assoc]

set_option maxHeartbeats 2000000 in
theorem take_53 (i : Fin 512) : (StableHlo.after (hostOps0.take 73) A (Proc.devRef .tc main_v53) : IVec S512 32) (ix1 i)
    = BitVec.ofNat 32 (i / 32 * 192 + 128 + 2 * (i % 32)) := by
  simp only [hostOps0, List.take_succ_cons, List.take_zero]
  after_results_simp
  pointwise
  simp only [IntOp.addi, IntOp.muli, BitVec.ofNat_add, BitVec.ofNat_mul]
  try simp only [BitVec.zero_add]
  try rw [BitVec.add_comm 1#32, ← BitVec.add_assoc]

set_option maxHeartbeats 2000000 in
theorem take_60 (i : Fin 512) : (StableHlo.after (hostOps0.take 73) A (Proc.devRef .tc main_v60) : IVec S512 32) (ix1 i)
    = BitVec.ofNat 32 (i / 32 * 192 + 128 + 2 * (i % 32) + 1) := by
  simp only [hostOps0, List.take_succ_cons, List.take_zero]
  after_results_simp
  pointwise
  simp only [IntOp.addi, IntOp.muli, BitVec.ofNat_add, BitVec.ofNat_mul]
  try simp only [BitVec.zero_add]
  try rw [BitVec.add_comm 1#32, ← BitVec.add_assoc]

set_option maxHeartbeats 2000000 in
theorem take_100 (i : Fin 512) : (StableHlo.after (hostOps0.take 140) A (Proc.devRef .tc main_v100) : IVec S512 32) (ix1 i)
    = BitVec.ofNat 32 (i / 32 * 128 + i % 32) := by
  simp only [hostOps0, List.take_succ_cons, List.take_zero]
  after_results_simp
  pointwise
  simp only [IntOp.addi, IntOp.muli, BitVec.ofNat_add, BitVec.ofNat_mul]
  try simp only [BitVec.zero_add]
  try rw [BitVec.add_comm 1#32, ← BitVec.add_assoc]

set_option maxHeartbeats 2000000 in
theorem take_108 (i : Fin 512) : (StableHlo.after (hostOps0.take 140) A (Proc.devRef .tc main_v108) : IVec S512 32) (ix1 i)
    = BitVec.ofNat 32 (i / 32 * 128 + 32 + i % 32) := by
  simp only [hostOps0, List.take_succ_cons, List.take_zero]
  after_results_simp
  pointwise
  simp only [IntOp.addi, IntOp.muli, BitVec.ofNat_add, BitVec.ofNat_mul]
  try simp only [BitVec.zero_add]
  try rw [BitVec.add_comm 1#32, ← BitVec.add_assoc]

set_option maxHeartbeats 2000000 in
theorem take_116 (i : Fin 1024) : (StableHlo.after (hostOps0.take 140) A (Proc.devRef .tc main_v116) : IVec S1024 32) (ix1 i)
    = BitVec.ofNat 32 (i / 64 * 128 + 64 + i % 64) := by
  simp only [hostOps0, List.take_succ_cons, List.take_zero]
  after_results_simp
  pointwise
  simp only [IntOp.addi, IntOp.muli, BitVec.ofNat_add, BitVec.ofNat_mul]
  try simp only [BitVec.zero_add]
  try rw [BitVec.add_comm 1#32, ← BitVec.add_assoc]

set_option maxHeartbeats 2000000 in
theorem rest_69 (h46 : ∀ i : Fin 2048, (A (Proc.devRef .tc main_v46) : IVec S2048 32) (ix1 i) = BitVec.ofNat 32 (i / 128 * 192 + i % 128))
    (h53 : ∀ i : Fin 512, (A (Proc.devRef .tc main_v53) : IVec S512 32) (ix1 i) = BitVec.ofNat 32 (i / 32 * 192 + 128 + 2 * (i % 32)))
    (h60 : ∀ i : Fin 512, (A (Proc.devRef .tc main_v60) : IVec S512 32) (ix1 i) = BitVec.ofNat 32 (i / 32 * 192 + 128 + 2 * (i % 32) + 1))
    (k : Fin 512) (n : Fin 3072) :
    (StableHlo.after (hostOps0.drop 73) A (Proc.devRef .tc main_v69) : FVec Ideal S512x3072 .f32) (ix2 k n)
      = (A (Proc.devRef .tc main_arg4) : FVec Ideal S3072x512 .f32) (ix2 (rowUp n) k) := by
  simp only [hostOps0, List.drop_succ_cons, List.drop_zero]
  after_results_simp
  pointwise
  refine gather_row _ rfl rfl rfl rfl rfl _ _ n k (rowUp n) ?_ (by norm_num)
  pointwise
  refine word_pick _ _ _ ?_ (lt_trans (rowUp n).isLt (by norm_num))
  by_cases h : n.val < 2048
  · exact (dif_pos h).trans ((h46 _).trans (by simp [rowUp, h]))
  refine (dif_neg h).trans ?_
  by_cases h2 : n.val - 2048 < 512
  · refine (dif_pos h2).trans ((h53 _).trans ?_)
    rw [rowUp, dif_neg h, dif_pos (by omega)]
  · refine (dif_neg h2).trans ((h60 _).trans ?_)
    rw [rowUp, dif_neg h, dif_neg (by omega)]
    simp only [show n.val - 2048 - 512 = n.val - 2560 by omega]

set_option maxHeartbeats 2000000 in
theorem rest_125 (h100 : ∀ i : Fin 512, (A (Proc.devRef .tc main_v100) : IVec S512 32) (ix1 i) = BitVec.ofNat 32 (i / 32 * 128 + i % 32))
    (h108 : ∀ i : Fin 512, (A (Proc.devRef .tc main_v108) : IVec S512 32) (ix1 i) = BitVec.ofNat 32 (i / 32 * 128 + 32 + i % 32))
    (h116 : ∀ i : Fin 1024, (A (Proc.devRef .tc main_v116) : IVec S1024 32) (ix1 i) = BitVec.ofNat 32 (i / 64 * 128 + 64 + i % 64))
    (k : Fin 512) (n : Fin 2048) :
    (StableHlo.after (hostOps0.drop 140) A (Proc.devRef .tc main_v125) : FVec Ideal S512x2048 .f32) (ix2 k n)
      = (A (Proc.devRef .tc main_arg10) : FVec Ideal S2048x512 .f32) (ix2 (rowIq n) k) := by
  simp only [hostOps0, List.drop_succ_cons, List.drop_zero]
  after_results_simp
  pointwise
  refine gather_row _ rfl rfl rfl rfl rfl _ _ n k (rowIq n) ?_ (by norm_num)
  pointwise
  refine word_pick _ _ _ ?_ (lt_trans (rowIq n).isLt (by norm_num))
  by_cases h : n.val < 512
  · exact (dif_pos h).trans ((h100 _).trans (by simp [rowIq, h]))
  refine (dif_neg h).trans ?_
  by_cases h2 : n.val - 512 < 512
  · refine (dif_pos h2).trans ((h108 _).trans ?_)
    rw [rowIq, dif_neg h, dif_pos (by omega)]
  · refine (dif_neg h2).trans ((h116 _).trans ?_)
    rw [rowIq, dif_neg h, dif_neg (by omega)]
    simp only [show n.val - 512 - 512 = n.val - 1024 by omega]

set_option maxHeartbeats 2000000 in
theorem take_70 (i : Fin 256) (k : Fin 2048) :
    (StableHlo.after (hostOps0.take 109) A (Proc.devRef .tc main_v70) : FVec Ideal S256x2048 .f32) (ix2 i k)
      = (A (Proc.devRef .tc main_arg5) : FVec Ideal S320x2048 .f32) (ix2 ⟨i, by omega⟩ k) := by
  simp only [hostOps0, List.take_succ_cons, List.take_zero]
  after_results_simp
  pointwise

set_option maxHeartbeats 2000000 in
theorem take_79 (i : Fin 32) (k : Fin 2048) :
    (StableHlo.after (hostOps0.take 109) A (Proc.devRef .tc main_v79) : FVec Ideal S32x2048 .f32) (ix2 i k)
      = (A (Proc.devRef .tc main_arg5) : FVec Ideal S320x2048 .f32) (ix2 ⟨256 + 2 * i, by omega⟩ k) := by
  simp only [hostOps0, List.take_succ_cons, List.take_zero]
  after_results_simp
  pointwise
  refine gather_row _ rfl rfl rfl rfl rfl _ _ i k ⟨256 + 2 * i, by omega⟩ ?_ (by norm_num)
  pointwise
  refine word_pick _ _ (256 + 2 * i.val) ?_ (by omega)
  simp only [IntOp.addi, IntOp.muli, BitVec.ofNat_add, BitVec.ofNat_mul, BitVec.zero_add]

set_option maxHeartbeats 2000000 in
theorem take_88 (i : Fin 32) (k : Fin 2048) :
    (StableHlo.after (hostOps0.take 109) A (Proc.devRef .tc main_v88) : FVec Ideal S32x2048 .f32) (ix2 i k)
      = (A (Proc.devRef .tc main_arg5) : FVec Ideal S320x2048 .f32) (ix2 ⟨256 + 2 * i + 1, by omega⟩ k) := by
  simp only [hostOps0, List.take_succ_cons, List.take_zero]
  after_results_simp
  pointwise
  refine gather_row _ rfl rfl rfl rfl rfl _ _ i k ⟨256 + 2 * i + 1, by omega⟩ ?_ (by norm_num)
  pointwise
  refine word_pick _ _ (256 + 2 * i.val + 1) ?_ (by omega)
  simp only [IntOp.addi, IntOp.muli, BitVec.ofNat_add, BitVec.ofNat_mul]
  rw [BitVec.add_comm 1#32, ← BitVec.add_assoc]

set_option maxHeartbeats 2000000 in
theorem rest_90 (B : FVec Ideal S320x2048 .f32) (h79 : ∀ (i : Fin 32) (k : Fin 2048), (A (Proc.devRef .tc main_v79) : FVec Ideal S32x2048 .f32) (ix2 i k)
      = B (ix2 ⟨256 + 2 * i, by omega⟩ k))
    (h88 : ∀ (i : Fin 32) (k : Fin 2048), (A (Proc.devRef .tc main_v88) : FVec Ideal S32x2048 .f32) (ix2 i k)
      = B (ix2 ⟨256 + 2 * i + 1, by omega⟩ k))
    (h70 : ∀ (i : Fin 256) (k : Fin 2048), (A (Proc.devRef .tc main_v70) : FVec Ideal S256x2048 .f32) (ix2 i k)
      = B (ix2 ⟨i, by omega⟩ k))
    (k : Fin 2048) (n : Fin 320) :
    (StableHlo.after (hostOps0.drop 109) A (Proc.devRef .tc main_v90) : FVec Ideal S2048x320 .f32) (ix2 k n) = B (ix2 (rowKv n) k) := by
  simp only [hostOps0, List.drop_succ_cons, List.drop_zero]
  after_results_simp
  pointwise
  by_cases h : n.val < 256
  · exact (dif_pos h).trans ((h70 _ _).trans (by simp [rowKv, h]))
  refine (dif_neg h).trans ?_
  by_cases h2 : n.val - 256 < 32
  · refine (dif_pos h2).trans ((h79 _ _).trans ?_)
    rw [rowKv, dif_neg h, dif_pos (by omega)]
  · refine (dif_neg h2).trans ((h88 _ _).trans ?_)
    rw [rowKv, dif_neg h, dif_neg (by omega)]
    simp only [show n.val - 256 - 32 = n.val - 288 by omega]

/-- Operations leave the arguments they do not write. -/
theorem keep_take (n : ℕ) (r : Ref sig .tc) (h : r ∉ hostOps0_W) :
    StableHlo.after (hostOps0.take n) A (Proc.devRef .tc r) = A (Proc.devRef .tc r) := by
  refine StableHlo.after_of_writes_sub (W := hostOps0_W) _ _ ?_ h
  exact List.forall_iff_forall_mem.2 fun o ho => List.forall_iff_forall_mem.1 hostOps0_writes o (List.mem_of_mem_take ho)

theorem host_qup (k : Fin 512) (n : Fin 3072) : (StableHlo.after hostOps0 A (Proc.devRef .tc main_v69) : FVec Ideal S512x3072 .f32) (ix2 k n)
    = (A (Proc.devRef .tc main_arg4) : FVec Ideal S3072x512 .f32) (ix2 (rowUp n) k) := by
  rw [after_at 73 A]
  exact (rest_69 _ (take_46 A) (take_53 A) (take_60 A) k n).trans (congrFun (keep_take A 73 main_arg4 (by decide)) _)

theorem host_iqb (k : Fin 512) (n : Fin 2048) : (StableHlo.after hostOps0 A (Proc.devRef .tc main_v125) : FVec Ideal S512x2048 .f32) (ix2 k n)
    = (A (Proc.devRef .tc main_arg10) : FVec Ideal S2048x512 .f32) (ix2 (rowIq n) k) := by
  rw [after_at 140 A]
  exact (rest_125 _ (take_100 A) (take_108 A) (take_116 A) k n).trans (congrFun (keep_take A 140 main_arg10 (by decide)) _)

theorem host_kv (k : Fin 2048) (n : Fin 320) : (StableHlo.after hostOps0 A (Proc.devRef .tc main_v90) : FVec Ideal S2048x320 .f32) (ix2 k n)
    = (A (Proc.devRef .tc main_arg5) : FVec Ideal S320x2048 .f32) (ix2 (rowKv n) k) := by
  rw [after_at 109 A]
  exact rest_90 _ _ (take_79 A) (take_88 A) (take_70 A) k n

end Cert.Mla
-- ==== Proof.ProjArray.lean ====
/- The projection call: what its eleven result arrays hold after it. -/
module

public import proofs.«01_k».proof.Proof.KernelIdealRegionA
public import proofs.«01_k».proof.Proof.Proj
public import Idealize.ShloMosaic.Lib.Claim

@[expose] public section

set_option maxRecDepth 16384

noncomputable section

namespace Cert.Mla

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Where the row blocks lie at point `t`. -/
theorem idx0r : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_17.index t = ![t.val, 0] ∧ win0_18.index t = ![t.val, 0]
    ∧ win0_19.index t = ![t.val, 0] ∧ win0_20.index t = ![t.val, 0] ∧ win0_21.index t = ![t.val, 0] ∧ win0_22.index t = ![t.val, 0]
    ∧ win0_23.index t = ![t.val, 0] ∧ win0_24.index t = ![t.val, 0] ∧ win0_25.index t = ![t.val, 0] ∧ win0_26.index t = ![t.val, 0]
    ∧ win0_27.index t = ![t.val, 0] :=
  (by decide +kernel : ∀ t : Fin grid0.N, _)

/-- The weights' blocks are the whole arrays. -/
theorem idx0w : ∀ t : Fin cfg0.N, win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![0, 0] :=
  (by decide +kernel : ∀ t : Fin grid0.N, _)

/-- The query row of row `i`. -/
def qrV (c : Dev nD) (i : Fin 2048) : Fin 512 → EReal :=
  qrS (fun k => V c main_v0 (ix2 i k)) (fun k n => V c main_v127 (ix2 k n)) (fun k => V c main_v132 (ix2 0 k))

/-- The key/value row of row `i`. -/
def kvV (c : Dev nD) (i : Fin 2048) : Fin 256 → EReal :=
  kvS (fun k => V c main_v0 (ix2 i k)) (fun k n => V c main_v90 (ix2 k n)) (fun k => V c main_v133 (ix2 0 k))

theorem blk0_5 (c : Dev nD) (t : Fin cfg0.N) : iblk0 V c 5 t = V c main_v127 := by
  funext y
  blk_point [iblk0, idx0w t]

theorem blk0_6 (c : Dev nD) (t : Fin cfg0.N) : iblk0 V c 6 t = V c main_v132 := by
  funext y
  blk_point [iblk0, idx0w t]

theorem blk0_7 (c : Dev nD) (t : Fin cfg0.N) : iblk0 V c 7 t = V c main_v69 := by
  funext y
  blk_point [iblk0, idx0w t]

theorem blk0_8 (c : Dev nD) (t : Fin cfg0.N) : iblk0 V c 8 t = V c main_v90 := by
  funext y
  blk_point [iblk0, idx0w t]

theorem blk0_9 (c : Dev nD) (t : Fin cfg0.N) : iblk0 V c 9 t = V c main_v133 := by
  funext y
  blk_point [iblk0, idx0w t]

theorem blk0_10 (c : Dev nD) (t : Fin cfg0.N) : iblk0 V c 10 t = V c main_v128 := by
  funext y
  blk_point [iblk0, idx0w t]

theorem blk0_11 (c : Dev nD) (t : Fin cfg0.N) : iblk0 V c 11 t = V c main_v129 := by
  funext y
  blk_point [iblk0, idx0w t]

theorem blk0_12 (c : Dev nD) (t : Fin cfg0.N) : iblk0 V c 12 t = V c main_v125 := by
  funext y
  blk_point [iblk0, idx0w t]

theorem blk0_13 (c : Dev nD) (t : Fin cfg0.N) : iblk0 V c 13 t = V c main_v126 := by
  funext y
  blk_point [iblk0, idx0w t]

theorem blk0_14 (c : Dev nD) (t : Fin cfg0.N) : iblk0 V c 14 t = V c main_v134 := by
  funext y
  blk_point [iblk0, idx0w t]

theorem blk0_15 (c : Dev nD) (t : Fin cfg0.N) : iblk0 V c 15 t = V c main_v135 := by
  funext y
  blk_point [iblk0, idx0w t]

theorem blk0_16 (c : Dev nD) (t : Fin cfg0.N) : iblk0 V c 16 t = V c main_v130 := by
  funext y
  blk_point [iblk0, idx0w t]

/-- Row `r` of point `t`'s block, in the whole array. -/
def row (t : Fin cfg0.N) (r : Fin 256) : Fin 2048 := ⟨t.val * 256 + r.val, by have := t.isLt; have := r.isLt; change t.val < 8 at *; omega⟩

theorem blk0_0 (c : Dev nD) (t : Fin cfg0.N) (r : Fin 256) (k : Fin 2048) :
    (iblk0 V c 0 t : Vec Ideal S256x2048 .f32) (ix2 r k) = V c main_v0 (ix2 (row t r) k) := by
  blk_point [iblk0, idx0r t, row]

theorem blk0_1 (c : Dev nD) (t : Fin cfg0.N) (r : Fin 256) (k : Fin 32) :
    (iblk0 V c 1 t : Vec Ideal S256x32 .f32) (ix2 r k) = V c main_v19 (ix2 (row t r) k) := by
  blk_point [iblk0, idx0r t, row]

theorem blk0_2 (c : Dev nD) (t : Fin cfg0.N) (r : Fin 256) (k : Fin 32) :
    (iblk0 V c 2 t : Vec Ideal S256x32 .f32) (ix2 r k) = V c main_v20 (ix2 (row t r) k) := by
  blk_point [iblk0, idx0r t, row]

theorem blk0_3 (c : Dev nD) (t : Fin cfg0.N) (r : Fin 256) (k : Fin 512) :
    (iblk0 V c 3 t : Vec Ideal S256x512 .f32) (ix2 r k) = V c main_v23 (ix2 (row t r) k) := by
  blk_point [iblk0, idx0r t, row]

theorem blk0_4 (c : Dev nD) (t : Fin cfg0.N) (r : Fin 256) (k : Fin 512) :
    (iblk0 V c 4 t : Vec Ideal S256x512 .f32) (ix2 r k) = V c main_v26 (ix2 (row t r) k) := by
  blk_point [iblk0, idx0r t, row]

theorem ld_x (x : Vec Ideal S256x2048 .f32) : View.ld x r0_0 = x := by
  funext y; obtain ⟨r, k, rfl⟩ : ∃ r k, y = ix2 r k := ⟨y 0, y 1, by funext i; fin_cases i <;> rfl⟩
  pointwise

theorem qr_blk (c : Dev nD) (t : Fin cfg0.N) (r : Fin 256) (k : Fin 512) :
    k0_pay35 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (ix2 r k) = qrV V c (row t r) k := by
  unfold k0_pay35
  refine (qr_at _ _ _ r k).trans ?_
  pointwise
  simp only [blk0_0 V c t, blk0_5 V c t, blk0_6 V c t]
  rfl

theorem kv_blk (c : Dev nD) (t : Fin cfg0.N) (r : Fin 256) (k : Fin 256) :
    k0_pay36 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (ix2 r k) = kvV V c (row t r) k := by
  unfold k0_pay36
  refine (kv_at _ _ _ r k).trans ?_
  pointwise
  simp only [blk0_0 V c t, blk0_8 V c t, blk0_9 V c t]
  rfl

theorem qn_array (c : Dev nD) : (dat0 V c).arrAt 17 cfg0.N = fun j : S2048x2048.Idx =>
    qnS (qrV V c (j 0)) (fun k n => V c main_v69 (ix2 k n)) (j 1) := by
  refine (dat0 V c).arrAt_eq_of_covers 17 _ (by decide +kernel) fun t _ y => ?_
  obtain ⟨r, j, rfl⟩ : ∃ (r : Fin 256) (j : Fin 2048), y = ix2 r j := ⟨y 0, y 1, by funext i; fin_cases i <;> rfl⟩
  have hi : ((View.whole main_v136_0).slice (win0_17.rect t)).emb (ix2 r j) 0 = row t r := by
    refine Fin.ext ?_
    simp [idx0r t, row]
  have hj : ((View.whole main_v136_0).slice (win0_17.rect t)).emb (ix2 r j) 1 = j := by
    refine Fin.ext ?_
    simp [idx0r t]
  blk_simp
  rw [after0_17]
  frame_out
  refine (qn_at _ _ r j).trans ?_
  rw [hi, hj]
  try pointwise
  simp only [qr_blk V c t]
  simp only [blk0_7 V c t]

theorem qpa_array (c : Dev nD) : (dat0 V c).arrAt 18 cfg0.N = fun j : S2048x512.Idx =>
    qpaS (qrV V c (j 0)) (fun k n => V c main_v69 (ix2 k n)) (fun k => V c main_v23 (ix2 (j 0) k)) (fun k => V c main_v26 (ix2 (j 0) k)) (j 1) := by
  refine (dat0 V c).arrAt_eq_of_covers 18 _ (by decide +kernel) fun t _ y => ?_
  obtain ⟨r, j, rfl⟩ : ∃ (r : Fin 256) (j : Fin 512), y = ix2 r j := ⟨y 0, y 1, by funext i; fin_cases i <;> rfl⟩
  have hi : ((View.whole main_v136_1).slice (win0_18.rect t)).emb (ix2 r j) 0 = row t r := by
    refine Fin.ext ?_
    simp [idx0r t, row]
  have hj : ((View.whole main_v136_1).slice (win0_18.rect t)).emb (ix2 r j) 1 = j := by
    refine Fin.ext ?_
    simp [idx0r t]
  blk_simp
  rw [after0_18]
  frame_out
  unfold k0_pay33 k0_pay34
  refine (qpa_at _ _ _ _ r j).trans ?_
  rw [hi, hj]
  try pointwise
  simp only [qr_blk V c t]
  simp only [blk0_7 V c t, blk0_3 V c t, blk0_4 V c t]

theorem qpb_array (c : Dev nD) : (dat0 V c).arrAt 19 cfg0.N = fun j : S2048x512.Idx =>
    qpbS (qrV V c (j 0)) (fun k n => V c main_v69 (ix2 k n)) (fun k => V c main_v23 (ix2 (j 0) k)) (fun k => V c main_v26 (ix2 (j 0) k)) (j 1) := by
  refine (dat0 V c).arrAt_eq_of_covers 19 _ (by decide +kernel) fun t _ y => ?_
  obtain ⟨r, j, rfl⟩ : ∃ (r : Fin 256) (j : Fin 512), y = ix2 r j := ⟨y 0, y 1, by funext i; fin_cases i <;> rfl⟩
  have hi : ((View.whole main_v136_2).slice (win0_19.rect t)).emb (ix2 r j) 0 = row t r := by
    refine Fin.ext ?_
    simp [idx0r t, row]
  have hj : ((View.whole main_v136_2).slice (win0_19.rect t)).emb (ix2 r j) 1 = j := by
    refine Fin.ext ?_
    simp [idx0r t]
  blk_simp
  rw [after0_19]
  frame_out
  unfold k0_pay33 k0_pay34
  refine (qpb_at _ _ _ _ r j).trans ?_
  rw [hi, hj]
  try pointwise
  simp only [qr_blk V c t]
  simp only [blk0_7 V c t, blk0_3 V c t, blk0_4 V c t]

theorem qia_array (c : Dev nD) : (dat0 V c).arrAt 20 cfg0.N = fun j : S2048x512.Idx =>
    qiaS (qrV V c (j 0)) (fun k n => V c main_v125 (ix2 k n)) (fun k => V c main_v23 (ix2 (j 0) k)) (fun k => V c main_v26 (ix2 (j 0) k)) (j 1) := by
  refine (dat0 V c).arrAt_eq_of_covers 20 _ (by decide +kernel) fun t _ y => ?_
  obtain ⟨r, j, rfl⟩ : ∃ (r : Fin 256) (j : Fin 512), y = ix2 r j := ⟨y 0, y 1, by funext i; fin_cases i <;> rfl⟩
  have hi : ((View.whole main_v136_3).slice (win0_20.rect t)).emb (ix2 r j) 0 = row t r := by
    refine Fin.ext ?_
    simp [idx0r t, row]
  have hj : ((View.whole main_v136_3).slice (win0_20.rect t)).emb (ix2 r j) 1 = j := by
    refine Fin.ext ?_
    simp [idx0r t]
  blk_simp
  rw [after0_20]
  frame_out
  unfold k0_pay33 k0_pay34
  refine (qia_at _ _ _ _ r j).trans ?_
  rw [hi, hj]
  try pointwise
  simp only [qr_blk V c t]
  simp only [blk0_12 V c t, blk0_3 V c t, blk0_4 V c t]

theorem qib_array (c : Dev nD) : (dat0 V c).arrAt 21 cfg0.N = fun j : S2048x512.Idx =>
    qibS (qrV V c (j 0)) (fun k n => V c main_v125 (ix2 k n)) (fun k => V c main_v23 (ix2 (j 0) k)) (fun k => V c main_v26 (ix2 (j 0) k)) (j 1) := by
  refine (dat0 V c).arrAt_eq_of_covers 21 _ (by decide +kernel) fun t _ y => ?_
  obtain ⟨r, j, rfl⟩ : ∃ (r : Fin 256) (j : Fin 512), y = ix2 r j := ⟨y 0, y 1, by funext i; fin_cases i <;> rfl⟩
  have hi : ((View.whole main_v136_4).slice (win0_21.rect t)).emb (ix2 r j) 0 = row t r := by
    refine Fin.ext ?_
    simp [idx0r t, row]
  have hj : ((View.whole main_v136_4).slice (win0_21.rect t)).emb (ix2 r j) 1 = j := by
    refine Fin.ext ?_
    simp [idx0r t]
  blk_simp
  rw [after0_21]
  frame_out
  unfold k0_pay33 k0_pay34
  refine (qib_at _ _ _ _ r j).trans ?_
  rw [hi, hj]
  try pointwise
  simp only [qr_blk V c t]
  simp only [blk0_12 V c t, blk0_3 V c t, blk0_4 V c t]

theorem qin_array (c : Dev nD) : (dat0 V c).arrAt 22 cfg0.N = fun j : S2048x1024.Idx =>
    qinS (qrV V c (j 0)) (fun k n => V c main_v125 (ix2 k n)) (j 1) := by
  refine (dat0 V c).arrAt_eq_of_covers 22 _ (by decide +kernel) fun t _ y => ?_
  obtain ⟨r, j, rfl⟩ : ∃ (r : Fin 256) (j : Fin 1024), y = ix2 r j := ⟨y 0, y 1, by funext i; fin_cases i <;> rfl⟩
  have hi : ((View.whole main_v136_5).slice (win0_22.rect t)).emb (ix2 r j) 0 = row t r := by
    refine Fin.ext ?_
    simp [idx0r t, row]
  have hj : ((View.whole main_v136_5).slice (win0_22.rect t)).emb (ix2 r j) 1 = j := by
    refine Fin.ext ?_
    simp [idx0r t]
  blk_simp
  rw [after0_22]
  frame_out
  refine (qin_at _ _ r j).trans ?_
  rw [hi, hj]
  try pointwise
  simp only [qr_blk V c t]
  simp only [blk0_12 V c t]

theorem kn_array (c : Dev nD) : (dat0 V c).arrAt 23 cfg0.N = fun j : S2048x2048.Idx =>
    lin (kvV V c (j 0)) (fun k n => V c main_v128 (ix2 k n)) (j 1) := by
  refine (dat0 V c).arrAt_eq_of_covers 23 _ (by decide +kernel) fun t _ y => ?_
  obtain ⟨r, j, rfl⟩ : ∃ (r : Fin 256) (j : Fin 2048), y = ix2 r j := ⟨y 0, y 1, by funext i; fin_cases i <;> rfl⟩
  have hi : ((View.whole main_v136_6).slice (win0_23.rect t)).emb (ix2 r j) 0 = row t r := by
    refine Fin.ext ?_
    simp [idx0r t, row]
  have hj : ((View.whole main_v136_6).slice (win0_23.rect t)).emb (ix2 r j) 1 = j := by
    refine Fin.ext ?_
    simp [idx0r t]
  blk_simp
  rw [after0_23]
  frame_out
  refine (kn_at' _ _ r j).trans ?_
  rw [hi, hj]
  try pointwise
  simp only [kv_blk V c t]
  simp only [blk0_10 V c t]

theorem v_array (c : Dev nD) : (dat0 V c).arrAt 24 cfg0.N = fun j : S2048x2048.Idx =>
    lin (kvV V c (j 0)) (fun k n => V c main_v129 (ix2 k n)) (j 1) := by
  refine (dat0 V c).arrAt_eq_of_covers 24 _ (by decide +kernel) fun t _ y => ?_
  obtain ⟨r, j, rfl⟩ : ∃ (r : Fin 256) (j : Fin 2048), y = ix2 r j := ⟨y 0, y 1, by funext i; fin_cases i <;> rfl⟩
  have hi : ((View.whole main_v136_7).slice (win0_24.rect t)).emb (ix2 r j) 0 = row t r := by
    refine Fin.ext ?_
    simp [idx0r t, row]
  have hj : ((View.whole main_v136_7).slice (win0_24.rect t)).emb (ix2 r j) 1 = j := by
    refine Fin.ext ?_
    simp [idx0r t]
  blk_simp
  rw [after0_24]
  frame_out
  refine (v_at _ _ r j).trans ?_
  rw [hi, hj]
  try pointwise
  simp only [kv_blk V c t]
  simp only [blk0_11 V c t]

theorem kpe_array (c : Dev nD) : (dat0 V c).arrAt 25 cfg0.N = fun j : S2048x64.Idx =>
    kpeS (fun k => V c main_v0 (ix2 (j 0) k)) (fun k n => V c main_v90 (ix2 k n)) (fun k => V c main_v19 (ix2 (j 0) k)) (fun k => V c main_v20 (ix2 (j 0) k)) (j 1) := by
  refine (dat0 V c).arrAt_eq_of_covers 25 _ (by decide +kernel) fun t _ y => ?_
  obtain ⟨r, j, rfl⟩ : ∃ (r : Fin 256) (j : Fin 64), y = ix2 r j := ⟨y 0, y 1, by funext i; fin_cases i <;> rfl⟩
  have hi : ((View.whole main_v136_8).slice (win0_25.rect t)).emb (ix2 r j) 0 = row t r := by
    refine Fin.ext ?_
    simp [idx0r t, row]
  have hj : ((View.whole main_v136_8).slice (win0_25.rect t)).emb (ix2 r j) 1 = j := by
    refine Fin.ext ?_
    simp [idx0r t]
  blk_simp
  rw [after0_25]
  frame_out
  unfold k0_pay31 k0_pay32
  refine (kpe_at _ _ _ _ r j).trans ?_
  rw [hi, hj]
  try pointwise
  simp only [blk0_0 V c t, blk0_8 V c t, blk0_1 V c t, blk0_2 V c t]

theorem kidx_array (c : Dev nD) : (dat0 V c).arrAt 26 cfg0.N = fun j : S2048x128.Idx =>
    rotRow (kiS (fun k => V c main_v0 (ix2 (j 0) k)) (fun k n => V c main_v126 (ix2 k n)) (fun k => V c main_v134 (ix2 0 k)) (fun k => V c main_v135 (ix2 0 k))) (fun k => V c main_v19 (ix2 (j 0) k)) (fun k => V c main_v20 (ix2 (j 0) k)) (j 1) := by
  refine (dat0 V c).arrAt_eq_of_covers 26 _ (by decide +kernel) fun t _ y => ?_
  obtain ⟨r, j, rfl⟩ : ∃ (r : Fin 256) (j : Fin 128), y = ix2 r j := ⟨y 0, y 1, by funext i; fin_cases i <;> rfl⟩
  have hi : ((View.whole main_v136_9).slice (win0_26.rect t)).emb (ix2 r j) 0 = row t r := by
    refine Fin.ext ?_
    simp [idx0r t, row]
  have hj : ((View.whole main_v136_9).slice (win0_26.rect t)).emb (ix2 r j) 1 = j := by
    refine Fin.ext ?_
    simp [idx0r t]
  blk_simp
  rw [after0_26]
  frame_out
  unfold k0_pay30 k0_pay31 k0_pay32
  refine (kidx_at _ _ _ _ _ _ r j).trans ?_
  rw [hi, hj]
  try pointwise
  simp only [blk0_0 V c t, blk0_13 V c t, blk0_14 V c t, blk0_15 V c t, blk0_1 V c t, blk0_2 V c t]

theorem wts_array (c : Dev nD) : (dat0 V c).arrAt 27 cfg0.N = fun j : S2048x16.Idx =>
    wtsS (fun k => V c main_v0 (ix2 (j 0) k)) (fun k n => V c main_v130 (ix2 k n)) (j 1) := by
  refine (dat0 V c).arrAt_eq_of_covers 27 _ (by decide +kernel) fun t _ y => ?_
  obtain ⟨r, j, rfl⟩ : ∃ (r : Fin 256) (j : Fin 16), y = ix2 r j := ⟨y 0, y 1, by funext i; fin_cases i <;> rfl⟩
  have hi : ((View.whole main_v136_10).slice (win0_27.rect t)).emb (ix2 r j) 0 = row t r := by
    refine Fin.ext ?_
    simp [idx0r t, row]
  have hj : ((View.whole main_v136_10).slice (win0_27.rect t)).emb (ix2 r j) 1 = j := by
    refine Fin.ext ?_
    simp [idx0r t]
  blk_simp
  rw [after0_27]
  frame_out
  unfold k0_pay30
  refine (wts_at _ _ r j).trans ?_
  rw [hi, hj]
  try pointwise
  simp only [blk0_0 V c t, blk0_16 V c t]

end Cert.Mla
-- ==== Proof.Attention.lean ====
/- The attention call: what one block of rows computes. -/
module

public import proofs.«01_k».proof.Proof.Head
public import proofs.«01_k».proof.Proof.KernelIdealRegionsB

@[expose] public section

set_option maxRecDepth 16384

noncomputable section

namespace Cert.Mla

open Idealize.ShloMosaic Idealize.ShloMosaic.TcCoe Idealize.SL.Sem
open Cert.KernelIdeal Cert.KernelIdeal.Gen

/-- One stored piece: the payload of head `n`, whose loads `q`, `k`, `a`, `b`, `v` are that head's columns of the
    blocks, is the attention output at the cell of the block where the piece lands. -/
theorem head_piece (x0 : Vec Ideal S256x2048 .f32) (x1 x2 : Vec Ideal S256x512 .f32) (x3 : Vec Ideal S256x2048 .f32)
    (x4 : Vec Ideal S256x1 .f32) (x5 : Vec Ideal S256x2048 .f32) (x6 : Vec Ideal S2048x2048 .f32)
    (x7 : Vec Ideal S2048x64 .f32) (x8 : Vec Ideal S2048x2048 .f32) (y : S256x2048.Idx)
    (n : ℕ) (hn : n < 16) (x : S256x128.Idx) (h0 : (y 0).val = (x 0).val) (h1 : (y 1).val = 128 * n + (x 1).val)
    (q : FVec Ideal S256x128 .f32) (k v : FVec Ideal S2048x128 .f32) (a b : FVec Ideal S256x32 .f32)
    (hq : ∀ (r : Fin 256) (j : Fin 128), q (ix2 r j) = x0 (ix2 r ⟨128 * n + j, by omega⟩))
    (hk : ∀ (s : Fin 2048) (j : Fin 128), k (ix2 s j) = x6 (ix2 s ⟨128 * n + j, by omega⟩))
    (ha : ∀ (r : Fin 256) (j : Fin 32), a (ix2 r j) = x1 (ix2 r ⟨32 * n + j, by omega⟩))
    (hb : ∀ (r : Fin 256) (j : Fin 32), b (ix2 r j) = x2 (ix2 r ⟨32 * n + j, by omega⟩))
    (hv : ∀ (s : Fin 2048) (j : Fin 128), v (ix2 s j) = x8 (ix2 s ⟨128 * n + j, by omega⟩)) :
    (k2_pay9 (F := Ideal) (k2_pay2 (View.ld x3 r2_0) (View.ld x4 r2_1) (View.ld x5 r2_0)) (k2_pay4 (View.ld x7 r2_2))
        (k2_pay5 (View.ld x7 r2_2)) q k a b v : FVec Ideal S256x128 .f32) x
      = attn (fun k => x0 (ix2 (y 0) k)) (fun k => x1 (ix2 (y 0) k)) (fun k => x2 (ix2 (y 0) k))
          (fun k => x3 (ix2 (y 0) k)) (x4 (ix2 (y 0) 0)) (fun k => x5 (ix2 (y 0) k))
          (fun s k => x6 (ix2 s k)) (fun s k => x7 (ix2 s k)) (fun s k => x8 (ix2 s k))
          ⟨(y 1).val / 128, by have := (y 1).isLt; simp at this; omega⟩
          ⟨(y 1).val % 128, by omega⟩ := by
  obtain ⟨r, c, rfl⟩ : ∃ (r : Fin 256) (c : Fin 128), x = ix2 r c := ⟨x 0, x 1, by funext i; fin_cases i <;> rfl⟩
  have e0 : y 0 = r := Fin.ext h0
  have h1' : (y 1).val = 128 * n + c.val := h1
  have e1 : (⟨(y 1).val / 128, by have := (y 1).isLt; simp at this; omega⟩ : Fin 16) = ⟨n, hn⟩ := Fin.ext (by simp only; omega)
  have e2 : (⟨(y 1).val % 128, by omega⟩ : Fin 128) = c := Fin.ext (by simp only; omega)
  have l3 : ∀ (r : Fin 256) (s : Fin 2048), View.ld x3 r2_0 (ix2 r s) = x3 (ix2 r s) := fun _ _ => by pointwise
  have l4 : ∀ (r : Fin 256), View.ld x4 r2_1 (ix2 r 0) = x4 (ix2 r 0) := fun _ => by pointwise
  have l5 : ∀ (r : Fin 256) (s : Fin 2048), View.ld x5 r2_0 (ix2 r s) = x5 (ix2 r s) := fun _ _ => by pointwise
  have l7 : ∀ (s : Fin 2048) (k : Fin 64), View.ld x7 r2_2 (ix2 s k) = x7 (ix2 s k) := fun _ _ => by pointwise
  have hm : ∀ s : Fin 2048, (k2_pay2 (F := Ideal) (View.ld x3 r2_0) (View.ld x4 r2_1) (View.ld x5 r2_0)) (ix2 r s)
      = pick (x3 (ix2 r s)) (x4 (ix2 r 0)) (x5 (ix2 r s)) := fun s => (mask_at _ _ _ r s).trans (by rw [l3, l4, l5])
  rw [e1, e2, e0]
  refine (head_at _ _ _ _ _ _ _ _ r c).trans ?_
  simp only [hq, hk, ha, hb, hv, hm, half_a, half_b, l7]
  rfl

/-- Every head's payload, however the kernel's text cuts it, is the one of `k2_pay9`. -/
theorem form15 (m : FVec Ideal S256x2048 .f32) (ka kb : FVec Ideal S2048x32 .f32) (q : FVec Ideal S256x128 .f32)
    (k v : FVec Ideal S2048x128 .f32) (a b : FVec Ideal S256x32 .f32) :
    k2_pay1 (F := Ideal) m kb (k2_pay31 ka q k a) b v = k2_pay9 (F := Ideal) m ka kb q k a b v := rfl

theorem form14 (m : FVec Ideal S256x2048 .f32) (ka kb : FVec Ideal S2048x32 .f32) (q : FVec Ideal S256x128 .f32)
    (k v : FVec Ideal S2048x128 .f32) (a b : FVec Ideal S256x32 .f32) :
    k2_pay30 (F := Ideal) m ka kb (k2_pay28 q) (k2_pay29 k) a b v = k2_pay9 (F := Ideal) m ka kb q k a b v := rfl

theorem form13 (m : FVec Ideal S256x2048 .f32) (ka kb : FVec Ideal S2048x32 .f32) (q : FVec Ideal S256x128 .f32)
    (k v : FVec Ideal S2048x128 .f32) (a b : FVec Ideal S256x32 .f32) :
    k2_pay27 (F := Ideal) m ka kb q k a b v = k2_pay9 (F := Ideal) m ka kb q k a b v := rfl

theorem form12 (m : FVec Ideal S256x2048 .f32) (ka kb : FVec Ideal S2048x32 .f32) (q : FVec Ideal S256x128 .f32)
    (k v : FVec Ideal S2048x128 .f32) (a b : FVec Ideal S256x32 .f32) :
    k2_pay26 (F := Ideal) m ka kb q k a b v = k2_pay9 (F := Ideal) m ka kb q k a b v := rfl

theorem form11 (m : FVec Ideal S256x2048 .f32) (ka kb : FVec Ideal S2048x32 .f32) (q : FVec Ideal S256x128 .f32)
    (k v : FVec Ideal S2048x128 .f32) (a b : FVec Ideal S256x32 .f32) :
    k2_pay25 (F := Ideal) (k2_pay24 m ka kb q k a b) v = k2_pay9 (F := Ideal) m ka kb q k a b v := rfl

theorem form10 (m : FVec Ideal S256x2048 .f32) (ka kb : FVec Ideal S2048x32 .f32) (q : FVec Ideal S256x128 .f32)
    (k v : FVec Ideal S2048x128 .f32) (a b : FVec Ideal S256x32 .f32) :
    k2_pay23 (F := Ideal) m (k2_pay22 ka kb q k a b) v = k2_pay9 (F := Ideal) m ka kb q k a b v := rfl

theorem form9 (m : FVec Ideal S256x2048 .f32) (ka kb : FVec Ideal S2048x32 .f32) (q : FVec Ideal S256x128 .f32)
    (k v : FVec Ideal S2048x128 .f32) (a b : FVec Ideal S256x32 .f32) :
    k2_pay21 (F := Ideal) m ka kb (k2_pay20 q k) a b v = k2_pay9 (F := Ideal) m ka kb q k a b v := rfl

theorem form8 (m : FVec Ideal S256x2048 .f32) (ka kb : FVec Ideal S2048x32 .f32) (q : FVec Ideal S256x128 .f32)
    (k v : FVec Ideal S2048x128 .f32) (a b : FVec Ideal S256x32 .f32) :
    k2_pay19 (F := Ideal) m ka kb q k a b v = k2_pay9 (F := Ideal) m ka kb q k a b v := rfl

theorem form7 (m : FVec Ideal S256x2048 .f32) (ka kb : FVec Ideal S2048x32 .f32) (q : FVec Ideal S256x128 .f32)
    (k v : FVec Ideal S2048x128 .f32) (a b : FVec Ideal S256x32 .f32) :
    k2_pay18 (F := Ideal) m ka kb q k a b v = k2_pay9 (F := Ideal) m ka kb q k a b v := rfl

theorem form6 (m : FVec Ideal S256x2048 .f32) (ka kb : FVec Ideal S2048x32 .f32) (q : FVec Ideal S256x128 .f32)
    (k v : FVec Ideal S2048x128 .f32) (a b : FVec Ideal S256x32 .f32) :
    k2_pay17 (F := Ideal) (k2_pay16 m ka kb q k a b) v = k2_pay9 (F := Ideal) m ka kb q k a b v := rfl

theorem form5 (m : FVec Ideal S256x2048 .f32) (ka kb : FVec Ideal S2048x32 .f32) (q : FVec Ideal S256x128 .f32)
    (k v : FVec Ideal S2048x128 .f32) (a b : FVec Ideal S256x32 .f32) :
    k2_pay15 (F := Ideal) (k2_pay14 m ka kb q k a b) v = k2_pay9 (F := Ideal) m ka kb q k a b v := rfl

theorem form4 (m : FVec Ideal S256x2048 .f32) (ka kb : FVec Ideal S2048x32 .f32) (q : FVec Ideal S256x128 .f32)
    (k v : FVec Ideal S2048x128 .f32) (a b : FVec Ideal S256x32 .f32) :
    k2_pay13 (F := Ideal) m kb (k2_pay12 ka q k a) b v = k2_pay9 (F := Ideal) m ka kb q k a b v := rfl

theorem form3 (m : FVec Ideal S256x2048 .f32) (ka kb : FVec Ideal S2048x32 .f32) (q : FVec Ideal S256x128 .f32)
    (k v : FVec Ideal S2048x128 .f32) (a b : FVec Ideal S256x32 .f32) :
    k2_pay11 (F := Ideal) m ka kb (k2_pay10 q) k a b v = k2_pay9 (F := Ideal) m ka kb q k a b v := rfl

theorem form1 (m : FVec Ideal S256x2048 .f32) (ka kb : FVec Ideal S2048x32 .f32) (q : FVec Ideal S256x128 .f32)
    (k v : FVec Ideal S2048x128 .f32) (a b : FVec Ideal S256x32 .f32) :
    k2_pay8 (F := Ideal) m ka kb q k a b v = k2_pay9 (F := Ideal) m ka kb q k a b v := rfl

theorem form0 (l c : FVec Ideal S256x2048 .f32) (t : FVec Ideal S256x1 .f32) (kp : FVec Ideal S2048x64 .f32)
    (q : FVec Ideal S256x128 .f32) (k v : FVec Ideal S2048x128 .f32) (a b : FVec Ideal S256x32 .f32) :
    k2_pay7 (F := Ideal) (k2_pay6 l t c kp q k a b) v
      = k2_pay9 (F := Ideal) (k2_pay2 l t c) (k2_pay4 kp) (k2_pay5 kp) q k a b v := rfl

/-- One block of the attention call: its 16 stores are the 16 heads. -/
theorem attn_block (x0 : Vec Ideal S256x2048 .f32) (x1 x2 : Vec Ideal S256x512 .f32) (x3 : Vec Ideal S256x2048 .f32)
    (x4 : Vec Ideal S256x1 .f32) (x5 : Vec Ideal S256x2048 .f32) (x6 : Vec Ideal S2048x2048 .f32)
    (x7 : Vec Ideal S2048x64 .f32) (x8 : Vec Ideal S2048x2048 .f32) (y : S256x2048.Idx) :
    out2_9 (F := Ideal) x0 x1 x2 x3 x4 x5 x6 x7 x8 y
      = attn (fun k => x0 (ix2 (y 0) k)) (fun k => x1 (ix2 (y 0) k)) (fun k => x2 (ix2 (y 0) k))
          (fun k => x3 (ix2 (y 0) k)) (x4 (ix2 (y 0) 0)) (fun k => x5 (ix2 (y 0) k))
          (fun s k => x6 (ix2 s k)) (fun s k => x7 (ix2 s k)) (fun s k => x8 (ix2 s k))
          ⟨(y 1).val / 128, by have := (y 1).isLt; simp at this; omega⟩
          ⟨(y 1).val % 128, by omega⟩ := by
  unfold out2_9 k2_pay34 k2_pay33 k2_pay32
  canon_tiles x h
  case piece0 =>
    rw [form15]
    exact head_piece x0 x1 x2 x3 x4 x5 x6 x7 x8 y 15 (by decide) x h0 (h1.trans (by omega)) (View.ld x0 r2_48) (View.ld x6 r2_49) (View.ld x8 r2_49)
      (View.ld x1 r2_50) (View.ld x2 r2_50) (fun _ _ => by pointwise; try blk_ext) (fun _ _ => by pointwise; try blk_ext)
      (fun _ _ => by pointwise; try blk_ext) (fun _ _ => by pointwise; try blk_ext) (fun _ _ => by pointwise; try blk_ext)
  case piece1 =>
    rw [form14]
    exact head_piece x0 x1 x2 x3 x4 x5 x6 x7 x8 y 14 (by decide) x h0 (h1.trans (by omega)) (View.ld x0 r2_45) (View.ld x6 r2_46) (View.ld x8 r2_46)
      (View.ld x1 r2_47) (View.ld x2 r2_47) (fun _ _ => by pointwise; try blk_ext) (fun _ _ => by pointwise; try blk_ext)
      (fun _ _ => by pointwise; try blk_ext) (fun _ _ => by pointwise; try blk_ext) (fun _ _ => by pointwise; try blk_ext)
  case piece2 =>
    rw [form13]
    exact head_piece x0 x1 x2 x3 x4 x5 x6 x7 x8 y 13 (by decide) x h0 (h1.trans (by omega)) (View.ld x0 r2_42) (View.ld x6 r2_43) (View.ld x8 r2_43)
      (View.ld x1 r2_44) (View.ld x2 r2_44) (fun _ _ => by pointwise; try blk_ext) (fun _ _ => by pointwise; try blk_ext)
      (fun _ _ => by pointwise; try blk_ext) (fun _ _ => by pointwise; try blk_ext) (fun _ _ => by pointwise; try blk_ext)
  case piece3 =>
    rw [form12]
    exact head_piece x0 x1 x2 x3 x4 x5 x6 x7 x8 y 12 (by decide) x h0 (h1.trans (by omega)) (View.ld x0 r2_39) (View.ld x6 r2_40) (View.ld x8 r2_40)
      (View.ld x1 r2_41) (View.ld x2 r2_41) (fun _ _ => by pointwise; try blk_ext) (fun _ _ => by pointwise; try blk_ext)
      (fun _ _ => by pointwise; try blk_ext) (fun _ _ => by pointwise; try blk_ext) (fun _ _ => by pointwise; try blk_ext)
  case piece4 =>
    rw [form11]
    exact head_piece x0 x1 x2 x3 x4 x5 x6 x7 x8 y 11 (by decide) x h0 (h1.trans (by omega)) (View.ld x0 r2_36) (View.ld x6 r2_37) (View.ld x8 r2_37)
      (View.ld x1 r2_38) (View.ld x2 r2_38) (fun _ _ => by pointwise; try blk_ext) (fun _ _ => by pointwise; try blk_ext)
      (fun _ _ => by pointwise; try blk_ext) (fun _ _ => by pointwise; try blk_ext) (fun _ _ => by pointwise; try blk_ext)
  case piece5 =>
    rw [form10]
    exact head_piece x0 x1 x2 x3 x4 x5 x6 x7 x8 y 10 (by decide) x h0 (h1.trans (by omega)) (View.ld x0 r2_33) (View.ld x6 r2_34) (View.ld x8 r2_34)
      (View.ld x1 r2_35) (View.ld x2 r2_35) (fun _ _ => by pointwise; try blk_ext) (fun _ _ => by pointwise; try blk_ext)
      (fun _ _ => by pointwise; try blk_ext) (fun _ _ => by pointwise; try blk_ext) (fun _ _ => by pointwise; try blk_ext)
  case piece6 =>
    rw [form9]
    exact head_piece x0 x1 x2 x3 x4 x5 x6 x7 x8 y 9 (by decide) x h0 (h1.trans (by omega)) (View.ld x0 r2_30) (View.ld x6 r2_31) (View.ld x8 r2_31)
      (View.ld x1 r2_32) (View.ld x2 r2_32) (fun _ _ => by pointwise; try blk_ext) (fun _ _ => by pointwise; try blk_ext)
      (fun _ _ => by pointwise; try blk_ext) (fun _ _ => by pointwise; try blk_ext) (fun _ _ => by pointwise; try blk_ext)
  case piece7 =>
    rw [form8]
    exact head_piece x0 x1 x2 x3 x4 x5 x6 x7 x8 y 8 (by decide) x h0 (h1.trans (by omega)) (View.ld x0 r2_27) (View.ld x6 r2_28) (View.ld x8 r2_28)
      (View.ld x1 r2_29) (View.ld x2 r2_29) (fun _ _ => by pointwise; try blk_ext) (fun _ _ => by pointwise; try blk_ext)
      (fun _ _ => by pointwise; try blk_ext) (fun _ _ => by pointwise; try blk_ext) (fun _ _ => by pointwise; try blk_ext)
  case piece8 =>
    rw [form7]
    exact head_piece x0 x1 x2 x3 x4 x5 x6 x7 x8 y 7 (by decide) x h0 (h1.trans (by omega)) (View.ld x0 r2_24) (View.ld x6 r2_25) (View.ld x8 r2_25)
      (View.ld x1 r2_26) (View.ld x2 r2_26) (fun _ _ => by pointwise; try blk_ext) (fun _ _ => by pointwise; try blk_ext)
      (fun _ _ => by pointwise; try blk_ext) (fun _ _ => by pointwise; try blk_ext) (fun _ _ => by pointwise; try blk_ext)
  case piece9 =>
    rw [form6]
    exact head_piece x0 x1 x2 x3 x4 x5 x6 x7 x8 y 6 (by decide) x h0 (h1.trans (by omega)) (View.ld x0 r2_21) (View.ld x6 r2_22) (View.ld x8 r2_22)
      (View.ld x1 r2_23) (View.ld x2 r2_23) (fun _ _ => by pointwise; try blk_ext) (fun _ _ => by pointwise; try blk_ext)
      (fun _ _ => by pointwise; try blk_ext) (fun _ _ => by pointwise; try blk_ext) (fun _ _ => by pointwise; try blk_ext)
  case piece10 =>
    rw [form5]
    exact head_piece x0 x1 x2 x3 x4 x5 x6 x7 x8 y 5 (by decide) x h0 (h1.trans (by omega)) (View.ld x0 r2_18) (View.ld x6 r2_19) (View.ld x8 r2_19)
      (View.ld x1 r2_20) (View.ld x2 r2_20) (fun _ _ => by pointwise; try blk_ext) (fun _ _ => by pointwise; try blk_ext)
      (fun _ _ => by pointwise; try blk_ext) (fun _ _ => by pointwise; try blk_ext) (fun _ _ => by pointwise; try blk_ext)
  case piece11 =>
    rw [form4]
    exact head_piece x0 x1 x2 x3 x4 x5 x6 x7 x8 y 4 (by decide) x h0 (h1.trans (by omega)) (View.ld x0 r2_15) (View.ld x6 r2_16) (View.ld x8 r2_16)
      (View.ld x1 r2_17) (View.ld x2 r2_17) (fun _ _ => by pointwise; try blk_ext) (fun _ _ => by pointwise; try blk_ext)
      (fun _ _ => by pointwise; try blk_ext) (fun _ _ => by pointwise; try blk_ext) (fun _ _ => by pointwise; try blk_ext)
  case piece12 =>
    rw [form3]
    exact head_piece x0 x1 x2 x3 x4 x5 x6 x7 x8 y 3 (by decide) x h0 (h1.trans (by omega)) (View.ld x0 r2_12) (View.ld x6 r2_13) (View.ld x8 r2_13)
      (View.ld x1 r2_14) (View.ld x2 r2_14) (fun _ _ => by pointwise; try blk_ext) (fun _ _ => by pointwise; try blk_ext)
      (fun _ _ => by pointwise; try blk_ext) (fun _ _ => by pointwise; try blk_ext) (fun _ _ => by pointwise; try blk_ext)
  case piece13 =>

    exact head_piece x0 x1 x2 x3 x4 x5 x6 x7 x8 y 2 (by decide) x h0 (h1.trans (by omega)) (View.ld x0 r2_9) (View.ld x6 r2_10) (View.ld x8 r2_10)
      (View.ld x1 r2_11) (View.ld x2 r2_11) (fun _ _ => by pointwise; try blk_ext) (fun _ _ => by pointwise; try blk_ext)
      (fun _ _ => by pointwise; try blk_ext) (fun _ _ => by pointwise; try blk_ext) (fun _ _ => by pointwise; try blk_ext)
  case piece14 =>
    rw [form1]
    exact head_piece x0 x1 x2 x3 x4 x5 x6 x7 x8 y 1 (by decide) x h0 (h1.trans (by omega)) (View.ld x0 r2_6) (View.ld x6 r2_7) (View.ld x8 r2_7)
      (View.ld x1 r2_8) (View.ld x2 r2_8) (fun _ _ => by pointwise; try blk_ext) (fun _ _ => by pointwise; try blk_ext)
      (fun _ _ => by pointwise; try blk_ext) (fun _ _ => by pointwise; try blk_ext) (fun _ _ => by pointwise; try blk_ext)
  case piece15 =>
    rw [form0]
    exact head_piece x0 x1 x2 x3 x4 x5 x6 x7 x8 y 0 (by decide) x h0 (h1.trans (by omega)) (View.ld x0 r2_3) (View.ld x6 r2_4) (View.ld x8 r2_4)
      (View.ld x1 r2_5) (View.ld x2 r2_5) (fun _ _ => by pointwise; try blk_ext) (fun _ _ => by pointwise; try blk_ext)
      (fun _ _ => by pointwise; try blk_ext) (fun _ _ => by pointwise; try blk_ext) (fun _ _ => by pointwise; try blk_ext)

end Cert.Mla
-- ==== Proof.Attention2.lean ====
/- The attention call: what the array of outputs holds after it. -/
module

public import proofs.«01_k».proof.Proof.Attention
public import Idealize.ShloMosaic.Lib.Claim

@[expose] public section

set_option maxRecDepth 16384

noncomputable section

namespace Cert.Mla

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem attn_congr {qn qn' : Fin 2048 → EReal} {qa qa' qb qb' : Fin 512 → EReal} {lg lg' : Fin 2048 → EReal}
    {th th' : EReal} {am am' : Fin 2048 → EReal} {kn kn' : Fin 2048 → Fin 2048 → EReal}
    {kp kp' : Fin 2048 → Fin 64 → EReal} {v v' : Fin 2048 → Fin 2048 → EReal} {h h' : Fin 16} {d d' : Fin 128}
    (e1 : ∀ k, qn k = qn' k) (e2 : ∀ k, qa k = qa' k) (e3 : ∀ k, qb k = qb' k) (e4 : ∀ k, lg k = lg' k) (e5 : th = th')
    (e6 : ∀ k, am k = am' k) (e7 : ∀ s k, kn s k = kn' s k) (e8 : ∀ s k, kp s k = kp' s k) (e9 : ∀ s k, v s k = v' s k)
    (e10 : h = h') (e11 : d = d') : attn qn qa qb lg th am kn kp v h d = attn qn' qa' qb' lg' th' am' kn' kp' v' h' d' := by
  cases funext e1; cases funext e2; cases funext e3; cases funext e4; cases e5; cases funext e6
  cases funext fun s => funext (e7 s); cases funext fun s => funext (e8 s); cases funext fun s => funext (e9 s)
  cases e10; cases e11; rfl

/-- Where each window's block lies at point `t`. -/
theorem idx2 : ∀ t : Fin cfg2.N, win2_0.index t = ![t.val, 0] ∧ win2_1.index t = ![t.val, 0] ∧ win2_2.index t = ![t.val, 0]
    ∧ win2_3.index t = ![t.val, 0] ∧ win2_4.index t = ![t.val, 0] ∧ win2_5.index t = ![t.val, 0]
    ∧ win2_6.index t = ![0, 0] ∧ win2_7.index t = ![0, 0] ∧ win2_8.index t = ![0, 0] ∧ win2_9.index t = ![t.val, 0] :=
  (by decide +kernel : ∀ t : Fin grid2.N, _)

set_option maxHeartbeats 1600000 in
/-- The array of attention outputs, from the arrays the call finds. -/
theorem attn_array (c : Dev nD) : (dat2 V c).arrAt 9 cfg2.N = fun j : S2048x2048.Idx =>
    attn (fun k => V c main_v136_0 (ix2 (j 0) k)) (fun k => V c main_v136_1 (ix2 (j 0) k)) (fun k => V c main_v136_2 (ix2 (j 0) k))
      (fun k => V c main_v137 (ix2 (j 0) k)) (V c main_arg15 (ix2 (j 0) 0)) (fun k => V c main_v1 (ix2 (j 0) k))
      (fun s k => V c main_v136_6 (ix2 s k)) (fun s k => V c main_v136_8 (ix2 s k)) (fun s k => V c main_v136_7 (ix2 s k))
      ⟨(j 1).val / 128, by have := (j 1).isLt; simp at this; omega⟩ ⟨(j 1).val % 128, by omega⟩ := by
  refine (dat2 V c).arrAt_eq_of_covers 9 _ (by decide +kernel) fun t _ y => ?_
  blk_simp
  rw [after2_9]
  refine (attn_block _ _ _ _ _ _ _ _ _ y).trans ?_
  refine attn_congr (fun k => ?_) (fun k => ?_) (fun k => ?_) (fun k => ?_) ?_ (fun k => ?_) (fun s k => ?_) (fun s k => ?_)
    (fun s k => ?_) (Fin.ext ?_) (Fin.ext ?_)
  iterate 9 blk_ext [iblk2, idx2 t]
  all_goals (simp [idx2 t])

end Cert.Mla
-- ==== Proof.Compose.lean ====
/- Each call's result from the arrays it meets, as the plain formulas. -/
module

public import proofs.«01_k».proof.Proof.Args
public import proofs.«01_k».proof.Proof.ProjArray
public import proofs.«01_k».proof.Proof.Attention2

@[expose] public section

set_option maxRecDepth 16384

noncomputable section

namespace Cert.Mla

open Idealize.ShloMosaic Idealize.ShloMosaic.TcCoe Idealize.SL.Sem
open Cert.KernelIdeal Cert.KernelIdeal.Gen

variable {V : (c : Dev nD) → (b : Ref sig .tc) → Buf (Elt Ideal) ((c : Thread nD τ).loc b)} {c : Dev nD} {a : Args}

variable (V c a) in
/-- What the projection call meets. -/
structure In1 : Prop where
  x : ∀ (r k : Fin 2048), V c main_v0 (ix2 r k) = a.x r k
  mask : ∀ (r k : Fin 2048), V c main_v1 (ix2 r k) = a.am r k
  cos : ∀ (r : Fin 2048) (k : Fin 32), V c main_v19 (ix2 r k) = a.cos r k
  sin : ∀ (r : Fin 2048) (k : Fin 32), V c main_v20 (ix2 r k) = a.sin r k
  cosr : ∀ (r : Fin 2048) (k : Fin 512), V c main_v23 (ix2 r k) = a.cosr r k
  sinr : ∀ (r : Fin 2048) (k : Fin 512), V c main_v26 (ix2 r k) = a.sinr r k
  qd : ∀ (k : Fin 2048) (n : Fin 512), V c main_v127 (ix2 k n) = a.wqd n k
  qln : ∀ (k : Fin 512), V c main_v132 (ix2 0 k) = a.qln k
  qup : ∀ (k : Fin 512) (n : Fin 3072), V c main_v69 (ix2 k n) = a.wqup (rowUp n) k
  kv : ∀ (k : Fin 2048) (n : Fin 320), V c main_v90 (ix2 k n) = a.wkv (rowKv n) k
  kvln : ∀ (k : Fin 256), V c main_v133 (ix2 0 k) = a.kvln k
  kup : ∀ (k : Fin 256) (n : Fin 2048), V c main_v128 (ix2 k n) = a.wkup n k
  vup : ∀ (k : Fin 256) (n : Fin 2048), V c main_v129 (ix2 k n) = a.wvup n k
  iqb : ∀ (k : Fin 512) (n : Fin 2048), V c main_v125 (ix2 k n) = a.iqb (rowIq n) k
  ki : ∀ (k : Fin 2048) (n : Fin 128), V c main_v126 (ix2 k n) = a.iki n k
  kilnw : ∀ (k : Fin 128), V c main_v134 (ix2 0 k) = a.kiw k
  kilnb : ∀ (k : Fin 128), V c main_v135 (ix2 0 k) = a.kib k
  wp : ∀ (k : Fin 2048) (n : Fin 16), V c main_v130 (ix2 k n) = a.wwp n k

theorem ix2_zero {n k : ℕ} (i : Fin n) (j : Fin k) : (ix2 i j : Shape.Idx ⟨2, ![n, k]⟩) 0 = i := rfl
theorem ix2_one {n k : ℕ} (i : Fin n) (j : Fin k) : (ix2 i j : Shape.Idx ⟨2, ![n, k]⟩) 1 = j := rfl

theorem qr_of (h : In1 V c a) (i : Fin 2048) : qrV V c i = a.qr i := by
  unfold qrV
  simp only [h.x, h.qd, h.qln]
  rfl

theorem kv_of (h : In1 V c a) (i : Fin 2048) : kvV V c i = a.kv i := by
  unfold kvV
  simp only [h.x, h.kv, h.kvln]
  rfl

theorem qn_of (h : In1 V c a) (i : Fin 2048) (k : Fin 2048) : ((dat0 V c).arrAt 17 cfg0.N : FVec Ideal S2048x2048 .f32) (ix2 i k) = a.qn i k := by
  refine (congrFun (qn_array V c) (ix2 i k)).trans ?_
  simp only [ix2_zero, ix2_one, qr_of h, h.qup]
  rfl

theorem qpa_of (h : In1 V c a) (i : Fin 2048) (k : Fin 512) : ((dat0 V c).arrAt 18 cfg0.N : FVec Ideal S2048x512 .f32) (ix2 i k) = a.qpa i k := by
  refine (congrFun (qpa_array V c) (ix2 i k)).trans ?_
  simp only [ix2_zero, ix2_one, qr_of h, h.qup, h.cosr, h.sinr]
  rfl

theorem qpb_of (h : In1 V c a) (i : Fin 2048) (k : Fin 512) : ((dat0 V c).arrAt 19 cfg0.N : FVec Ideal S2048x512 .f32) (ix2 i k) = a.qpb i k := by
  refine (congrFun (qpb_array V c) (ix2 i k)).trans ?_
  simp only [ix2_zero, ix2_one, qr_of h, h.qup, h.cosr, h.sinr]
  rfl

theorem qia_of (h : In1 V c a) (i : Fin 2048) (k : Fin 512) : ((dat0 V c).arrAt 20 cfg0.N : FVec Ideal S2048x512 .f32) (ix2 i k) = a.qia i k := by
  refine (congrFun (qia_array V c) (ix2 i k)).trans ?_
  simp only [ix2_zero, ix2_one, qr_of h, h.iqb, h.cosr, h.sinr]
  rfl

theorem qib_of (h : In1 V c a) (i : Fin 2048) (k : Fin 512) : ((dat0 V c).arrAt 21 cfg0.N : FVec Ideal S2048x512 .f32) (ix2 i k) = a.qib i k := by
  refine (congrFun (qib_array V c) (ix2 i k)).trans ?_
  simp only [ix2_zero, ix2_one, qr_of h, h.iqb, h.cosr, h.sinr]
  rfl

theorem qin_of (h : In1 V c a) (i : Fin 2048) (k : Fin 1024) : ((dat0 V c).arrAt 22 cfg0.N : FVec Ideal S2048x1024 .f32) (ix2 i k) = a.qin i k := by
  refine (congrFun (qin_array V c) (ix2 i k)).trans ?_
  simp only [ix2_zero, ix2_one, qr_of h, h.iqb]
  rfl

theorem kn_of (h : In1 V c a) (i : Fin 2048) (k : Fin 2048) : ((dat0 V c).arrAt 23 cfg0.N : FVec Ideal S2048x2048 .f32) (ix2 i k) = a.kn i k := by
  refine (congrFun (kn_array V c) (ix2 i k)).trans ?_
  simp only [ix2_zero, ix2_one, kv_of h, h.kup]
  rfl

theorem v_of (h : In1 V c a) (i : Fin 2048) (k : Fin 2048) : ((dat0 V c).arrAt 24 cfg0.N : FVec Ideal S2048x2048 .f32) (ix2 i k) = a.v i k := by
  refine (congrFun (v_array V c) (ix2 i k)).trans ?_
  simp only [ix2_zero, ix2_one, kv_of h, h.vup]
  rfl

theorem kpe_of (h : In1 V c a) (i : Fin 2048) (k : Fin 64) : ((dat0 V c).arrAt 25 cfg0.N : FVec Ideal S2048x64 .f32) (ix2 i k) = a.kpe i k := by
  refine (congrFun (kpe_array V c) (ix2 i k)).trans ?_
  simp only [ix2_zero, ix2_one, h.x, h.kv, h.cos, h.sin]
  rfl

theorem kidx_of (h : In1 V c a) (i : Fin 2048) (k : Fin 128) : ((dat0 V c).arrAt 26 cfg0.N : FVec Ideal S2048x128 .f32) (ix2 i k) = a.kidx i k := by
  refine (congrFun (kidx_array V c) (ix2 i k)).trans ?_
  simp only [ix2_zero, ix2_one, h.x, h.ki, h.kilnw, h.kilnb, h.cos, h.sin]
  rfl

theorem wts_of (h : In1 V c a) (i : Fin 2048) (k : Fin 16) : ((dat0 V c).arrAt 27 cfg0.N : FVec Ideal S2048x16 .f32) (ix2 i k) = a.wts i k := by
  refine (congrFun (wts_array V c) (ix2 i k)).trans ?_
  simp only [ix2_zero, ix2_one, h.x, h.wp]
  rfl

variable (V c a) in
/-- What the logits call meets. -/
structure In2 : Prop where
  qia : ∀ (i : Fin 2048) (k : Fin 512), V c main_v136_3 (ix2 i k) = a.qia i k
  qib : ∀ (i : Fin 2048) (k : Fin 512), V c main_v136_4 (ix2 i k) = a.qib i k
  qin : ∀ (i : Fin 2048) (k : Fin 1024), V c main_v136_5 (ix2 i k) = a.qin i k
  kidx : ∀ (i : Fin 2048) (k : Fin 128), V c main_v136_9 (ix2 i k) = a.kidx i k
  wts : ∀ (i : Fin 2048) (k : Fin 16), V c main_v136_10 (ix2 i k) = a.wts i k
  mask : ∀ (r k : Fin 2048), V c main_v1 (ix2 r k) = a.am r k

theorem log_of (h : In2 V c a) (i j : Fin 2048) : ((dat1 V c).arrAt 6 cfg1.N : FVec Ideal S2048x2048 .f32) (ix2 i j) = a.logK i j := by
  refine (congrFun (logit_array V c) (ix2 i j)).trans ?_
  simp only [ix2_zero, ix2_one, h.qia, h.qib, h.qin, h.kidx, h.wts, h.mask]
  rfl

variable (V c a) in
/-- What the attention call meets. -/
structure In3 : Prop where
  qn : ∀ (i : Fin 2048) (k : Fin 2048), V c main_v136_0 (ix2 i k) = a.qn i k
  qpa : ∀ (i : Fin 2048) (k : Fin 512), V c main_v136_1 (ix2 i k) = a.qpa i k
  qpb : ∀ (i : Fin 2048) (k : Fin 512), V c main_v136_2 (ix2 i k) = a.qpb i k
  kn : ∀ (i : Fin 2048) (k : Fin 2048), V c main_v136_6 (ix2 i k) = a.kn i k
  v : ∀ (i : Fin 2048) (k : Fin 2048), V c main_v136_7 (ix2 i k) = a.v i k
  kpe : ∀ (i : Fin 2048) (k : Fin 64), V c main_v136_8 (ix2 i k) = a.kpe i k
  log : ∀ (i j : Fin 2048), V c main_v137 (ix2 i j) = a.logK i j
  mask : ∀ (r k : Fin 2048), V c main_v1 (ix2 r k) = a.am r k
  th : ∀ (r : Fin 2048), V c main_arg15 (ix2 r 0) = a.th r

theorem att_of (h : In3 V c a) (i k : Fin 2048) : ((dat2 V c).arrAt 9 cfg2.N : FVec Ideal S2048x2048 .f32) (ix2 i k)
    = a.attK i ⟨k / 128, by omega⟩ ⟨k % 128, by omega⟩ := by
  refine (congrFun (attn_array V c) (ix2 i k)).trans ?_
  simp only [ix2_zero, ix2_one, h.qn, h.qpa, h.qpb, h.log, h.th, h.mask, h.kn, h.kpe, h.v]
  rfl

theorem out_of (h1 : ∀ (i k : Fin 2048), V c main_v138 (ix2 i k) = a.attK i ⟨k / 128, by omega⟩ ⟨k % 128, by omega⟩)
    (h2 : ∀ (k n : Fin 2048), V c main_v131 (ix2 k n) = a.wproj n k) (i j : Fin 2048) :
    ((dat3 V c).arrAt 2 cfg3.N : FVec Ideal S2048x2048 .f32) (ix2 i j) = a.outK i j := by
  refine (congrFun (out_array V c) (ix2 i j)).trans ?_
  simp only [ix2_zero, ix2_one, h1, h2]
  rfl

end Cert.Mla
-- ==== Proof.KernelFinal.lean ====
/- The run of the kernel with everything it leaves in memory: the final contents of each array. -/
module

public import proofs.«01_k».proof.Proof.KernelIdealRun

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution ends, each unscoped array holding what the last boundary's contents say. -/
theorem final : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.KernelIdeal.Gen
-- ==== Proof.KernelValue.lean ====
/- The kernel's two results after its run, as the plain formulas of the arguments. -/
module

public import proofs.«01_k».proof.Proof.Host
public import proofs.«01_k».proof.Proof.Compose
public import proofs.«01_k».proof.Proof.KernelFinal

@[expose] public section

set_option maxRecDepth 16384

noncomputable section

namespace Cert.Mla

open Idealize.ShloMosaic Idealize.ShloMosaic.TcCoe Idealize.SL.Sem
open Cert.KernelIdeal Cert.KernelIdeal.Gen

/-- The kernel's arguments in memory, as plain functions; the rotation's tables as the host computes them. -/
def argsK (A : Valuation τ sig (Elt Ideal)) : Args where
  x r k := (A (Proc.devRef .tc main_arg0) : FVec Ideal S2048x1x2048 .f32) (ix3 r 0 k)
  am r k := (A (Proc.devRef .tc main_arg1) : FVec Ideal S1x1x2048x2048 .f32) (ix4 0 0 r k)
  wqd n k := (A (Proc.devRef .tc main_arg2) : FVec Ideal S512x2048 .f32) (ix2 n k)
  qln k := (A (Proc.devRef .tc main_arg3) : FVec Ideal S512 .f32) (ix1 k)
  wqup n k := (A (Proc.devRef .tc main_arg4) : FVec Ideal S3072x512 .f32) (ix2 n k)
  wkv n k := (A (Proc.devRef .tc main_arg5) : FVec Ideal S320x2048 .f32) (ix2 n k)
  kvln k := (A (Proc.devRef .tc main_arg6) : FVec Ideal S256 .f32) (ix1 k)
  wkup n k := (A (Proc.devRef .tc main_arg7) : FVec Ideal S2048x256 .f32) (ix2 n k)
  wvup n k := (A (Proc.devRef .tc main_arg8) : FVec Ideal S2048x256 .f32) (ix2 n k)
  wproj n k := (A (Proc.devRef .tc main_arg9) : FVec Ideal S2048x2048 .f32) (ix2 n k)
  iqb n k := (A (Proc.devRef .tc main_arg10) : FVec Ideal S2048x512 .f32) (ix2 n k)
  iki n k := (A (Proc.devRef .tc main_arg11) : FVec Ideal S128x2048 .f32) (ix2 n k)
  kiw k := (A (Proc.devRef .tc main_arg12) : FVec Ideal S128 .f32) (ix1 k)
  kib k := (A (Proc.devRef .tc main_arg13) : FVec Ideal S128 .f32) (ix1 k)
  wwp n k := (A (Proc.devRef .tc main_arg14) : FVec Ideal S16x2048 .f32) (ix2 n k)
  th r := (A (Proc.devRef .tc main_arg15) : FVec Ideal S2048x1 .f32) (ix2 r 0)
  cos r k := (StableHlo.after hostOps0 A (Proc.devRef .tc main_v19) : FVec Ideal S2048x32 .f32) (ix2 r k)
  sin r k := (StableHlo.after hostOps0 A (Proc.devRef .tc main_v20) : FVec Ideal S2048x32 .f32) (ix2 r k)

variable (m : (ℓ : Loc nD τ sig) → Buf (Elt Ideal) ℓ) (ρ : Dev nD → PrngReg) (c : Dev nD)

/-- The arguments at launch. -/
abbrev aK : Args := argsK (W0 m ρ c)

theorem v1_x (r k : Fin 2048) : V1 m ρ c main_v0 (ix2 r k) = (aK m ρ c).x r k := host_x _ r k
theorem v1_mask (r k : Fin 2048) : V1 m ρ c main_v1 (ix2 r k) = (aK m ρ c).am r k := host_mask _ r k
theorem v1_cos (r : Fin 2048) (k : Fin 32) : V1 m ρ c main_v19 (ix2 r k) = (aK m ρ c).cos r k := rfl
theorem v1_sin (r : Fin 2048) (k : Fin 32) : V1 m ρ c main_v20 (ix2 r k) = (aK m ρ c).sin r k := rfl
theorem v1_cosr (r : Fin 2048) (k : Fin 512) : V1 m ρ c main_v23 (ix2 r k) = (aK m ρ c).cosr r k := host_cosr _ r k
theorem v1_sinr (r : Fin 2048) (k : Fin 512) : V1 m ρ c main_v26 (ix2 r k) = (aK m ρ c).sinr r k := host_sinr _ r k
theorem v1_qd (k : Fin 2048) (n : Fin 512) : V1 m ρ c main_v127 (ix2 k n) = (aK m ρ c).wqd n k := host_qd _ k n
theorem v1_qln (k : Fin 512) : V1 m ρ c main_v132 (ix2 0 k) = (aK m ρ c).qln k := host_qln _ k
theorem v1_qup (k : Fin 512) (n : Fin 3072) : V1 m ρ c main_v69 (ix2 k n) = (aK m ρ c).wqup (rowUp n) k := host_qup _ k n
theorem v1_kv (k : Fin 2048) (n : Fin 320) : V1 m ρ c main_v90 (ix2 k n) = (aK m ρ c).wkv (rowKv n) k := host_kv _ k n
theorem v1_kvln (k : Fin 256) : V1 m ρ c main_v133 (ix2 0 k) = (aK m ρ c).kvln k := host_kvln _ k
theorem v1_kup (k : Fin 256) (n : Fin 2048) : V1 m ρ c main_v128 (ix2 k n) = (aK m ρ c).wkup n k := host_kup _ k n
theorem v1_vup (k : Fin 256) (n : Fin 2048) : V1 m ρ c main_v129 (ix2 k n) = (aK m ρ c).wvup n k := host_vup _ k n
theorem v1_iqb (k : Fin 512) (n : Fin 2048) : V1 m ρ c main_v125 (ix2 k n) = (aK m ρ c).iqb (rowIq n) k := host_iqb _ k n
theorem v1_ki (k : Fin 2048) (n : Fin 128) : V1 m ρ c main_v126 (ix2 k n) = (aK m ρ c).iki n k := host_ki _ k n
theorem v1_kilnw (k : Fin 128) : V1 m ρ c main_v134 (ix2 0 k) = (aK m ρ c).kiw k := host_kilnw _ k
theorem v1_kilnb (k : Fin 128) : V1 m ρ c main_v135 (ix2 0 k) = (aK m ρ c).kib k := host_kilnb _ k
theorem v1_wp (k : Fin 2048) (n : Fin 16) : V1 m ρ c main_v130 (ix2 k n) = (aK m ρ c).wwp n k := host_wp _ k n
theorem v1_proj (k n : Fin 2048) : V1 m ρ c main_v131 (ix2 k n) = (aK m ρ c).wproj n k := host_proj _ k n

/-- What each call meets. -/
theorem in1 : In1 (V1 m ρ) c (aK m ρ c) :=
  ⟨v1_x m ρ c, v1_mask m ρ c, v1_cos m ρ c, v1_sin m ρ c, v1_cosr m ρ c, v1_sinr m ρ c, v1_qd m ρ c, v1_qln m ρ c, v1_qup m ρ c, v1_kv m ρ c, v1_kvln m ρ c, v1_kup m ρ c, v1_vup m ρ c, v1_iqb m ρ c, v1_ki m ρ c, v1_kilnw m ρ c, v1_kilnb m ρ c, v1_wp m ρ c⟩

theorem v2_qn (i : Fin 2048) (k : Fin 2048) : V2 m ρ c main_v136_0 (ix2 i k) = (aK m ρ c).qn i k :=
  (congrFun (W2_arr m ρ c 17) (ix2 i k)).trans (qn_of (in1 m ρ c) i k)

theorem v2_qpa (i : Fin 2048) (k : Fin 512) : V2 m ρ c main_v136_1 (ix2 i k) = (aK m ρ c).qpa i k :=
  (congrFun (W2_arr m ρ c 18) (ix2 i k)).trans (qpa_of (in1 m ρ c) i k)

theorem v2_qpb (i : Fin 2048) (k : Fin 512) : V2 m ρ c main_v136_2 (ix2 i k) = (aK m ρ c).qpb i k :=
  (congrFun (W2_arr m ρ c 19) (ix2 i k)).trans (qpb_of (in1 m ρ c) i k)

theorem v2_qia (i : Fin 2048) (k : Fin 512) : V2 m ρ c main_v136_3 (ix2 i k) = (aK m ρ c).qia i k :=
  (congrFun (W2_arr m ρ c 20) (ix2 i k)).trans (qia_of (in1 m ρ c) i k)

theorem v2_qib (i : Fin 2048) (k : Fin 512) : V2 m ρ c main_v136_4 (ix2 i k) = (aK m ρ c).qib i k :=
  (congrFun (W2_arr m ρ c 21) (ix2 i k)).trans (qib_of (in1 m ρ c) i k)

theorem v2_qin (i : Fin 2048) (k : Fin 1024) : V2 m ρ c main_v136_5 (ix2 i k) = (aK m ρ c).qin i k :=
  (congrFun (W2_arr m ρ c 22) (ix2 i k)).trans (qin_of (in1 m ρ c) i k)

theorem v2_kn (i : Fin 2048) (k : Fin 2048) : V2 m ρ c main_v136_6 (ix2 i k) = (aK m ρ c).kn i k :=
  (congrFun (W2_arr m ρ c 23) (ix2 i k)).trans (kn_of (in1 m ρ c) i k)

theorem v2_v (i : Fin 2048) (k : Fin 2048) : V2 m ρ c main_v136_7 (ix2 i k) = (aK m ρ c).v i k :=
  (congrFun (W2_arr m ρ c 24) (ix2 i k)).trans (v_of (in1 m ρ c) i k)

theorem v2_kpe (i : Fin 2048) (k : Fin 64) : V2 m ρ c main_v136_8 (ix2 i k) = (aK m ρ c).kpe i k :=
  (congrFun (W2_arr m ρ c 25) (ix2 i k)).trans (kpe_of (in1 m ρ c) i k)

theorem v2_kidx (i : Fin 2048) (k : Fin 128) : V2 m ρ c main_v136_9 (ix2 i k) = (aK m ρ c).kidx i k :=
  (congrFun (W2_arr m ρ c 26) (ix2 i k)).trans (kidx_of (in1 m ρ c) i k)

theorem v2_wts (i : Fin 2048) (k : Fin 16) : V2 m ρ c main_v136_10 (ix2 i k) = (aK m ρ c).wts i k :=
  (congrFun (W2_arr m ρ c 27) (ix2 i k)).trans (wts_of (in1 m ρ c) i k)

theorem v2_mask (r k : Fin 2048) : V2 m ρ c main_v1 (ix2 r k) = (aK m ρ c).am r k :=
  (congrFun (W2_of m ρ c main_v1 (by decide)) _).trans (v1_mask m ρ c r k)

theorem in2 : In2 (V2 m ρ) c (aK m ρ c) :=
  ⟨v2_qia m ρ c, v2_qib m ρ c, v2_qin m ρ c, v2_kidx m ρ c, v2_wts m ρ c, v2_mask m ρ c⟩

theorem v3_log (i j : Fin 2048) : V3 m ρ c main_v137 (ix2 i j) = (aK m ρ c).logK i j :=
  (congrFun (W3_arr m ρ c 6) (ix2 i j)).trans (log_of (in2 m ρ c) i j)

theorem in3 : In3 (V3 m ρ) c (aK m ρ c) where
  qn i k := (congrFun (W3_of m ρ c main_v136_0 (by decide)) _).trans (v2_qn m ρ c i k)
  qpa i k := (congrFun (W3_of m ρ c main_v136_1 (by decide)) _).trans (v2_qpa m ρ c i k)
  qpb i k := (congrFun (W3_of m ρ c main_v136_2 (by decide)) _).trans (v2_qpb m ρ c i k)
  kn i k := (congrFun (W3_of m ρ c main_v136_6 (by decide)) _).trans (v2_kn m ρ c i k)
  v i k := (congrFun (W3_of m ρ c main_v136_7 (by decide)) _).trans (v2_v m ρ c i k)
  kpe i k := (congrFun (W3_of m ρ c main_v136_8 (by decide)) _).trans (v2_kpe m ρ c i k)
  log := v3_log m ρ c
  mask r k := (congrFun (W3_of m ρ c main_v1 (by decide)) _).trans (v2_mask m ρ c r k)
  th r := (congrFun (W3_args m ρ c main_arg15 (by decide)) (ix2 r 0))

theorem v4_att (i k : Fin 2048) : V4 m ρ c main_v138 (ix2 i k)
    = (aK m ρ c).attK i ⟨k / 128, by omega⟩ ⟨k % 128, by omega⟩ :=
  (congrFun (W4_arr m ρ c 9) (ix2 i k)).trans (att_of (in3 m ρ c) i k)

theorem v4_proj (k n : Fin 2048) : V4 m ρ c main_v131 (ix2 k n) = (aK m ρ c).wproj n k :=
  (congrFun ((W4_of m ρ c main_v131 (by decide)).trans ((W3_of m ρ c main_v131 (by decide)).trans
    (W2_of m ρ c main_v131 (by decide)))) _).trans (v1_proj m ρ c k n)

theorem ix2_split (j : S2048x2048.Idx) : ∃ (r k : Fin 2048), j = ix2 r k := ⟨j 0, j 1, by funext i; fin_cases i <;> rfl⟩

/-- The kernel's result. -/
theorem w5_out : W5 m ρ c (Proc.devRef .tc main_v139) = fun j : S2048x2048.Idx => (aK m ρ c).outK (j 0) (j 1) := by
  refine (W5_arr m ρ c 2).trans (funext fun j => ?_)
  obtain ⟨r, k, rfl⟩ := ix2_split j
  exact out_of (v4_att m ρ c) (v4_proj m ρ c) r k

/-- The kernel's logits. -/
theorem w5_log : W5 m ρ c (Proc.devRef .tc main_v137) = fun j : S2048x2048.Idx => (aK m ρ c).logK (j 0) (j 1) := by
  refine ((W5_of m ρ c main_v137 (by decide)).trans (W4_of m ρ c main_v137 (by decide))).trans (funext fun j => ?_)
  obtain ⟨r, k, rfl⟩ := ix2_split j
  exact v3_log m ρ c r k

/-- THE RUN: both results as the formulas, the arguments unchanged. -/
theorem kernel_run : θ_run defs (onTc (τ := τ) (main (F := Ideal))) ⟨m, fun _ => 0, ρ⟩ (fun r => ∀ c : Dev nD,
      r.2.mem ((c.tc : Thread nD τ).loc main_v139) = (fun j : S2048x2048.Idx => (aK m ρ c).outK (j 0) (j 1))
      ∧ r.2.mem ((c.tc : Thread nD τ).loc main_v137) = (fun j : S2048x2048.Idx => (aK m ρ c).logK (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun s h c =>
    ⟨(h c _ (mem_uc main_v139 (by decide))).trans (w5_out m ρ c),
     (h c _ (mem_uc main_v137 (by decide))).trans (w5_log m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c),
     (h c _ (mem_uc main_arg14 (by decide))).trans (W5_main_arg14 m ρ c),
     (h c _ (mem_uc main_arg15 (by decide))).trans (W5_main_arg15 m ρ c)⟩) (final m ρ)

end Cert.Mla
-- ==== Proof.Root.lean ====
/- Division by a root is multiplication by the reciprocal root, for a positive number; and the number under the root of
   a row's mean square is positive. -/
module

public import proofs.«01_k».proof.Proof.Proj

@[expose] public section

noncomputable section

namespace Cert.Mla

open Idealize.ShloMosaic

theorem div_sqrt (x : EReal) {y : EReal} (hy : 0 < y) : Ideal.div x (Ideal.sqrt y) = x * Ideal.rsqrt y := by
  induction y using EReal.rec with
  | bot => exact absurd hy (by simp)
  | top =>
    have e1 : Ideal.sqrt ⊤ = ⊤ := rfl
    have e2 : Ideal.rsqrt ⊤ = 0 := rfl
    rw [e1, e2, Ideal.div, if_neg (by simp), EReal.inv_top]
  | coe r =>
    have hr : 0 < r := by exact_mod_cast hy
    have hs : Real.sqrt r ≠ 0 := (Real.sqrt_pos.2 hr).ne'
    have e1 : Ideal.sqrt (r : EReal) = ((Real.sqrt r : ℝ) : EReal) := if_neg (not_lt.2 hr.le)
    have e2 : Ideal.rsqrt (r : EReal) = (((Real.sqrt r)⁻¹ : ℝ) : EReal) := (if_neg (not_lt.2 hr.le)).trans (if_neg hr.ne')
    rw [e1, e2, Ideal.div, if_neg (by exact_mod_cast hs), EReal.coe_inv]

theorem square_nonneg (x : EReal) : 0 ≤ x * x := by
  rcases le_total 0 x with h | h
  · exact mul_nonneg h h
  · have e : x * x = -x * -x := by rw [neg_mul, mul_neg, neg_neg]
    rw [e]
    exact mul_nonneg (EReal.neg_nonneg.2 h) (EReal.neg_nonneg.2 h)

/-- A word without sign whose exponent is neither the least nor the largest is positive. -/
theorem word_pos {b : BitVec 32} (hs : (b.extractLsb' 31 1 == 1#1) = false) (h1 : (b.extractLsb' 23 8).toNat ≠ 2 ^ 8 - 1)
    (h0 : (b.extractLsb' 23 8).toNat ≠ 0) : 0 < Ideal.ofBits .f32 b := by
  show 0 < Ideal.ieee 8 23 b
  simp only [Ideal.ieee]
  rw [if_neg h1, if_neg h0]
  simp only [Nat.reduceAdd, hs]
  rw [EReal.coe_pos]
  have hz : (0 : ℝ) < ((2 ^ 23 + (b.extractLsb' 0 23).toNat : ℕ) : ℝ) := by exact_mod_cast Nat.add_pos_left (by norm_num) _
  simp only [Bool.false_eq_true, if_false, one_mul]
  exact mul_pos hz (by positivity)

theorem eps_pos : 0 < eps := word_pos (by decide) (by decide) (by decide)

theorem mean_nonneg {m : ℕ} {n : EReal} (hn : 0 < n) (y : Fin m → EReal) : 0 ≤ mean n (fun k => y k * y k) := by
  unfold mean
  rw [Ideal.div, if_neg hn.ne']
  exact mul_nonneg (Finset.sum_nonneg fun k _ => square_nonneg _) (EReal.inv_nonneg_of_nonneg hn.le)

/-- The row divided by its root mean square, as the division. -/
theorem rms_eq {m : ℕ} {n : EReal} (hn : 0 < n) (y w : Fin m → EReal) (j : Fin m) :
    Ideal.div (y j) (Ideal.sqrt (mean n (fun k => y k * y k) + eps)) * w j = rms n y w j := by
  rw [div_sqrt _ (lt_of_lt_of_le eps_pos (le_add_of_nonneg_left (mean_nonneg hn y)))]
  rfl

theorem n512_pos : 0 < Ideal.ofBits .f32 0x44000000#32 := word_pos (by decide) (by decide) (by decide)

theorem n256_pos : 0 < Ideal.ofBits .f32 0x43800000#32 := word_pos (by decide) (by decide) (by decide)

end Cert.Mla
-- ==== Proof.RefHeads.lean ====
/- The reference's low-rank rows and head parts, as the plain formulas of the arguments. -/
module

public import proofs.«01_k».proof.Proof.Args
public import proofs.«01_k».proof.Proof.Root
public import proofs.«01_k».proof.Proof.Gen.ReferenceIdeal.Read
public import Idealize.ShloMosaic.Lib.Pointwise

@[expose] public section

set_option maxRecDepth 16384

noncomputable section

namespace Cert.Mla

open Idealize.ShloMosaic Idealize.ShloMosaic.TcCoe Idealize.SL.Sem
open Cert.ReferenceIdeal Cert.ReferenceIdeal.Read

/-- Where a head's coordinates lie among the kernel's re-ordered rows. -/
theorem rowUp_n (g : Fin 16) (d : Fin 128) : rowUp ⟨128 * g + d, by omega⟩ = ⟨g * 192 + d, by omega⟩ :=
  Fin.ext (by unfold rowUp; dsimp only; split_ifs <;> dsimp only <;> omega)
theorem rowUp_a (g : Fin 16) (j : Fin 32) : rowUp ⟨2048 + (32 * g + j), by omega⟩ = ⟨g * 192 + (128 + j * 2), by omega⟩ :=
  Fin.ext (by unfold rowUp; dsimp only; split_ifs <;> dsimp only <;> omega)
theorem rowUp_b (g : Fin 16) (j : Fin 32) : rowUp ⟨2560 + (32 * g + j), by omega⟩ = ⟨g * 192 + (128 + (j * 2 + 1)), by omega⟩ :=
  Fin.ext (by unfold rowUp; dsimp only; split_ifs <;> dsimp only <;> omega)
theorem rowKv_n (k : Fin 256) : rowKv ⟨k, by omega⟩ = ⟨k, by omega⟩ :=
  Fin.ext (by unfold rowKv; dsimp only; split_ifs <;> dsimp only <;> omega)
theorem rowKv_a (j : Fin 32) : rowKv ⟨256 + j, by omega⟩ = ⟨256 + j * 2, by omega⟩ :=
  Fin.ext (by unfold rowKv; dsimp only; split_ifs <;> dsimp only <;> omega)
theorem rowKv_b (j : Fin 32) : rowKv ⟨288 + j, by omega⟩ = ⟨256 + (j * 2 + 1), by omega⟩ :=
  Fin.ext (by unfold rowKv; dsimp only; split_ifs <;> dsimp only <;> omega)
theorem head_mod (g : Fin 16) (j : Fin 32) : (⟨(32 * g + j) % 32, by omega⟩ : Fin 32) = j := Fin.ext (by dsimp only; omega)

/-- The reference's arguments, and its tables of the rotation, are those of `a`. -/
structure Reads (x0 : FVec Ideal S2048x1x2048 .f32) (x1 : FVec Ideal S1x1x2048x2048 .f32) (x2 : FVec Ideal S512x2048 .f32) (x3 : FVec Ideal S512 .f32) (x4 : FVec Ideal S3072x512 .f32) (x5 : FVec Ideal S320x2048 .f32) (x6 : FVec Ideal S256 .f32) (x7 : FVec Ideal S2048x256 .f32) (x8 : FVec Ideal S2048x256 .f32) (x9 : FVec Ideal S2048x2048 .f32) (x10 : FVec Ideal S2048x512 .f32) (x11 : FVec Ideal S128x2048 .f32) (x12 : FVec Ideal S128 .f32) (x13 : FVec Ideal S128 .f32) (x14 : FVec Ideal S16x2048 .f32) (x15 : FVec Ideal S2048x1 .f32)
    (a : Args) : Prop where
  x : ∀ r k, x0 (ix3 r 0 k) = a.x r k
  am : ∀ r k, x1 (ix4 0 0 r k) = a.am r k
  wqd : ∀ n k, x2 (ix2 n k) = a.wqd n k
  qln : ∀ k, x3 (ix1 k) = a.qln k
  wqup : ∀ n k, x4 (ix2 n k) = a.wqup n k
  wkv : ∀ n k, x5 (ix2 n k) = a.wkv n k
  kvln : ∀ k, x6 (ix1 k) = a.kvln k
  wkup : ∀ n k, x7 (ix2 n k) = a.wkup n k
  wvup : ∀ n k, x8 (ix2 n k) = a.wvup n k
  wproj : ∀ n k, x9 (ix2 n k) = a.wproj n k
  iqb : ∀ n k, x10 (ix2 n k) = a.iqb n k
  iki : ∀ n k, x11 (ix2 n k) = a.iki n k
  kiw : ∀ k, x12 (ix1 k) = a.kiw k
  kib : ∀ k, x13 (ix1 k) = a.kib k
  wwp : ∀ n k, x14 (ix2 n k) = a.wwp n k
  th : ∀ r, x15 (ix2 r 0) = a.th r
  cos : ∀ r k, val_main_v19 (F := Ideal) (ix2 r k) = a.cos r k
  sin : ∀ r k, val_main_v20 (F := Ideal) (ix2 r k) = a.sin r k

variable {x0 : FVec Ideal S2048x1x2048 .f32} {x1 : FVec Ideal S1x1x2048x2048 .f32} {x2 : FVec Ideal S512x2048 .f32} {x3 : FVec Ideal S512 .f32} {x4 : FVec Ideal S3072x512 .f32} {x5 : FVec Ideal S320x2048 .f32} {x6 : FVec Ideal S256 .f32} {x7 : FVec Ideal S2048x256 .f32} {x8 : FVec Ideal S2048x256 .f32} {x9 : FVec Ideal S2048x2048 .f32} {x10 : FVec Ideal S2048x512 .f32} {x11 : FVec Ideal S128x2048 .f32} {x12 : FVec Ideal S128 .f32} {x13 : FVec Ideal S128 .f32} {x14 : FVec Ideal S16x2048 .f32} {x15 : FVec Ideal S2048x1 .f32}
  {a : Args} (h : Reads x0 x1 x2 x3 x4 x5 x6 x7 x8 x9 x10 x11 x12 x13 x14 x15 a)
include h

/-- The low-rank query row. -/
theorem r_qr (s : Fin 2048) (n : Fin 512) : val_main_v35 (F := Ideal) x0 x2 x3 (ix2 s n) = a.qr s n := by
  have e (n : Fin 512) : val_main_v22 (F := Ideal) x0 x2 (ix2 s n) = lin (a.x s) (fun k n => a.wqd n k) n := by
    pointwise [val_main_v22, val_main_v21, val_main_v0]
    simp only [h.x, h.wqd]
    rfl
  pointwise [val_main_v23, val_main_v24, val_main_v25, val_main_v26, val_main_v27, val_main_v28, val_main_v29, val_main_v30, val_main_v31, val_main_v32, val_main_v33, val_main_v34, val_main_v35, val_main_cst_6, val_main_cst_5, val_main_cst_4]
  simp only [e, h.qln]
  exact rms_eq n512_pos _ _ _

/-- The low-rank key/value product, and its normalised row. -/
theorem r_kvp (s : Fin 2048) (n : Fin 320) : val_main_v68 (F := Ideal) x0 x5 (ix2 s n) = lin (a.x s) (fun k n => a.wkv n k) n := by
  pointwise [val_main_v68, val_main_v67, val_main_v0]
  simp only [h.x, h.wkv]
  rfl

theorem r_kv (s : Fin 2048) (n : Fin 256) : val_main_v105 (F := Ideal) x0 x5 x6 (ix2 s n) = a.kv s n := by
  have e (n : Fin 256) : val_main_v69 (F := Ideal) x0 x5 (ix2 s n) = lin (a.x s) (fun k n => a.wkv (rowKv n) k) ⟨n, by omega⟩ := by
    pointwise [val_main_v69]
    rw [r_kvp h]
    simp only [lin, rowKv_n]
  pointwise [val_main_v93, val_main_v94, val_main_v95, val_main_v96, val_main_v97, val_main_v98, val_main_v99, val_main_v100, val_main_v101, val_main_v102, val_main_v103, val_main_v104, val_main_v105, val_main_cst_7, val_main_cst_8, val_main_cst_9]
  simp only [e, h.kvln]
  exact rms_eq n256_pos (fun k => lin (a.x s) (fun k n => a.wkv (rowKv n) k) ⟨k, by omega⟩) _ _

/-- The query product. -/
theorem r_q (s : Fin 2048) (n : Fin 3072) : val_main_v37 (F := Ideal) x0 x2 x3 x4 (ix2 s n) = lin (a.qr s) (fun k n => a.wqup n k) n := by
  pointwise [val_main_v37, val_main_v36]
  simp only [r_qr h, h.wqup]
  rfl

/-- The query's first 128 coordinates. -/
theorem r_qn (s : Fin 2048) (g : Fin 16) (d : Fin 128) :
    val_main_v66 (F := Ideal) x0 x2 x3 x4 (ix3 s g ⟨d, by omega⟩) = a.qn s ⟨128 * g + d, by omega⟩ := by
  pointwise [val_main_v66, val_main_v39, val_main_v38]
  rw [r_q h]
  simp only [Args.qn, qnS, lin, rowUp_n]

/-- The rotated coordinates: the first and the second of each pair. -/
theorem r_qpa (s : Fin 2048) (g : Fin 16) (j : Fin 32) :
    val_main_v66 (F := Ideal) x0 x2 x3 x4 (ix3 s g ⟨128 + 2 * j, by omega⟩) = a.qpa s ⟨32 * g + j, by omega⟩ := by
  pointwise [val_main_v66, val_main_v65, val_main_v64, val_main_v62, val_main_v63, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v39, val_main_v38]
  rw [dif_pos (by omega)]
  simp only [r_q h, h.cos, h.sin, Args.qpa, qpaS, lin, Args.cosr, Args.sinr, rowUp_a, rowUp_b, head_mod]
  rfl

theorem r_qpb (s : Fin 2048) (g : Fin 16) (j : Fin 32) :
    val_main_v66 (F := Ideal) x0 x2 x3 x4 (ix3 s g ⟨128 + (2 * j + 1), by omega⟩) = a.qpb s ⟨32 * g + j, by omega⟩ := by
  pointwise [val_main_v66, val_main_v65, val_main_v64, val_main_v62, val_main_v63, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v39, val_main_v38]
  rw [dif_neg (by omega)]
  simp only [r_q h, h.cos, h.sin, Args.qpb, qpbS, lin, Args.cosr, Args.sinr, rowUp_a, rowUp_b, head_mod]
  rfl

/-- The keys' and values' coordinates. -/
theorem r_kn (s : Fin 2048) (g : Fin 16) (d : Fin 128) :
    val_main_v113 (F := Ideal) x0 x5 x6 x7 (ix3 s g ⟨d, by omega⟩) = a.kn s ⟨128 * g + d, by omega⟩ := by
  pointwise [val_main_v113, val_main_v106, val_main_v107, val_main_v108]
  simp only [r_kv h, h.wkup]
  simp only [Args.kn, lin, Nat.mul_comm 128]

theorem r_v (s : Fin 2048) (g : Fin 16) (d : Fin 128) :
    val_main_v111 (F := Ideal) x0 x5 x6 x8 (ix3 s g d) = a.v s ⟨128 * g + d, by omega⟩ := by
  pointwise [val_main_v111, val_main_v110, val_main_v109]
  simp only [r_kv h, h.wvup]
  simp only [Args.v, lin, Nat.mul_comm 128]

theorem r_kpa (s : Fin 2048) (g : Fin 16) (j : Fin 32) :
    val_main_v113 (F := Ideal) x0 x5 x6 x7 (ix3 s g ⟨128 + 2 * j, by omega⟩) = a.kpe s ⟨j, by omega⟩ := by
  pointwise [val_main_v113, val_main_v112, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92]
  rw [dif_pos (by omega)]
  simp only [r_kvp h, h.cos, h.sin, Args.kpe, kpeS]
  rw [dif_pos j.isLt]
  simp only [lin, Nat.add_sub_cancel_left, rowKv_a, rowKv_b]
  rfl

theorem r_kpb (s : Fin 2048) (g : Fin 16) (j : Fin 32) :
    val_main_v113 (F := Ideal) x0 x5 x6 x7 (ix3 s g ⟨128 + (2 * j + 1), by omega⟩) = a.kpe s ⟨32 + j, by omega⟩ := by
  pointwise [val_main_v113, val_main_v112, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92]
  rw [dif_neg (by omega)]
  simp only [r_kvp h, h.cos, h.sin, Args.kpe, kpeS]
  rw [dif_neg (by omega)]
  simp only [lin, Nat.add_sub_cancel_left, rowKv_a, rowKv_b]
  rfl

end Cert.Mla
-- ==== Proof.RefIndex.lean ====
/- The reference's index heads and index logits, as the plain formulas of the arguments. -/
module

public import proofs.«01_k».proof.Proof.RefHeads

@[expose] public section

set_option maxRecDepth 16384

noncomputable section

namespace Cert.Mla

open Idealize.ShloMosaic Idealize.ShloMosaic.TcCoe Idealize.SL.Sem
open Cert.ReferenceIdeal Cert.ReferenceIdeal.Read

variable {x0 : FVec Ideal S2048x1x2048 .f32} {x1 : FVec Ideal S1x1x2048x2048 .f32} {x2 : FVec Ideal S512x2048 .f32} {x3 : FVec Ideal S512 .f32} {x4 : FVec Ideal S3072x512 .f32} {x5 : FVec Ideal S320x2048 .f32} {x6 : FVec Ideal S256 .f32} {x7 : FVec Ideal S2048x256 .f32} {x8 : FVec Ideal S2048x256 .f32} {x9 : FVec Ideal S2048x2048 .f32} {x10 : FVec Ideal S2048x512 .f32} {x11 : FVec Ideal S128x2048 .f32} {x12 : FVec Ideal S128 .f32} {x13 : FVec Ideal S128 .f32} {x14 : FVec Ideal S16x2048 .f32} {x15 : FVec Ideal S2048x1 .f32}
  {a : Args} (h : Reads x0 x1 x2 x3 x4 x5 x6 x7 x8 x9 x10 x11 x12 x13 x14 x15 a)

/-- Where a head's coordinates lie among the kernel's re-ordered rows. -/
theorem rowIq_a (g : Fin 16) (j : Fin 32) : rowIq ⟨32 * g + j, by omega⟩ = ⟨g * 128 + j, by omega⟩ :=
  Fin.ext (by unfold rowIq; dsimp only; split_ifs <;> dsimp only <;> omega)
theorem rowIq_b (g : Fin 16) (j : Fin 32) : rowIq ⟨512 + (32 * g + j), by omega⟩ = ⟨g * 128 + (32 + j), by omega⟩ :=
  Fin.ext (by unfold rowIq; dsimp only; split_ifs <;> dsimp only <;> omega)
theorem rowIq_n (g : Fin 16) (j : Fin 64) : rowIq ⟨1024 + (64 * g + j), by omega⟩ = ⟨g * 128 + (64 + j), by omega⟩ :=
  Fin.ext (by unfold rowIq; dsimp only; split_ifs <;> dsimp only <;> omega)

include h

/-- The index query product. -/
theorem r_iq (s n : Fin 2048) : val_main_v115 (F := Ideal) x0 x2 x3 x10 (ix2 s n) = lin (a.qr s) (fun k n => a.iqb n k) n := by
  pointwise [val_main_v115, val_main_v114]
  simp only [r_qr h, h.iqb]
  rfl

/-- The index query's coordinates: rotated pairs 32 apart, and the rest. -/
theorem r_qia (s : Fin 2048) (g : Fin 16) (j : Fin 32) :
    val_main_v148 (F := Ideal) x0 x2 x3 x10 (ix3 s g ⟨j, by omega⟩) = a.qia s ⟨32 * g + j, by omega⟩ := by
  pointwise [val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148]
  rw [dif_pos (by omega)]
  try rw [dif_pos (by omega)]
  simp only [r_iq h, h.cos, h.sin, Args.qia, qiaS, lin, Args.cosr, Args.sinr, rowIq_a, rowIq_b, head_mod]
  rfl

theorem r_qib (s : Fin 2048) (g : Fin 16) (j : Fin 32) :
    val_main_v148 (F := Ideal) x0 x2 x3 x10 (ix3 s g ⟨32 + j, by omega⟩) = a.qib s ⟨32 * g + j, by omega⟩ := by
  pointwise [val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148]
  rw [dif_pos (by omega), dif_neg (by omega)]
  simp only [r_iq h, h.cos, h.sin, Args.qib, qibS, lin, Args.cosr, Args.sinr, rowIq_a, rowIq_b, head_mod]
  rfl

theorem r_qin (s : Fin 2048) (g : Fin 16) (j : Fin 64) :
    val_main_v148 (F := Ideal) x0 x2 x3 x10 (ix3 s g ⟨64 + j, by omega⟩) = a.qin s ⟨64 * g + j, by omega⟩ := by
  pointwise [val_main_v148, val_main_v118, val_main_v116]
  simp only [r_iq h, Args.qin, qinS, lin, rowIq_n]

/-- The normalised index key row, and the row with its first 64 coordinates rotated. -/
theorem r_ki (s : Fin 2048) (n : Fin 128) : val_main_v174 (F := Ideal) x0 x11 x12 x13 (ix2 s n)
    = kiS (a.x s) (fun k n => a.iki n k) a.kiw a.kib n := by
  have e (n : Fin 128) : val_main_v150 (F := Ideal) x0 x11 (ix2 s n) = lin (a.x s) (fun k n => a.iki n k) n := by
    pointwise [val_main_v150, val_main_v149, val_main_v0]
    simp only [h.x, h.iki]
    rfl
  pointwise [val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_cst_10, val_main_cst_11, val_main_cst_12, val_main_cst_13, val_main_cst_14]
  simp only [e, h.kiw, h.kib]
  rfl

theorem r_kidxa (s : Fin 2048) (j : Fin 32) :
    val_main_v204 (F := Ideal) x0 x11 x12 x13 (ix2 s ⟨j, by omega⟩) = a.kidx s ⟨j, by omega⟩ := by
  pointwise [val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204]
  rw [dif_pos (by omega)]
  try rw [dif_pos (by omega)]
  simp only [r_ki h, h.cos, h.sin, Args.kidx, rotRow]
  rw [dif_pos j.isLt]
  rfl

theorem r_kidxb (s : Fin 2048) (j : Fin 32) :
    val_main_v204 (F := Ideal) x0 x11 x12 x13 (ix2 s ⟨32 + j, by omega⟩) = a.kidx s ⟨32 + j, by omega⟩ := by
  pointwise [val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204]
  rw [dif_pos (by omega), dif_neg (by omega)]
  simp only [r_ki h, h.cos, h.sin, Args.kidx, rotRow]
  rw [dif_neg (by omega), dif_pos (by omega)]
  simp only [Nat.add_sub_cancel_left]
  rfl

theorem r_kidxn (s : Fin 2048) (j : Fin 64) :
    val_main_v204 (F := Ideal) x0 x11 x12 x13 (ix2 s ⟨64 + j, by omega⟩) = a.kidx s ⟨64 + j, by omega⟩ := by
  pointwise [val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204]
  skip
  simp only [r_ki h, h.cos, h.sin, Args.kidx, rotRow]
  rw [dif_neg (by omega), dif_neg (by omega)]
  simp only [show ∀ j : ℕ, 64 + j - 32 - 32 = j from fun j => by omega]

/-- The heads' weights. -/
theorem r_wts (s : Fin 2048) (g : Fin 16) : val_main_v208 (F := Ideal) x0 x14 (ix2 s g) = a.wts s g := by
  pointwise [val_main_v205, val_main_v206, val_main_v207, val_main_v208, val_main_cst_15, val_main_v0]
  simp only [h.x, h.wwp]
  rfl

omit h in
/-- A sum of 128 terms, in the kernel's three parts. -/
theorem sum128 (f : Fin 128 → EReal) : ∑ k, f k = ∑ j : Fin 32, f ⟨j, by omega⟩ + ∑ j : Fin 32, f ⟨32 + j, by omega⟩
    + ∑ j : Fin 64, f ⟨64 + j, by omega⟩ := by
  have e1 := Fin.sum_univ_add (a := 64) (b := 64) f
  have e2 := Fin.sum_univ_add (a := 32) (b := 32) (fun i => f (Fin.castAdd 64 i))
  rw [e1, e2]
  rfl

/-- The index logits. -/
theorem r_log (t s : Fin 2048) : val_main_v218 (F := Ideal) x0 x1 x2 x3 x10 x11 x12 x13 x14 (ix2 t s) = a.logK t s := by
  pointwise [val_main_v209, val_main_v210, val_main_v211, val_main_v212, val_main_v213, val_main_v214, val_main_v215, val_main_v216, val_main_v217, val_main_v218, val_main_v1, val_main_cst_16, val_main_cst_17, val_main_cst_18]
  simp only [sum128, r_qia h, r_qib h, r_qin h, r_kidxa h, r_kidxb h, r_kidxn h, r_wts h, h.am]
  exact add_comm _ _

end Cert.Mla
-- ==== Proof.RefOut.lean ====
/- The reference's attention and result, as the plain formulas of the arguments. -/
module

public import proofs.«01_k».proof.Proof.RefIndex

@[expose] public section

set_option maxRecDepth 16384

noncomputable section

namespace Cert.Mla

open Idealize.ShloMosaic Idealize.ShloMosaic.TcCoe Idealize.SL.Sem
open Cert.ReferenceIdeal Cert.ReferenceIdeal.Gen Cert.ReferenceIdeal.Read

/-- A sum of 192 terms: the first 128, then the even and the odd ones of the other 64. -/
theorem sum192 (f : Fin 192 → EReal) : ∑ k, f k = ∑ j : Fin 128, f ⟨j, by omega⟩ + ∑ j : Fin 32, f ⟨128 + 2 * j, by omega⟩
    + ∑ j : Fin 32, f ⟨128 + (2 * j + 1), by omega⟩ := by
  have e1 := Fin.sum_univ_add (a := 128) (b := 64) f
  have e2 : ∑ i : Fin 64, f (Fin.natAdd 128 i) = ∑ j : Fin 32, f ⟨128 + 2 * j, by omega⟩ + ∑ j : Fin 32, f ⟨128 + (2 * j + 1), by omega⟩ := by
    rw [← Equiv.sum_comp (finProdFinEquiv (m := 32) (n := 2)), Fintype.sum_prod_type, ← Finset.sum_add_distrib]
    refine Finset.sum_congr rfl fun j _ => ?_
    rw [Fin.sum_univ_two]
    refine congrArg₂ (· + ·) (congrArg f (Fin.ext ?_)) (congrArg f (Fin.ext ?_)) <;> simp [finProdFinEquiv] <;> omega
  rw [e1, e2, add_assoc]
  rfl

variable {x0 : FVec Ideal S2048x1x2048 .f32} {x1 : FVec Ideal S1x1x2048x2048 .f32} {x2 : FVec Ideal S512x2048 .f32} {x3 : FVec Ideal S512 .f32} {x4 : FVec Ideal S3072x512 .f32} {x5 : FVec Ideal S320x2048 .f32} {x6 : FVec Ideal S256 .f32} {x7 : FVec Ideal S2048x256 .f32} {x8 : FVec Ideal S2048x256 .f32} {x9 : FVec Ideal S2048x2048 .f32} {x10 : FVec Ideal S2048x512 .f32} {x11 : FVec Ideal S128x2048 .f32} {x12 : FVec Ideal S128 .f32} {x13 : FVec Ideal S128 .f32} {x14 : FVec Ideal S16x2048 .f32} {x15 : FVec Ideal S2048x1 .f32}
  {a : Args} (h : Reads x0 x1 x2 x3 x4 x5 x6 x7 x8 x9 x10 x11 x12 x13 x14 x15 a)

/-- The score of row `t` against row `s` in head `g`, as the kernel adds it up. -/
abbrev sc (a : Args) (g : Fin 16) (t s : Fin 2048) : EReal :=
  score (fun k => a.qn t ⟨128 * g + k, by omega⟩) (fun k => a.kn s ⟨128 * g + k, by omega⟩)
    (fun k => a.qpa t ⟨32 * g + k, by omega⟩) (fun k => a.kpe s ⟨k, by omega⟩)
    (fun k => a.qpb t ⟨32 * g + k, by omega⟩) (fun k => a.kpe s ⟨32 + k, by omega⟩) (pick (a.logK t s) (a.th t) (a.am t s))

include h

theorem r_pick (t s : Fin 2048) : val_main_v221 (F := Ideal) x0 x1 x2 x3 x10 x11 x12 x13 x14 x15 (ix2 t s)
    = if a.th t ≤ a.logK t s then 0 else Ideal.ofBits .f32 0xCE6E6B28#32 := by
  pointwise [val_main_v221, val_main_v220, val_main_v219, val_main_call0_v0, val_main_call0_v1, val_main_cst_19, val_main_cst_20]
  simp only [r_log h, h.th]

theorem r_score (g : Fin 16) (t s : Fin 2048) : val_main_v231 (F := Ideal) x0 x1 x2 x3 x4 x5 x6 x7 x10 x11 x12 x13 x14 x15 (ix3 g t s) = sc a g t s := by
  pointwise [val_main_v222, val_main_v223, val_main_v224, val_main_v225, val_main_v226, val_main_v227, val_main_v228, val_main_v229, val_main_v230, val_main_v231, val_main_v1, val_main_cst_21]
  have e : (id (val_main_v221 (F := Ideal) x0 x1 x2 x3 x10 x11 x12 x13 x14 x15) : FVec Ideal S2048x2048 .f32) (ix2 t s)
      = if a.th t ≤ a.logK t s then 0 else Ideal.ofBits .f32 0xCE6E6B28#32 := r_pick h t s
  rw [e]
  simp only [sum192, r_qn h, r_qpa h, r_qpb h, r_kn h, r_kpa h, r_kpb h, h.am]
  rw [add_assoc, add_comm (a.am t s)]
  rfl

omit h in
/-- The largest entry of a row, from a start no larger than any. -/
theorem max_at (y : FVec Ideal S16x2048x2048 .f32) (g : Fin 16) (t : Fin 2048) :
    (Host.reduce FloatOps.maximumf y (val_main_cst_22 (F := Ideal)) reducesTo_S16x2048x2048_S16x2048_d2 h_S_ :
      FVec Ideal S16x2048 .f32) (ix2 g t) = top (fun s => y (ix3 g t s)) := by
  pointwise [val_main_cst_22]
  rfl

theorem r_max (g : Fin 16) (t : Fin 2048) : val_main_v232 (F := Ideal) x0 x1 x2 x3 x4 x5 x6 x7 x10 x11 x12 x13 x14 x15 (ix2 g t) = top (sc a g t) := by
  rw [val_main_v232, max_at]
  simp only [r_score h]

omit h in
theorem start_at (w : FVec Ideal S16x2048 .f32) (g : Fin 16) (t : Fin 2048) :
    maximumf (val_main_v233 (F := Ideal)) w (ix2 g t) = max (Ideal.ofBits .f32 0xFF800000#32) (w (ix2 g t)) := by
  pointwise [val_main_v233, val_main_cst_23]

omit h in
/-- A row's largest entry, found from a start, is no smaller than that start. -/
theorem start_top (f : Fin 2048 → EReal) : max (Ideal.ofBits .f32 0xFF800000#32) (top f) = top f := by
  unfold top
  generalize Ideal.ofBits .f32 0xFF800000#32 = b
  exact max_eq_right ((Finset.le_fold_max b).2 (Or.inl le_rfl))

theorem r_top (g : Fin 16) (t : Fin 2048) : val_main_v234 (F := Ideal) x0 x1 x2 x3 x4 x5 x6 x7 x10 x11 x12 x13 x14 x15 (ix2 g t) = top (sc a g t) := by
  have e := r_max h g t
  unfold val_main_v234
  generalize val_main_v232 (F := Ideal) x0 x1 x2 x3 x4 x5 x6 x7 x10 x11 x12 x13 x14 x15 = w at e
  rw [start_at, e, start_top]

theorem r_exp (g : Fin 16) (t s : Fin 2048) : val_main_v238 (F := Ideal) x0 x1 x2 x3 x4 x5 x6 x7 x10 x11 x12 x13 x14 x15 (ix3 g t s) = Ideal.exp (sc a g t s - top (sc a g t)) := by
  pointwise [val_main_v235, val_main_v236, val_main_v237, val_main_v238]
  simp only [r_score h, r_top h]

theorem r_wgt (g : Fin 16) (t s : Fin 2048) : val_main_v242 (F := Ideal) x0 x1 x2 x3 x4 x5 x6 x7 x10 x11 x12 x13 x14 x15 (ix3 g t s) = wgt (sc a g t) s := by
  pointwise [val_main_v239, val_main_v240, val_main_v241, val_main_v242, val_main_cst_24]
  simp only [r_exp h]
  rfl

theorem r_att (t : Fin 2048) (g : Fin 16) (d : Fin 128) :
    val_main_v244 (F := Ideal) x0 x1 x2 x3 x4 x5 x6 x7 x8 x10 x11 x12 x13 x14 x15 (ix3 t g d) = a.attK t g d := by
  pointwise [val_main_v243, val_main_v244]
  simp only [r_wgt h, r_v h]
  exact Finset.sum_congr rfl fun x _ => mul_comm _ _

/-- The result. -/
theorem r_out (t j : Fin 2048) : val_main_v247 (F := Ideal) x0 x1 x2 x3 x4 x5 x6 x7 x8 x9 x10 x11 x12 x13 x14 x15 (ix2 t j) = a.outK t j := by
  pointwise [val_main_v245, val_main_v246, val_main_v247]
  simp only [r_att h, h.wproj]
  rfl

end Cert.Mla
-- ==== Proof.RefRun.lean ====
/- The reference's run: both results as the plain formulas of the arguments. -/
module

public import proofs.«01_k».proof.Proof.RefOut
public import proofs.«01_k».proof.Proof.Gen.ReferenceIdeal.Run

@[expose] public section

set_option maxRecDepth 16384

noncomputable section

namespace Cert.Mla

open Idealize.ShloMosaic Idealize.ShloMosaic.TcCoe Idealize.SL.Sem Idealize.ShloMosaic.StableHlo
open Cert.ReferenceIdeal Cert.ReferenceIdeal.Gen Cert.ReferenceIdeal.Read

theorem ix2_pair (j : S2048x2048.Idx) : ∃ (r k : Fin 2048), j = ix2 r k := ⟨j 0, j 1, by funext i; fin_cases i <;> rfl⟩

/-- The reference's arguments in memory are those of `a`. -/
abbrev ReadsAt (m : (ℓ : Loc nD τ sig) → Buf (Elt Ideal) ℓ) (c : Dev nD) (a : Args) : Prop :=
  Reads (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15)) a

theorem reference_run (m : (ℓ : Loc nD τ sig) → Buf (Elt Ideal) ℓ) (ρ : Dev nD → PrngReg) (a : Dev nD → Args)
    (h : ∀ c, ReadsAt m c (a c)) :
    θ_run defs (onTc (τ := τ) (main (F := Ideal))) ⟨m, fun _ => 0, ρ⟩ (fun r => ∀ c : Dev nD,
      r.2.mem ((c.tc : Thread nD τ).loc main_v247) = (fun j : S2048x2048.Idx => (a c).outK (j 0) (j 1))
      ∧ r.2.mem ((c.tc : Thread nD τ).loc main_v218) = (fun j : S2048x2048.Idx => (a c).logK (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun s hs c => by
    obtain ⟨h1, h2, h3⟩ := hs c
    refine ⟨?_, ?_, h3⟩
    · refine h1.trans ((val_main_v247_eq (launchContents m c)).trans (funext fun j => ?_))
      obtain ⟨r, k, rfl⟩ := ix2_pair j
      exact r_out (h c) r k
    · refine h2.trans ((val_main_v218_eq (launchContents m c)).trans (funext fun j => ?_))
      obtain ⟨r, k, rfl⟩ := ix2_pair j
      exact r_log (h c) r k) (Cert.ReferenceIdeal.Value.run m ρ)

end Cert.Mla
-- ==== Proof.Tables.lean ====
/- The rotation's tables are the same in both programs. -/
module

public import proofs.«01_k».proof.Proof.KernelValue
public import proofs.«01_k».proof.Proof.Gen.ReferenceIdeal.Read
public import Idealize.ShloMosaic.Lib.Pointwise

@[expose] public section

set_option maxRecDepth 16384

noncomputable section

namespace Cert.Mla

open Idealize.ShloMosaic Idealize.ShloMosaic.TcCoe Idealize.SL.Sem Idealize.ShloMosaic.StableHlo
open Cert.KernelIdeal Cert.KernelIdeal.Gen

set_option maxHeartbeats 2000000 in
theorem cos_eq (A : Valuation τ sig (Elt Ideal)) :
    (StableHlo.after hostOps0 A (Proc.devRef .tc main_v19) : FVec Ideal S2048x32 .f32) = Cert.ReferenceIdeal.Read.val_main_v19 (F := Ideal) := by
  after_results_simp
  rfl

set_option maxHeartbeats 2000000 in
theorem sin_eq (A : Valuation τ sig (Elt Ideal)) :
    (StableHlo.after hostOps0 A (Proc.devRef .tc main_v20) : FVec Ideal S2048x32 .f32) = Cert.ReferenceIdeal.Read.val_main_v20 (F := Ideal) := by
  after_results_simp
  rfl

theorem cos_at (A : Valuation τ sig (Elt Ideal)) (r : Fin 2048) (k : Fin 32) :
    Cert.ReferenceIdeal.Read.val_main_v19 (F := Ideal) (ix2 r k) = (argsK A).cos r k := by
  rw [← cos_eq A]
  rfl

theorem sin_at (A : Valuation τ sig (Elt Ideal)) (r : Fin 2048) (k : Fin 32) :
    Cert.ReferenceIdeal.Read.val_main_v20 (F := Ideal) (ix2 r k) = (argsK A).sin r k := by
  rw [← sin_eq A]
  rfl

end Cert.Mla
-- ==== Proof.TopNet.lean ====
/- One stage of the sorting network, as the top-k call spells it on a row of 2048 numbers, and the whole network. -/
module

public import Idealize.ShloMosaic.Lib.SortNet.Sorts
public import Idealize.ShloMosaic.Lib.Pointwise

@[expose] public section

noncomputable section

namespace Cert.TopRow

open Idealize.ShloMosaic Idealize.ShloMosaic.SortNet

/-- A row of index logits. -/
abbrev Row := Fin (2 ^ 11) → EReal

/-- One stage: blocks of `2 ^ kb`, distance `2 ^ s`. -/
def stg (kb s : Nat) (x : Row) : Row := Network.apply (stage 11 s fun i => decide (i.val &&& 2 ^ kb = 0) == true) x

/-- Whether a bit of a column number is clear, as the kernel tests it on words. -/
theorem bit_word (i b : Nat) (hi : i < 2 ^ 11) (hb : b ≤ 11) :
    IntOp.cmpi CmpIPredicate.eq (IntOp.andi (BitVec.ofNat 32 i) (BitVec.ofNat 32 (2 ^ b))) 0#32
      = BitVec.ofBool (decide (i &&& 2 ^ b = 0)) := by
  have hb2 : 2 ^ b ≤ 2 ^ 11 := Nat.pow_le_pow_right (by decide) hb
  have e : (BitVec.ofNat 32 i &&& BitVec.ofNat 32 (2 ^ b)) = BitVec.ofNat 32 (i &&& 2 ^ b) := by
    apply BitVec.eq_of_toNat_eq
    rw [BitVec.toNat_and, BitVec.toNat_ofNat, BitVec.toNat_ofNat, BitVec.toNat_ofNat, Nat.mod_eq_of_lt (by omega),
      Nat.mod_eq_of_lt (by omega), Nat.mod_eq_of_lt]
    exact lt_of_le_of_lt Nat.and_le_left (by omega)
  have hz : (BitVec.ofNat 32 (i &&& 2 ^ b) = 0#32) ↔ i &&& 2 ^ b = 0 := by
    rw [← BitVec.toNat_inj, BitVec.toNat_ofNat, Nat.mod_eq_of_lt (lt_of_le_of_lt Nat.and_le_left (by omega))]
    rfl
  have hd : (BitVec.ofNat 32 (i &&& 2 ^ b) == 0#32) = decide (i &&& 2 ^ b = 0) := by
    rw [Bool.eq_iff_iff, beq_iff_eq, decide_eq_true_iff]
    exact hz
  unfold IntOp.cmpi IntOp.andi
  rw [e]
  exact congrArg BitVec.ofBool hd

/-- Bit `kb` of a position does not see the flip of a lower bit. -/
theorem xor_and (j s kb : Nat) (h : s < kb) : (j ^^^ 2 ^ s) &&& 2 ^ kb = j &&& 2 ^ kb := by
  apply Nat.eq_of_testBit_eq
  intro t
  simp only [Nat.testBit_and, Nat.testBit_xor, Nat.testBit_two_pow]
  by_cases e : kb = t
  · subst e
    simp [Nat.ne_of_lt h]
  · simp [e]

/-- A stage at a position: the greater or the lesser of the entry and its partner's. -/
theorem stg_at (kb s : Nat) (hs : s < 11) (hk : s < kb) (x : Row) (i : Fin (2 ^ 11)) :
    stg kb s x i = if (xor (decide (i.val &&& 2 ^ kb = 0)) (!decide (i.val &&& 2 ^ s = 0))) = true
      then max (x i) (x (partner 11 s i)) else min (x i) (x (partner 11 s i)) := by
  unfold stg
  by_cases hj : i.val &&& 2 ^ s = 0
  · rw [(apply_stage hs _ x i hj).1]
    simp [hj]
  · have e := (apply_stage hs (fun i => decide (i.val &&& 2 ^ kb = 0) == true) x (partner 11 s i) (partner_and_of_set hs i hj)).2
    rw [partner_partner hs] at e
    rw [e, partner_val hs, xor_and _ _ _ hk]
    by_cases hd : i.val &&& 2 ^ kb = 0
    · simp [hj, hd, min_comm]
    · simp [hj, hd, max_comm]

/-- A select under words that hold truth values. -/
theorem select_bits (a b : Bool) (l r : EReal) :
    Scalar.select (IntOp.xori (BitVec.ofBool a) (IntOp.xori (BitVec.ofBool b) 1#1)) l r = if (xor a (!b)) = true then l else r := by
  cases a <;> cases b <;> rfl

/-- A select under one word that holds a truth value. -/
theorem select_bit (a : Bool) (l r : EReal) : Scalar.select (BitVec.ofBool a) l r = if a = true then l else r := by
  cases a <;> rfl

/-- A select of one value with itself. -/
theorem select_same (c : BitVec 1) (l : EReal) : Scalar.select c l l = l := by
  unfold Scalar.select
  exact ite_self _

/-- A stage as the kernel spells it: the partner is read through two rotations of the row by `a`. -/
theorem stg_eq (kb s a n : Nat) (h : s < kb ∧ kb ≤ 11 ∧ s < 11 ∧ a = 2 ^ s ∧ n = 2048 - 2 ^ s) (x : Row) (i : Fin 2048)
    (p1 : i.val < n → a + i.val < 2048) (p2 : ¬ i.val < n → i.val - n < 2048)
    (p3 : i.val < a → n + i.val < 2048) (p4 : ¬ i.val < a → i.val - a < 2048) :
    Scalar.select
      (IntOp.xori (IntOp.cmpi CmpIPredicate.eq (IntOp.andi (BitVec.ofNat 32 i.val) (BitVec.ofNat 32 (2 ^ kb))) 0#32)
        (IntOp.xori (IntOp.cmpi CmpIPredicate.eq (IntOp.andi (BitVec.ofNat 32 i.val) (BitVec.ofNat 32 (2 ^ s))) 0#32) 1#1))
      (max (x i)
        (Scalar.select (IntOp.cmpi CmpIPredicate.eq (IntOp.andi (BitVec.ofNat 32 i.val) (BitVec.ofNat 32 (2 ^ s))) 0#32)
          (if h : i.val < n then x ⟨a + i.val, p1 h⟩ else x ⟨i.val - n, p2 h⟩)
          (if h : i.val < a then x ⟨n + i.val, p3 h⟩ else x ⟨i.val - a, p4 h⟩)))
      (min (x i)
        (Scalar.select (IntOp.cmpi CmpIPredicate.eq (IntOp.andi (BitVec.ofNat 32 i.val) (BitVec.ofNat 32 (2 ^ s))) 0#32)
          (if h : i.val < n then x ⟨a + i.val, p1 h⟩ else x ⟨i.val - n, p2 h⟩)
          (if h : i.val < a then x ⟨n + i.val, p3 h⟩ else x ⟨i.val - a, p4 h⟩)))
      = stg kb s x i := by
  obtain ⟨hk, hkb, hs, ha, hn⟩ := h
  have hp2 : 2 ^ s < 2048 := Nat.pow_lt_pow_right (by decide) hs
  have key : (Scalar.select (IntOp.cmpi CmpIPredicate.eq (IntOp.andi (BitVec.ofNat 32 i.val) (BitVec.ofNat 32 (2 ^ s))) 0#32)
      (if h : i.val < n then x ⟨a + i.val, p1 h⟩ else x ⟨i.val - n, p2 h⟩)
      (if h : i.val < a then x ⟨n + i.val, p3 h⟩ else x ⟨i.val - a, p4 h⟩)) = x (partner 11 s i) := by
    rw [bit_word i.val s i.isLt (le_of_lt hs), select_bit]
    by_cases hj : i.val &&& 2 ^ s = 0
    · have e := partner_val_of_clear hs i hj
      have hl : (partner 11 s i).val < 2048 := (partner 11 s i).isLt
      rw [if_pos (by simpa using hj), dif_pos (show i.val < n by omega)]
      exact congrArg x (Fin.ext (show a + i.val = (partner 11 s i).val by omega))
    · have e := partner_val_of_set hs i hj
      rw [if_neg (by simpa using hj), dif_neg (show ¬ i.val < a by omega)]
      exact congrArg x (Fin.ext (show i.val - a = (partner 11 s i).val by omega))
  rw [key, bit_word i.val kb i.isLt hkb, bit_word i.val s i.isLt (le_of_lt hs), select_bits, stg_at kb s hs hk]

/-- The stages of the sort, first to last. -/
def steps : List (Nat × Nat) := (List.range 11).flatMap fun l => (List.range (l + 1)).reverse.map fun s => (l + 1, s)

/-- All stages on one row. -/
def sorted (x : Row) : Row := steps.foldl (fun x p => stg p.1 p.2 x) x

/-- A list of stages is the network of them. -/
theorem foldl_stg (L : List (Nat × Nat)) (x : Row) : L.foldl (fun x p => stg p.1 p.2 x) x
    = Network.apply (L.flatMap fun p => stage 11 p.2 fun i => decide (i.val &&& 2 ^ p.1 = 0) == true) x := by
  induction L generalizing x with
  | nil => rfl
  | cons p L ih => rw [List.foldl_cons, ih, List.flatMap_cons, Network.apply_append]; rfl

/-- All stages are the bitonic sort. -/
theorem sorted_eq (x : Row) : sorted x = Network.apply (sortNet 11 true) x := by
  unfold sorted steps sortNet
  rw [foldl_stg, List.flatMap_assoc]
  simp only [List.flatMap_map]

/-- The sorted row descends. -/
theorem sorted_antitone (x : Row) : Antitone (sorted x) := by
  rw [sorted_eq]
  exact sortNet_apply_antitone 11 x

/-- The sorted row is the row read through a permutation. -/
theorem sorted_perm (x : Row) : ∃ σ : Equiv.Perm (Fin (2 ^ 11)), sorted x = x ∘ σ := by
  rw [sorted_eq]
  exact Network.exists_perm _ x

end Cert.TopRow
-- ==== Proof.TopStages.lean ====
/- The 66 stages of the top-k call: what the kernel stores after each stage is the stage of what it held before. -/
module

public import proofs.«01_k».proof.Proof.Gen.TopKIdeal.Frame
public import proofs.«01_k».proof.Proof.TopNet
public import Idealize.ShloMosaic.Lib.Pointwise

@[expose] public section

set_option maxRecDepth 16384

noncomputable section

namespace Cert.TopRow

open Idealize.ShloMosaic
open Cert.TopKIdeal Cert.TopKIdeal.Gen

/-- A block of 256 rows. -/
abbrev Block := Vec Ideal S256x2048 .f32

/-- The column numbers of a block. -/
def col : IVec S256x2048 32 := iota .tc S256x2048 32 [1] iota_S256x2048_d1_w32

/-- The column numbers, spelled with the literal rank. -/
theorem iota_col : iota .tc S256x2048 32 (@List.cons (Fin 2) (1 : Fin S256x2048.rank) (@List.nil (Fin 2))) iota_S256x2048_d1_w32 = col := rfl

/-- One stage on every row of a block. -/
def Stg (kb s : Nat) (x : Block) : Block := fun y => stg kb s (fun k => x (ix2 (y 0) k)) (y 1)

/-- Two blocks with the same entries are the same. -/
theorem ext2 {f g : Block} (h : ∀ (r : Fin 256) (i : Fin 2048), f (ix2 r i) = g (ix2 r i)) : f = g := by
  funext y
  have e : y = ix2 (y 0) (y 1) := by funext a; match a with | 0 => rfl | 1 => rfl
  rw [e]
  exact h (y 0) (y 1)

variable (x : Block)

theorem st0 : k0_pay3 x = Stg 1 0 x := by
  refine ext2 fun r i => ?_
  pointwise [col, k0_pay3]
  exact stg_eq 1 0 1 2047 (by decide) (fun k => x (ix2 r k)) i _ _ _ _

theorem st1 : k0_pay9 k0_pay4 k0_pay5 (k0_pay7 x) (k0_pay8 x) = Stg 2 1 x := by
  refine ext2 fun r i => ?_
  pointwise [col, k0_pay4, k0_pay5, k0_pay6, k0_pay7, k0_pay8, k0_pay9]
  exact stg_eq 2 1 2 2046 (by decide) (fun k => x (ix2 r k)) i _ _ _ _

theorem st2 : k0_pay10 col k0_pay4 x = Stg 2 0 x := by
  refine ext2 fun r i => ?_
  pointwise [col, k0_pay4, k0_pay10]
  exact stg_eq 2 0 1 2047 (by decide) (fun k => x (ix2 r k)) i _ _ _ _

theorem st3 : k0_pay14 x (k0_pay11 col) (k0_pay12 col) (k0_pay13 col x) = Stg 3 2 x := by
  refine ext2 fun r i => ?_
  pointwise [col, k0_pay11, k0_pay12, k0_pay13, k0_pay14]
  exact stg_eq 3 2 4 2044 (by decide) (fun k => x (ix2 r k)) i _ _ _ _

theorem st4 : k0_pay15 col (k0_pay11 col) x = Stg 3 1 x := by
  refine ext2 fun r i => ?_
  pointwise [col, k0_pay11, k0_pay15]
  exact stg_eq 3 1 2 2046 (by decide) (fun k => x (ix2 r k)) i _ _ _ _

theorem st5 : k0_pay21 (k0_pay11 col) (k0_pay18 col x) (k0_pay19 col x) (k0_pay20 col) = Stg 3 0 x := by
  refine ext2 fun r i => ?_
  pointwise [col, k0_pay11, k0_pay16, k0_pay17, k0_pay18, k0_pay19, k0_pay20, k0_pay21]
  exact stg_eq 3 0 1 2047 (by decide) (fun k => x (ix2 r k)) i _ _ _ _

theorem st6 : k0_pay23 col x = Stg 4 3 x := by
  refine ext2 fun r i => ?_
  pointwise [col, k0_pay22, k0_pay23]
  exact stg_eq 4 3 8 2040 (by decide) (fun k => x (ix2 r k)) i _ _ _ _

theorem st7 : k0_pay28 (k0_pay22 col) (k0_pay24 col) (k0_pay26 col x) (k0_pay27 col x) = Stg 4 2 x := by
  refine ext2 fun r i => ?_
  pointwise [col, k0_pay22, k0_pay24, k0_pay25, k0_pay26, k0_pay27, k0_pay28]
  exact stg_eq 4 2 4 2044 (by decide) (fun k => x (ix2 r k)) i _ _ _ _

theorem st8 : k0_pay29 col (k0_pay22 col) x = Stg 4 1 x := by
  refine ext2 fun r i => ?_
  pointwise [col, k0_pay22, k0_pay29]
  exact stg_eq 4 1 2 2046 (by decide) (fun k => x (ix2 r k)) i _ _ _ _

theorem st9 : k0_pay31 (k0_pay30 col (k0_pay22 col) x) = Stg 4 0 x := by
  refine ext2 fun r i => ?_
  pointwise [col, k0_pay22, k0_pay30, k0_pay31]
  exact stg_eq 4 0 1 2047 (by decide) (fun k => x (ix2 r k)) i _ _ _ _

theorem st10 : k0_pay33 col x = Stg 5 4 x := by
  refine ext2 fun r i => ?_
  pointwise [col, k0_pay32, k0_pay33]
  exact stg_eq 5 4 16 2032 (by decide) (fun k => x (ix2 r k)) i _ _ _ _

theorem st11 : k0_pay39 (k0_pay32 col) (k0_pay36 col x) (k0_pay37 col x) (k0_pay38 col) = Stg 5 3 x := by
  refine ext2 fun r i => ?_
  pointwise [col, k0_pay32, k0_pay34, k0_pay35, k0_pay36, k0_pay37, k0_pay38, k0_pay39]
  exact stg_eq 5 3 8 2040 (by decide) (fun k => x (ix2 r k)) i _ _ _ _

theorem st12 : k0_pay40 col (k0_pay32 col) x = Stg 5 2 x := by
  refine ext2 fun r i => ?_
  pointwise [col, k0_pay32, k0_pay40]
  exact stg_eq 5 2 4 2044 (by decide) (fun k => x (ix2 r k)) i _ _ _ _

theorem st13 : k0_pay42 (k0_pay41 col (k0_pay32 col) x) = Stg 5 1 x := by
  refine ext2 fun r i => ?_
  pointwise [col, k0_pay32, k0_pay41, k0_pay42]
  exact stg_eq 5 1 2 2046 (by decide) (fun k => x (ix2 r k)) i _ _ _ _

theorem st14 : k0_pay43 col (k0_pay32 col) x = Stg 5 0 x := by
  refine ext2 fun r i => ?_
  pointwise [col, k0_pay32, k0_pay43]
  exact stg_eq 5 0 1 2047 (by decide) (fun k => x (ix2 r k)) i _ _ _ _

theorem st15 : k0_pay46 (k0_pay45 col x) = Stg 6 5 x := by
  refine ext2 fun r i => ?_
  pointwise [col, k0_pay44, k0_pay45, k0_pay46]
  exact stg_eq 6 5 32 2016 (by decide) (fun k => x (ix2 r k)) i _ _ _ _

theorem st16 : k0_pay47 col (k0_pay44 col) x = Stg 6 4 x := by
  refine ext2 fun r i => ?_
  pointwise [col, k0_pay44, k0_pay47]
  exact stg_eq 6 4 16 2032 (by decide) (fun k => x (ix2 r k)) i _ _ _ _

theorem st17 : k0_pay49 (k0_pay48 col (k0_pay44 col) x) = Stg 6 3 x := by
  refine ext2 fun r i => ?_
  pointwise [col, k0_pay44, k0_pay48, k0_pay49]
  exact stg_eq 6 3 8 2040 (by decide) (fun k => x (ix2 r k)) i _ _ _ _

theorem st18 : k0_pay50 col (k0_pay44 col) x = Stg 6 2 x := by
  refine ext2 fun r i => ?_
  pointwise [col, k0_pay44, k0_pay50]
  exact stg_eq 6 2 4 2044 (by decide) (fun k => x (ix2 r k)) i _ _ _ _

theorem st19 : k0_pay51 col (k0_pay44 col) x = Stg 6 1 x := by
  refine ext2 fun r i => ?_
  pointwise [col, k0_pay44, k0_pay51]
  exact stg_eq 6 1 2 2046 (by decide) (fun k => x (ix2 r k)) i _ _ _ _

theorem st20 : k0_pay52 col (k0_pay44 col) x = Stg 6 0 x := by
  refine ext2 fun r i => ?_
  pointwise [col, k0_pay44, k0_pay52]
  exact stg_eq 6 0 1 2047 (by decide) (fun k => x (ix2 r k)) i _ _ _ _

theorem st21 : k0_pay54 col x = Stg 7 6 x := by
  refine ext2 fun r i => ?_
  pointwise [col, k0_pay53, k0_pay54]
  exact stg_eq 7 6 64 1984 (by decide) (fun k => x (ix2 r k)) i _ _ _ _

theorem st22 : k0_pay55 col (k0_pay53 col) x = Stg 7 5 x := by
  refine ext2 fun r i => ?_
  pointwise [col, k0_pay53, k0_pay55]
  exact stg_eq 7 5 32 2016 (by decide) (fun k => x (ix2 r k)) i _ _ _ _

theorem st23 : k0_pay56 col (k0_pay53 col) x = Stg 7 4 x := by
  refine ext2 fun r i => ?_
  pointwise [col, k0_pay53, k0_pay56]
  exact stg_eq 7 4 16 2032 (by decide) (fun k => x (ix2 r k)) i _ _ _ _

theorem st24 : k0_pay58 col (k0_pay53 col) x (k0_pay57 x) = Stg 7 3 x := by
  refine ext2 fun r i => ?_
  pointwise [col, k0_pay53, k0_pay57, k0_pay58]
  exact stg_eq 7 3 8 2040 (by decide) (fun k => x (ix2 r k)) i _ _ _ _

theorem st25 : k0_pay59 col (k0_pay53 col) x = Stg 7 2 x := by
  refine ext2 fun r i => ?_
  pointwise [col, k0_pay53, k0_pay59]
  exact stg_eq 7 2 4 2044 (by decide) (fun k => x (ix2 r k)) i _ _ _ _

theorem st26 : k0_pay63 col (k0_pay53 col) x (k0_pay60 x) (k0_pay61 x) (k0_pay62 x) = Stg 7 1 x := by
  refine ext2 fun r i => ?_
  pointwise [col, k0_pay53, k0_pay60, k0_pay61, k0_pay62, k0_pay63]
  exact stg_eq 7 1 2 2046 (by decide) (fun k => x (ix2 r k)) i _ _ _ _

theorem st27 : k0_pay64 col (k0_pay53 col) x = Stg 7 0 x := by
  refine ext2 fun r i => ?_
  pointwise [col, k0_pay53, k0_pay64]
  exact stg_eq 7 0 1 2047 (by decide) (fun k => x (ix2 r k)) i _ _ _ _

theorem st28 : k0_pay67 col x (k0_pay65 col) (k0_pay66 x) = Stg 8 7 x := by
  refine ext2 fun r i => ?_
  pointwise [col, k0_pay65, k0_pay66, k0_pay67]
  exact stg_eq 8 7 128 1920 (by decide) (fun k => x (ix2 r k)) i _ _ _ _

theorem st29 : k0_pay68 col (k0_pay65 col) x = Stg 8 6 x := by
  refine ext2 fun r i => ?_
  pointwise [col, k0_pay65, k0_pay68]
  exact stg_eq 8 6 64 1984 (by decide) (fun k => x (ix2 r k)) i _ _ _ _

theorem st30 : k0_pay71 col (k0_pay65 col) x (k0_pay69 x) (k0_pay70 x) 32#32 = Stg 8 5 x := by
  refine ext2 fun r i => ?_
  pointwise [col, k0_pay65, k0_pay69, k0_pay70, k0_pay71]
  exact stg_eq 8 5 32 2016 (by decide) (fun k => x (ix2 r k)) i _ _ _ _

theorem st31 : k0_pay72 col (k0_pay65 col) x = Stg 8 4 x := by
  refine ext2 fun r i => ?_
  pointwise [col, k0_pay65, k0_pay72]
  exact stg_eq 8 4 16 2032 (by decide) (fun k => x (ix2 r k)) i _ _ _ _

theorem st32 : k0_pay77 (k0_pay65 col) x (k0_pay73 x) (k0_pay74 x) (k0_pay75 col) k0_pay76 = Stg 8 3 x := by
  refine ext2 fun r i => ?_
  pointwise [col, k0_pay65, k0_pay73, k0_pay74, k0_pay75, k0_pay76, k0_pay77]
  exact stg_eq 8 3 8 2040 (by decide) (fun k => x (ix2 r k)) i _ _ _ _

theorem st33 : k0_pay78 col (k0_pay65 col) x = Stg 8 2 x := by
  refine ext2 fun r i => ?_
  pointwise [col, k0_pay65, k0_pay78]
  exact stg_eq 8 2 4 2044 (by decide) (fun k => x (ix2 r k)) i _ _ _ _

theorem st34 : k0_pay83 (k0_pay65 col) (k0_pay79 col) (k0_pay81 col x) (k0_pay82 col x) = Stg 8 1 x := by
  refine ext2 fun r i => ?_
  pointwise [col, k0_pay65, k0_pay79, k0_pay80, k0_pay81, k0_pay82, k0_pay83]
  exact stg_eq 8 1 2 2046 (by decide) (fun k => x (ix2 r k)) i _ _ _ _

theorem st35 : k0_pay84 col (k0_pay65 col) x = Stg 8 0 x := by
  refine ext2 fun r i => ?_
  pointwise [col, k0_pay65, k0_pay84]
  exact stg_eq 8 0 1 2047 (by decide) (fun k => x (ix2 r k)) i _ _ _ _

theorem st36 : k0_pay88 x (k0_pay85 col) (k0_pay86 col) (k0_pay87 col x) = Stg 9 8 x := by
  refine ext2 fun r i => ?_
  pointwise [col, k0_pay85, k0_pay86, k0_pay87, k0_pay88]
  exact stg_eq 9 8 256 1792 (by decide) (fun k => x (ix2 r k)) i _ _ _ _

theorem st37 : k0_pay89 col (k0_pay85 col) x = Stg 9 7 x := by
  refine ext2 fun r i => ?_
  pointwise [col, k0_pay85, k0_pay89]
  exact stg_eq 9 7 128 1920 (by decide) (fun k => x (ix2 r k)) i _ _ _ _

theorem st38 : k0_pay95 (k0_pay85 col) (k0_pay92 col x) (k0_pay93 col x) (k0_pay94 col) = Stg 9 6 x := by
  refine ext2 fun r i => ?_
  pointwise [col, k0_pay85, k0_pay90, k0_pay91, k0_pay92, k0_pay93, k0_pay94, k0_pay95]
  exact stg_eq 9 6 64 1984 (by decide) (fun k => x (ix2 r k)) i _ _ _ _

theorem st39 : k0_pay96 col (k0_pay85 col) x = Stg 9 5 x := by
  refine ext2 fun r i => ?_
  pointwise [col, k0_pay85, k0_pay96]
  exact stg_eq 9 5 32 2016 (by decide) (fun k => x (ix2 r k)) i _ _ _ _

theorem st40 : k0_pay98 (k0_pay97 col (k0_pay85 col) x) = Stg 9 4 x := by
  refine ext2 fun r i => ?_
  pointwise [col, k0_pay85, k0_pay97, k0_pay98]
  exact stg_eq 9 4 16 2032 (by decide) (fun k => x (ix2 r k)) i _ _ _ _

theorem st41 : k0_pay99 col (k0_pay85 col) x = Stg 9 3 x := by
  refine ext2 fun r i => ?_
  pointwise [col, k0_pay85, k0_pay99]
  exact stg_eq 9 3 8 2040 (by decide) (fun k => x (ix2 r k)) i _ _ _ _

theorem st42 : k0_pay100 col (k0_pay85 col) x = Stg 9 2 x := by
  refine ext2 fun r i => ?_
  pointwise [col, k0_pay85, k0_pay100]
  exact stg_eq 9 2 4 2044 (by decide) (fun k => x (ix2 r k)) i _ _ _ _

theorem st43 : k0_pay101 col (k0_pay85 col) x = Stg 9 1 x := by
  refine ext2 fun r i => ?_
  pointwise [col, k0_pay85, k0_pay101]
  exact stg_eq 9 1 2 2046 (by decide) (fun k => x (ix2 r k)) i _ _ _ _

theorem st44 : k0_pay102 col (k0_pay85 col) x = Stg 9 0 x := by
  refine ext2 fun r i => ?_
  pointwise [col, k0_pay85, k0_pay102]
  exact stg_eq 9 0 1 2047 (by decide) (fun k => x (ix2 r k)) i _ _ _ _

theorem st45 : k0_pay104 col x 1024#32 = Stg 10 9 x := by
  refine ext2 fun r i => ?_
  pointwise [col, k0_pay103, k0_pay104]
  exact stg_eq 10 9 512 1536 (by decide) (fun k => x (ix2 r k)) i _ _ _ _

theorem st46 : k0_pay105 col 1024#32 x = Stg 10 8 x := by
  refine ext2 fun r i => ?_
  pointwise [col, k0_pay103, k0_pay105]
  exact stg_eq 10 8 256 1792 (by decide) (fun k => x (ix2 r k)) i _ _ _ _

theorem st47 : k0_pay106 col (k0_pay103 col 1024#32) x = Stg 10 7 x := by
  refine ext2 fun r i => ?_
  pointwise [col, k0_pay103, k0_pay106]
  exact stg_eq 10 7 128 1920 (by decide) (fun k => x (ix2 r k)) i _ _ _ _

theorem st48 : k0_pay107 col (k0_pay103 col 1024#32) x = Stg 10 6 x := by
  refine ext2 fun r i => ?_
  pointwise [col, k0_pay103, k0_pay107]
  exact stg_eq 10 6 64 1984 (by decide) (fun k => x (ix2 r k)) i _ _ _ _

theorem st49 : k0_pay109 col (k0_pay103 col 1024#32) x (k0_pay108 x) = Stg 10 5 x := by
  refine ext2 fun r i => ?_
  pointwise [col, k0_pay103, k0_pay108, k0_pay109]
  exact stg_eq 10 5 32 2016 (by decide) (fun k => x (ix2 r k)) i _ _ _ _

theorem st50 : k0_pay110 col (k0_pay103 col 1024#32) x = Stg 10 4 x := by
  refine ext2 fun r i => ?_
  pointwise [col, k0_pay103, k0_pay110]
  exact stg_eq 10 4 16 2032 (by decide) (fun k => x (ix2 r k)) i _ _ _ _

theorem st51 : k0_pay113 col (k0_pay103 col 1024#32) x (k0_pay111 x) (k0_pay112 x) 8#32 = Stg 10 3 x := by
  refine ext2 fun r i => ?_
  pointwise [col, k0_pay103, k0_pay111, k0_pay112, k0_pay113]
  exact stg_eq 10 3 8 2040 (by decide) (fun k => x (ix2 r k)) i _ _ _ _

theorem st52 : k0_pay114 col (k0_pay103 col 1024#32) x = Stg 10 2 x := by
  refine ext2 fun r i => ?_
  pointwise [col, k0_pay103, k0_pay114]
  exact stg_eq 10 2 4 2044 (by decide) (fun k => x (ix2 r k)) i _ _ _ _

theorem st53 : k0_pay119 (k0_pay103 col 1024#32) x (k0_pay115 x) (k0_pay116 x) (k0_pay117 col) k0_pay118 = Stg 10 1 x := by
  refine ext2 fun r i => ?_
  pointwise [col, k0_pay103, k0_pay115, k0_pay116, k0_pay117, k0_pay118, k0_pay119]
  exact stg_eq 10 1 2 2046 (by decide) (fun k => x (ix2 r k)) i _ _ _ _

theorem st54 : k0_pay120 col (k0_pay103 col 1024#32) x = Stg 10 0 x := by
  refine ext2 fun r i => ?_
  pointwise [col, k0_pay103, k0_pay120]
  exact stg_eq 10 0 1 2047 (by decide) (fun k => x (ix2 r k)) i _ _ _ _

theorem st55 : k0_pay125 x (k0_pay121 col) (k0_pay122 x) (k0_pay123 x) (k0_pay124 col) = Stg 11 10 x := by
  refine ext2 fun r i => ?_
  pointwise [col, k0_pay121, k0_pay122, k0_pay123, k0_pay124, k0_pay125]
  have e := stg_eq 11 10 1024 1024 (by decide) (fun k => x (ix2 r k)) i (fun h => by omega) (fun h => by omega)
    (fun h => by omega) (fun h => by omega)
  rw [select_same] at e
  exact e

theorem st56 : k0_pay126 col (k0_pay121 col) x = Stg 11 9 x := by
  refine ext2 fun r i => ?_
  pointwise [col, k0_pay121, k0_pay126]
  exact stg_eq 11 9 512 1536 (by decide) (fun k => x (ix2 r k)) i _ _ _ _

theorem st57 : k0_pay129 (k0_pay121 col) x (k0_pay127 col) (k0_pay128 col x) = Stg 11 8 x := by
  refine ext2 fun r i => ?_
  pointwise [col, k0_pay121, k0_pay127, k0_pay128, k0_pay129]
  exact stg_eq 11 8 256 1792 (by decide) (fun k => x (ix2 r k)) i _ _ _ _

theorem st58 : k0_pay130 col (k0_pay121 col) x = Stg 11 7 x := by
  refine ext2 fun r i => ?_
  pointwise [col, k0_pay121, k0_pay130]
  exact stg_eq 11 7 128 1920 (by decide) (fun k => x (ix2 r k)) i _ _ _ _

theorem st59 : k0_pay136 (k0_pay121 col) (k0_pay133 col x) (k0_pay134 col x) (k0_pay135 col) = Stg 11 6 x := by
  refine ext2 fun r i => ?_
  pointwise [col, k0_pay121, k0_pay131, k0_pay132, k0_pay133, k0_pay134, k0_pay135, k0_pay136]
  exact stg_eq 11 6 64 1984 (by decide) (fun k => x (ix2 r k)) i _ _ _ _

theorem st60 : k0_pay137 col (k0_pay121 col) x = Stg 11 5 x := by
  refine ext2 fun r i => ?_
  pointwise [col, k0_pay121, k0_pay137]
  exact stg_eq 11 5 32 2016 (by decide) (fun k => x (ix2 r k)) i _ _ _ _

theorem st61 : k0_pay139 (k0_pay138 col (k0_pay121 col) x) = Stg 11 4 x := by
  refine ext2 fun r i => ?_
  pointwise [col, k0_pay121, k0_pay138, k0_pay139]
  exact stg_eq 11 4 16 2032 (by decide) (fun k => x (ix2 r k)) i _ _ _ _

theorem st62 : k0_pay140 col (k0_pay121 col) x = Stg 11 3 x := by
  refine ext2 fun r i => ?_
  pointwise [col, k0_pay121, k0_pay140]
  exact stg_eq 11 3 8 2040 (by decide) (fun k => x (ix2 r k)) i _ _ _ _

theorem st63 : k0_pay141 col (k0_pay121 col) x = Stg 11 2 x := by
  refine ext2 fun r i => ?_
  pointwise [col, k0_pay121, k0_pay141]
  exact stg_eq 11 2 4 2044 (by decide) (fun k => x (ix2 r k)) i _ _ _ _

theorem st64 : k0_pay142 col (k0_pay121 col) x = Stg 11 1 x := by
  refine ext2 fun r i => ?_
  pointwise [col, k0_pay121, k0_pay142]
  exact stg_eq 11 1 2 2046 (by decide) (fun k => x (ix2 r k)) i _ _ _ _

theorem st65 : k0_pay143 col (k0_pay121 col) x = Stg 11 0 x := by
  refine ext2 fun r i => ?_
  pointwise [col, k0_pay121, k0_pay143]
  exact stg_eq 11 0 1 2047 (by decide) (fun k => x (ix2 r k)) i _ _ _ _

end Cert.TopRow
-- ==== Proof.TopBlock.lean ====
/- What the top-k call leaves in its two arrays: the leading entries of the sorted rows, and their log-softmax. -/
module

public import proofs.«01_k».proof.Proof.TopStages
public import Idealize.ShloMosaic.Lib.Pipeline.ValueKit
public import Idealize.ShloMosaic.Lib.Claim

@[expose] public section

set_option maxRecDepth 16384

noncomputable section

namespace Cert.TopRow

open Idealize.ShloMosaic Idealize.ShloMosaic.TcCoe Idealize.SL.Sem
open Idealize.ShloMosaic.Pipeline (Dat)
open Cert.TopKIdeal Cert.TopKIdeal.Gen

/-- All stages on every row of a block. -/
def Sorted (x : Block) : Block := steps.foldl (fun x p => Stg p.1 p.2 x) x

/-- A row of the block after any stages is the row after these stages. -/
theorem foldl_row (L : List (Nat × Nat)) (x : Block) (r : Fin 256) :
    (fun k => L.foldl (fun x p => Stg p.1 p.2 x) x (ix2 r k)) = L.foldl (fun x p => stg p.1 p.2 x) (fun k => x (ix2 r k)) := by
  induction L generalizing x with
  | nil => rfl
  | cons p L ih => exact ih (Stg p.1 p.2 x)

/-- A row of the sorted block is the sorted row. -/
theorem Sorted_row (x : Block) (r : Fin 256) (i : Fin 2048) : Sorted x (ix2 r i) = sorted (fun k => x (ix2 r k)) i :=
  congrFun (foldl_row steps x r) i

/-- The stages, listed. -/
theorem steps_eq : steps = [(1, 0), (2, 1), (2, 0), (3, 2), (3, 1), (3, 0), (4, 3), (4, 2), (4, 1), (4, 0), (5, 4), (5, 3), (5, 2), (5, 1), (5, 0), (6, 5), (6, 4), (6, 3), (6, 2), (6, 1), (6, 0), (7, 6), (7, 5), (7, 4), (7, 3), (7, 2), (7, 1), (7, 0), (8, 7), (8, 6), (8, 5), (8, 4), (8, 3), (8, 2), (8, 1), (8, 0), (9, 8), (9, 7), (9, 6), (9, 5), (9, 4), (9, 3), (9, 2), (9, 1), (9, 0), (10, 9), (10, 8), (10, 7), (10, 6), (10, 5), (10, 4), (10, 3), (10, 2), (10, 1), (10, 0), (11, 10), (11, 9), (11, 8), (11, 7), (11, 6), (11, 5), (11, 4), (11, 3), (11, 2), (11, 1), (11, 0)] := by decide +kernel

/-- The kernels stages one after another are all stages. -/
theorem stages_eq (x : Block) : Stg 11 0 (Stg 11 1 (Stg 11 2 (Stg 11 3 (Stg 11 4 (Stg 11 5 (Stg 11 6 (Stg 11 7 (Stg 11 8 (Stg 11 9 (Stg 11 10 (Stg 10 0 (Stg 10 1 (Stg 10 2 (Stg 10 3 (Stg 10 4 (Stg 10 5 (Stg 10 6 (Stg 10 7 (Stg 10 8 (Stg 10 9 (Stg 9 0 (Stg 9 1 (Stg 9 2 (Stg 9 3 (Stg 9 4 (Stg 9 5 (Stg 9 6 (Stg 9 7 (Stg 9 8 (Stg 8 0 (Stg 8 1 (Stg 8 2 (Stg 8 3 (Stg 8 4 (Stg 8 5 (Stg 8 6 (Stg 8 7 (Stg 7 0 (Stg 7 1 (Stg 7 2 (Stg 7 3 (Stg 7 4 (Stg 7 5 (Stg 7 6 (Stg 6 0 (Stg 6 1 (Stg 6 2 (Stg 6 3 (Stg 6 4 (Stg 6 5 (Stg 5 0 (Stg 5 1 (Stg 5 2 (Stg 5 3 (Stg 5 4 (Stg 4 0 (Stg 4 1 (Stg 4 2 (Stg 4 3 (Stg 3 0 (Stg 3 1 (Stg 3 2 (Stg 2 0 (Stg 2 1 (Stg 1 0 x))))))))))))))))))))))))))))))))))))))))))))))))))))))))))))))))) = Sorted x := by
  unfold Sorted
  rw [steps_eq]
  simp only [List.foldl_cons, List.foldl_nil]

variable (m : (ℓ : Loc nD τ sig) → Buf (Elt Ideal) ℓ)

/-- Where each window's block lies at point `t`. -/
theorem idx0 : ∀ t : Fin cfg0.N, win0_0.index t = ![t.val, 0] ∧ win0_1.index t = ![t.val, 0] ∧ win0_2.index t = ![t.val, 0] :=
  (by decide +kernel : ∀ t : Fin grid0.N, _)

set_option maxHeartbeats 1000000 in
/-- What the body leaves in the threshold block. -/
theorem out_thr (c : Dev nD) (i : grid0.Coords) (arg1 : Memref sig .tc .vmem S256x2048 .f32) (harg1 : arg1.IsWhole) (arg2 : Memref sig .tc .vmem S256x512 .f32) (harg2 : arg2.IsWhole)
    (arg3 : Memref sig .tc .vmem S256x1 .f32) (harg3 : arg3.IsWhole) (arg4 : Memref sig .tc .vmem S256x2048 .f32) (harg4 : arg4.IsWhole) (x : Block) :
    out0_A_2 c i arg1 harg1 arg2 harg2 arg3 harg3 arg4 harg4 x = k0_pay1 (Sorted x) := by
  frame_out
  simp only [iota_col, st0, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65]
  rw [stages_eq]

set_option maxHeartbeats 1000000 in
/-- What the body leaves in the block of log-probabilities. -/
theorem out_logp (c : Dev nD) (i : grid0.Coords) (arg1 : Memref sig .tc .vmem S256x2048 .f32) (harg1 : arg1.IsWhole) (arg2 : Memref sig .tc .vmem S256x512 .f32) (harg2 : arg2.IsWhole)
    (arg3 : Memref sig .tc .vmem S256x1 .f32) (harg3 : arg3.IsWhole) (arg4 : Memref sig .tc .vmem S256x2048 .f32) (harg4 : arg4.IsWhole) (x : Block) :
    out0_A_1 c i arg1 harg1 arg2 harg2 arg3 harg3 arg4 harg4 x = k0_pay2 (k0_pay144 (Sorted x)) := by
  frame_out
  simp only [iota_col, st0, st1, st2, st3, st4, st5, st6, st7, st8, st9, st10, st11, st12, st13, st14, st15, st16, st17, st18, st19, st20, st21, st22, st23, st24, st25, st26, st27, st28, st29, st30, st31, st32, st33, st34, st35, st36, st37, st38, st39, st40, st41, st42, st43, st44, st45, st46, st47, st48, st49, st50, st51, st52, st53, st54, st55, st56, st57, st58, st59, st60, st61, st62, st63, st64, st65]
  rw [stages_eq]

end Cert.TopRow
-- ==== Proof.TopLead.lean ====
/- The leading entries of a sorted row and their log-softmax, as the kernel and as the reference spell it. -/
module

public import proofs.«01_k».proof.Proof.TopNet
public import Idealize.ShloMosaic.Lib.Pipeline.ValueKit
public import Idealize.ShloMosaic.Lib.SortFacts

@[expose] public section

set_option maxRecDepth 16384

noncomputable section

namespace Cert.TopRow

open Idealize.ShloMosaic

/-- Row `r` of a square array. -/
def rowOf (a : (⟨2, ![2048, 2048]⟩ : Shape).Idx → EReal) (r : Fin 2048) : Row := fun k => a (ix2 r k)

/-- The leading 512 entries of the sorted row. -/
def lead (x : Row) (k : Fin 512) : EReal := sorted x (k.castLE (by decide) : Fin 2048)

/-- The log-probability the kernel computes from the leading entries. -/
def logpK (x : Row) (k : Fin 512) : EReal :=
  lead x k - (lead x 0 + Ideal.log (∑ q : Fin 512, Ideal.exp (lead x q - lead x 0)))

/-- The log-softmax of the leading entries as the reference spells it. -/
def logpR (x : Row) (k : Fin 512) : EReal :=
  (lead x k - lead x 0) - Ideal.log (∑ q : Fin 512, Ideal.exp (lead x q - lead x 0))

/-- Two descending rearrangements of one row are equal. -/
theorem antitone_unique {n : Nat} (x y : Fin n → EReal) (hx : Antitone x) (hy : Antitone y) (σ : Equiv.Perm (Fin n))
    (h : y = x ∘ σ) : x = y := by
  have hp : (List.ofFn y).Perm (List.ofFn x) := by
    rw [h]; exact Equiv.Perm.ofFn_comp_perm σ x
  have sx : (List.ofFn x).Pairwise (· ≥ ·) := List.pairwise_ofFn.mpr fun i j hij => hx hij.le
  have sy : (List.ofFn y).Pairwise (· ≥ ·) := List.pairwise_ofFn.mpr fun i j hij => hy hij.le
  exact (List.ofFn_injective (hp.eq_of_pairwise (fun a b _ _ h1 h2 => le_antisymm h2 h1) sy sx)).symm

/-- "Greater" at two places of a row. -/
def above {n : Nat} (x : Fin n → EReal) (a b : Fin n) : Bool := Ideal.cmp .ogt (x a) (x b) == 1#1

theorem above_iff {n : Nat} (x : Fin n → EReal) (a b : Fin n) : above x a b = true ↔ x b < x a := by
  unfold above
  by_cases h : x b < x a <;> simp [Ideal.cmp, h]

/-- The stable sort's row is descending. -/
theorem stable_antitone {n : Nat} (x : Fin n → EReal) : Antitone fun k => x (sortedFrom (above x) k) := by
  intro i j hij
  rcases eq_or_lt_of_le hij with rfl | hlt
  · exact le_rfl
  · have h := sortedFrom_noInversion (above x) (above x)
      (fun a b hab => by
        rw [Bool.eq_false_iff]; intro hba
        exact absurd ((above_iff x a b).mp hab) (not_lt.mpr ((above_iff x b a).mp hba).le))
      (fun a b hab => hab)
      (fun a b c hab hbc => by
        rw [Bool.eq_false_iff, ne_eq, above_iff, not_lt] at hab hbc ⊢
        exact hab.trans hbc) i j hlt
    rw [Bool.eq_false_iff, ne_eq, above_iff, not_lt] at h
    exact h

/-- The stable sort's row is any descending rearrangement of the row. -/
theorem stable_unique {n : Nat} (x y : Fin n → EReal) (hy : Antitone y) (σ : Equiv.Perm (Fin n)) (h : y = x ∘ σ) :
    (fun k => x (sortedFrom (above x) k)) = y := by
  let π : Equiv.Perm (Fin n) := Equiv.ofBijective _ ⟨sortedFrom_injective (above x), sortedFrom_surjective (above x)⟩
  refine antitone_unique _ _ (stable_antitone x) hy (σ.trans π.symm) ?_
  rw [h]
  funext k
  exact congrArg x (π.apply_symm_apply (σ k)).symm

/-- The stable sort's row is the network's. -/
theorem stable_eq (x : Row) : (fun k => x (sortedFrom (above x) k)) = sorted x := by
  obtain ⟨σ, hσ⟩ := sorted_perm x
  exact stable_unique x _ (sorted_antitone x) σ hσ

/-- Moving along the second axis. -/
theorem along_row {n0 n1 : Nat} (r : Fin n0) (q k : Fin n1) : (ix2 r q : (⟨2, ![n0, n1]⟩ : Shape).Idx).along 1 k = ix2 r k := by
  funext b
  fin_cases b <;> rfl

/-- A stable sort of every row, greater first. -/
theorem sort_row {n0 n1 : Nat} (a : (⟨2, ![n0, n1]⟩ : Shape).Idx → EReal) (y : (⟨2, ![n0, n1]⟩ : Shape).Idx → BitVec 32)
    (r : Fin n0) (p : Fin n1) :
    (Host.sort2 ⟨2, ![n0, n1]⟩ 1 (fun l r => FloatOps.cmpfTotal (F := Ideal) (φ := .f32) .gt l.1 r.1) a y).1 (ix2 r p)
      = a (ix2 r (sortedFrom (above fun k => a (ix2 r k)) p)) := by
  have e : (fun k : Fin n1 => a ((ix2 r p : (⟨2, ![n0, n1]⟩ : Shape).Idx).along 1 k)) = fun k => a (ix2 r k) :=
    funext fun k => congrArg a (along_row r p k)
  have h1 : 1 < (⟨2, ![n0, n1]⟩ : Shape).rank := Nat.lt_succ_self 1
  unfold Host.sort2
  rw [dif_pos h1]
  exact congrArg (fun x : Fin n1 → EReal => x (sortedFrom (above x) p)) e

/-- The leading entries descend. -/
theorem lead_le (x : Row) (q : Fin 512) : lead x q ≤ lead x 0 := sorted_antitone x (Nat.zero_le _)

/-- Every leading entry is an entry of the row. -/
theorem lead_mem (x : Row) (q : Fin 512) : ∃ k, lead x q = x k := by
  obtain ⟨σ, hσ⟩ := sorted_perm x
  exact ⟨_, congrFun hσ _⟩

/-- The greatest of the leading entries is the first. -/
theorem fold_max (f : Fin 512 → EReal) (h : ∀ q, f q ≤ f 0) : Finset.univ.fold max ⊥ f = f 0 := by
  refine le_antisymm ?_ ?_
  · exact (Finset.fold_max_le _).mpr ⟨bot_le, fun q _ => h q⟩
  · exact (Finset.le_fold_max _).mpr (Or.inr ⟨0, Finset.mem_univ _, le_rfl⟩)

/-- `a - (m + l) = (a - m) - l` when `m` and `l` are real. -/
theorem sub_add_real (a : EReal) (m l : ℝ) : a - ((m : EReal) + (l : EReal)) = a - m - l := by
  induction a using EReal.rec with
  | bot => simp
  | top => rw [← EReal.coe_add, EReal.top_sub_coe, EReal.top_sub_coe, EReal.top_sub_coe]
  | coe a => norm_cast; ring_nf

/-- When no entry of the row is `+∞` the two spellings agree. -/
theorem logp_eq (x : Row) (hx : ∀ k, x k < ⊤) (q : Fin 512) : logpK x q = logpR x q := by
  have ht : ∀ q, lead x q < ⊤ := fun q => by obtain ⟨k, hk⟩ := lead_mem x q; rw [hk]; exact hx k
  unfold logpK logpR
  have hle := lead_le x
  generalize lead x = f at *
  rcases eq_or_ne (f 0) ⊥ with h0 | h0
  · have : f q = ⊥ := le_bot_iff.mp (h0 ▸ hle q)
    rw [this]
    simp
  · obtain ⟨m, hm⟩ : ∃ m : ℝ, f 0 = m := ⟨(f 0).toReal, (EReal.coe_toReal (ht 0).ne h0).symm⟩
    have term : ∀ q, ∃ e : ℝ, 0 ≤ e ∧ Ideal.exp (f q - f 0) = e := by
      intro q
      rcases eq_or_ne (f q) ⊥ with hq | hq
      · exact ⟨0, le_rfl, by rw [hq, EReal.bot_sub]; rfl⟩
      · obtain ⟨b, hb⟩ : ∃ b : ℝ, f q = b := ⟨(f q).toReal, (EReal.coe_toReal (ht q).ne hq).symm⟩
        refine ⟨Real.exp (b - m), (Real.exp_pos _).le, ?_⟩
        rw [hb, hm, ← EReal.coe_sub]
        rfl
    choose e he0 he using term
    have first : e 0 = 1 := by
      have h := he 0
      rw [hm, ← EReal.coe_sub, sub_self] at h
      have h1 : Ideal.exp ((0 : ℝ) : EReal) = ((Real.exp 0 : ℝ) : EReal) := rfl
      rw [h1, Real.exp_zero] at h
      exact (EReal.coe_eq_coe_iff.mp h).symm
    have sum : (∑ q : Fin 512, Ideal.exp (f q - f 0)) = ((∑ q, e q : ℝ) : EReal) := by
      simp only [he]
      norm_cast
    have pos : 0 < ∑ q, e q := by
      have h1 : e 0 ≤ ∑ q, e q := Finset.single_le_sum (fun q _ => he0 q) (Finset.mem_univ 0)
      rw [first] at h1
      exact lt_of_lt_of_le one_pos h1
    have hlog : Ideal.log ((∑ q, e q : ℝ) : EReal) = ((Real.log (∑ q, e q) : ℝ) : EReal) := by
      show (if ∑ q, e q ≤ 0 then (⊥ : EReal) else ((Real.log (∑ q, e q) : ℝ) : EReal)) = _
      rw [if_neg (not_le.mpr pos)]
    rw [sum, hlog, hm]
    exact sub_add_real (f q) m _

end Cert.TopRow
-- ==== Proof.TopOut.lean ====
/- What the top-k call leaves in its two arrays: the leading entries of the sorted rows, and their log-softmax. -/
module

public import proofs.«01_k».proof.Proof.TopBlock
public import proofs.«01_k».proof.Proof.TopLead

@[expose] public section

set_option maxRecDepth 16384

noncomputable section

namespace Cert.TopRow

open Idealize.ShloMosaic Idealize.ShloMosaic.TcCoe Idealize.SL.Sem
open Idealize.ShloMosaic.Pipeline (Dat)
open Cert.TopKIdeal Cert.TopKIdeal.Gen

/-- A place of the sorted block among the leading ones. -/
theorem Sorted_lead (x : Block) (r : Fin 256) (q : Fin 512) (h : q.val < 2048) :
    Sorted x (ix2 r (⟨q.val, h⟩ : Fin 2048)) = lead (fun k => x (ix2 r k)) q :=
  Sorted_row x r _

theorem Sorted_first (x : Block) (r : Fin 256) : Sorted x (ix2 r (0 : Fin 2048)) = lead (fun k => x (ix2 r k)) 0 :=
  Sorted_row x r _

theorem Sorted_last (x : Block) (r : Fin 256) : Sorted x (ix2 r (511 : Fin 2048)) = lead (fun k => x (ix2 r k)) 511 :=
  Sorted_row x r _

/-- The block of thresholds at a row. -/
theorem thr_at (x : Block) (r : Fin 256) (z : Fin 1) : k0_pay1 (Sorted x) (ix2 r z) = lead (fun k => x (ix2 r k)) 511 := by
  pointwise [k0_pay1]
  exact Sorted_last x r

/-- The block of log-probabilities at a place. -/
theorem logp_at (x : Block) (r : Fin 256) (q : Fin 512) :
    k0_pay2 (k0_pay144 (Sorted x)) (ix2 r q) = logpK (fun k => x (ix2 r k)) q := by
  pointwise [k0_pay2, k0_pay144]
  simp only [Sorted_lead, Sorted_first]
  rfl

theorem pair_thr (y : S256x1.Idx) : ∃ (r : Fin 256) (z : Fin 1), y = ix2 r z :=
  ⟨y 0, y 1, by funext i; fin_cases i <;> rfl⟩
theorem pair_logp (y : S256x512.Idx) : ∃ (r : Fin 256) (q : Fin 512), y = ix2 r q :=
  ⟨y 0, y 1, by funext i; fin_cases i <;> rfl⟩

variable (m : (ℓ : Loc nD τ sig) → Buf (Elt Ideal) ℓ)

/-- The threshold array. -/
theorem thr_array (c : Dev nD) : (dats m 0 c).arrAt 2 cfg0.N = fun j : S2048x1.Idx =>
    lead (rowOf (m ((c : Thread nD τ).loc main_arg0)) (j 0)) 511 := by
  refine (dats m 0 c).arrAt_eq_of_covers 2 _ (by decide +kernel) fun t _ y => ?_
  blk_simp
  rw [after0_2]
  unfold outsAt0
  dsimp only
  rw [out_thr]
  obtain ⟨r, z, rfl⟩ := pair_thr y
  refine (thr_at (iblk m c 0 t) r z).trans ?_
  refine congrArg (fun x : Row => lead x 511) (funext fun k => ?_)
  unfold rowOf
  blk_point [iblk, idx0 t]

/-- The array of log-probabilities. -/
theorem logp_array (c : Dev nD) : (dats m 0 c).arrAt 1 cfg0.N = fun j : S2048x512.Idx =>
    logpK (rowOf (m ((c : Thread nD τ).loc main_arg0)) (j 0)) (j 1) := by
  refine (dats m 0 c).arrAt_eq_of_covers 1 _ (by decide +kernel) fun t _ y => ?_
  blk_simp
  rw [after0_1]
  unfold outsAt0
  dsimp only
  rw [out_logp]
  obtain ⟨r, q, rfl⟩ := pair_logp y
  refine (logp_at (iblk m c 0 t) r q).trans ?_
  refine congrArg₂ logpK (funext fun k => ?_) ?_
  · unfold rowOf
    blk_point [iblk, idx0 t]
  · refine Fin.ext ?_
    simp [idx0 t]

/-- The kernel's run: both arrays as formulas of the input's rows, the input unchanged. -/
theorem topk_run (ρ : Dev nD → PrngReg) :
    θ_run defs (onTc (τ := τ) (main (F := Ideal))) ⟨m, fun _ => 0, ρ⟩ (fun r => ∀ c : Dev nD,
      r.2.mem ((c.tc : Thread nD τ).loc main_v0_0)
        = (fun j : S2048x512.Idx => logpK (rowOf (m ((c : Thread nD τ).loc main_arg0)) (j 0)) (j 1))
      ∧ r.2.mem ((c.tc : Thread nD τ).loc main_v0_1)
        = (fun j : S2048x1.Idx => lead (rowOf (m ((c : Thread nD τ).loc main_arg0)) (j 0)) 511)
      ∧ r.2.mem ((c.tc : Thread nD τ).loc main_arg0) = m ((c.tc : Thread nD τ).loc main_arg0)) :=
  (θ_run defs _ _).mono (fun s h c =>
      ⟨((h.1 c).1 1).trans (logp_array m c), ((h.1 c).1 2).trans (thr_array m c), h.2 c⟩)
    (θ_run_and (run_main m ρ) (unchanged m ρ))

end Cert.TopRow
-- ==== Proof.TopSpec.lean ====
/- The reference of the top-k call: its top values are the leading entries of the sorted rows, its results the kernel's. -/
module

public import proofs.«01_k».proof.Proof.TopLead
public import proofs.«01_k».proof.Proof.Gen.TopKReferenceIdeal.Read
public import Idealize.ShloMosaic.Lib.ReduceAll
public import proofs.«01_k».proof.Proof.Gen.Pre_below_infinity
public import Idealize.ShloMosaic.Lib.Pipeline.ValueKit

@[expose] public section

set_option maxRecDepth 16384

noncomputable section

namespace Cert.TopRow

open Idealize.ShloMosaic Idealize.ShloMosaic.TcCoe Idealize.SL.Sem
open Cert.TopKReferenceIdeal Cert.TopKReferenceIdeal.Gen Cert.TopKReferenceIdeal.Read

/-- Every index of a table is a pair. -/
theorem pair_r (j : S2048x512.Idx) : ∃ (r : Fin 2048) (q : Fin 512), j = ix2 r q :=
  ⟨j 0, j 1, by funext i; fin_cases i <;> rfl⟩
theorem pair_s (j : S2048x1.Idx) : ∃ (r : Fin 2048) (z : Fin 1), j = ix2 r z :=
  ⟨j 0, j 1, by funext i; fin_cases i <;> rfl⟩

/-- The reference's top values. -/
theorem values_at (a : S2048x2048.Idx → EReal) (r : Fin 2048) (q : Fin 512) :
    val_main_values (F := Ideal) a (ix2 r q) = lead (rowOf a r) q := by
  unfold val_main_values Host.topK
  dsimp only
  refine (extractStridedSlice_apply _ _ _ (ix2 r q) (ix2 r (q.castLE (by decide) : Fin 2048)) (fun b => ?_)).trans ?_
  · fin_cases b
    · exact (Nat.zero_add _).symm
    · exact (Nat.zero_add _).symm
  unfold lead
  rw [← stable_eq]
  generalize (q.castLE (by decide) : Fin 2048) = p
  exact sort_row a _ r p

/-- The word of `-∞`. -/
theorem word_bot : Ideal.ofBits .f32 0xFF800000#32 = ⊥ := by
  simp [Ideal.ofBits, Ideal.ieee]

/-- The word of `+∞`. -/
theorem word_top : Ideal.ofBits .f32 0x7F800000#32 = ⊤ := by
  simp [Ideal.ofBits, Ideal.ieee]

/-- The reference's row maximum is the first of the leading entries. -/
theorem max_at (a : S2048x2048.Idx → EReal) (r : Fin 2048) :
    val_main_call0_v2 (F := Ideal) a (ix1 r) = lead (rowOf a r) 0 := by
  have hv : ∀ q : Fin 512, val_main_values (F := Ideal) a (ix2 r q) = lead (rowOf a r) q := values_at a r
  unfold val_main_call0_v2 val_main_call0_v1 val_main_call0_v0 val_main_call0_cst val_main_call0_cst_0
  generalize val_main_values (F := Ideal) a = v at hv ⊢
  pointwise
  simp only [hv]
  have w : Ideal.ofBits .f32 4286578688#32 = ⊥ := word_bot
  rw [w, fold_max _ (lead_le _)]
  exact max_eq_right bot_le

/-- The reference's log-probabilities. -/
theorem logpR_at (a : S2048x2048.Idx → EReal) (r : Fin 2048) (q : Fin 512) :
    val_main_v0 (F := Ideal) a (ix2 r q) = logpR (rowOf a r) q := by
  have hv : ∀ q : Fin 512, val_main_values (F := Ideal) a (ix2 r q) = lead (rowOf a r) q := values_at a r
  have hm : val_main_call0_v2 (F := Ideal) a (ix1 r) = lead (rowOf a r) 0 := max_at a r
  unfold val_main_v0 val_main_call0_v10 val_main_call0_v9 val_main_call0_v8 val_main_call0_v7 val_main_call0_v6 val_main_call0_v5 val_main_call0_v4 val_main_call0_v3 val_main_call0_cst_1
  generalize val_main_values (F := Ideal) a = v at hv ⊢
  generalize val_main_call0_v2 (F := Ideal) a = w at hm ⊢
  pointwise
  simp only [hv, hm]
  rfl

/-- The reference's thresholds. -/
theorem thrR_at (a : S2048x2048.Idx → EReal) (r : Fin 2048) (z : Fin 1) :
    val_main_v1 (F := Ideal) a (ix2 r z) = lead (rowOf a r) 511 := by
  have hv : ∀ q : Fin 512, val_main_values (F := Ideal) a (ix2 r q) = lead (rowOf a r) q := values_at a r
  unfold val_main_v1
  generalize val_main_values (F := Ideal) a = v at hv ⊢
  pointwise
  exact hv _

/-- The precondition, read: no entry is `+∞`. -/
theorem below_at (a : S2048x2048.Idx → EReal)
    (h : Cert.Pre_below_infinity.fn (F := Ideal) a = fun _ => 1#1) (i : S2048x2048.Idx) : a i < ⊤ := by
  have h0 := congrFun h (fun k => k.elim0)
  unfold Cert.Pre_below_infinity.fn at h0
  dsimp only at h0
  have e := Host.reduce_andi_all _ _ _ _ _ h0 i
  have e' : Ideal.cmp .olt (a i) (Ideal.ofBits .f32 0x7F800000#32) = 1#1 := e
  rw [word_top] at e'
  by_contra hn
  simp [Ideal.cmp, hn] at e'

/-- The reference's log-probabilities are the kernel's. -/
theorem logp_fun (a : S2048x2048.Idx → EReal) (h : Cert.Pre_below_infinity.fn (F := Ideal) a = fun _ => 1#1) :
    val_main_v0 (F := Ideal) a = fun j : S2048x512.Idx => logpK (rowOf a (j 0)) (j 1) := by
  funext j
  obtain ⟨r, q, rfl⟩ := pair_r j
  exact (logpR_at a r q).trans (logp_eq _ (fun k => below_at a h (ix2 r k)) q).symm

/-- The reference's thresholds are the kernel's. -/
theorem thr_fun (a : S2048x2048.Idx → EReal) :
    val_main_v1 (F := Ideal) a = fun j : S2048x1.Idx => lead (rowOf a (j 0)) 511 := by
  funext j
  obtain ⟨r, z, rfl⟩ := pair_s j
  exact thrR_at a r z

/-- The reference's run: both results as formulas of the input's rows, the input unchanged. -/
theorem topk_reference_run (m : (ℓ : Loc nD τ sig) → Buf (Elt Ideal) ℓ) (ρ : Dev nD → PrngReg)
    (a : Dev nD → S2048x2048.Idx → EReal) (h : ∀ c : Dev nD, m ((c.tc : Thread nD τ).loc main_arg0) = a c)
    (hb : ∀ c : Dev nD, Cert.Pre_below_infinity.fn (F := Ideal) (a c) = fun _ => 1#1) :
    θ_run defs (onTc (τ := τ) (main (F := Ideal))) ⟨m, fun _ => 0, ρ⟩ (fun r => ∀ c : Dev nD,
      r.2.mem ((c.tc : Thread nD τ).loc main_v0) = (fun j : S2048x512.Idx => logpK (rowOf (a c) (j 0)) (j 1))
      ∧ r.2.mem ((c.tc : Thread nD τ).loc main_v1) = (fun j : S2048x1.Idx => lead (rowOf (a c) (j 0)) 511)
      ∧ r.2.mem ((c.tc : Thread nD τ).loc main_arg0) = m ((c.tc : Thread nD τ).loc main_arg0)) :=
  (θ_run defs _ _).mono (fun s hs c => by
    obtain ⟨h1, h2, h3⟩ := hs c
    refine ⟨?_, ?_, h3⟩
    · refine h1.trans ((val_main_v0_eq (F := Ideal) (m ((c.tc : Thread nD τ).loc main_arg0))).trans ?_)
      exact (congrArg (val_main_v0 (F := Ideal)) (h c)).trans (logp_fun (a c) (hb c))
    · refine h2.trans ((val_main_v1_eq (F := Ideal) (m ((c.tc : Thread nD τ).loc main_arg0))).trans ?_)
      exact (congrArg (val_main_v1 (F := Ideal)) (h c)).trans (thr_fun (a c))) (Cert.TopKReferenceIdeal.Value.run m ρ)

end Cert.TopRow
-- ==== Proof.TopInfinity.lean ====
/- Why the precondition is there: on a row of `+∞` the two spellings of the log-softmax differ. -/
module

public import proofs.«01_k».proof.Proof.TopLead

@[expose] public section

noncomputable section

namespace Cert.TopRow

open Idealize.ShloMosaic

/-- On a row of `+∞` the kernel gives `+∞` and the reference `-∞`. -/
theorem logp_differ (q : Fin 512) : logpK (fun _ => ⊤) q = ⊤ ∧ logpR (fun _ => ⊤) q = ⊥ := by
  have ht : lead (fun _ => ⊤) = fun _ => ⊤ := funext fun q => (lead_mem _ q).choose_spec
  have h0 : Ideal.exp ⊥ = 0 := rfl
  have hl : Ideal.log 0 = ⊥ := by
    show (if (0 : ℝ) ≤ 0 then (⊥ : EReal) else ((Real.log 0 : ℝ) : EReal)) = ⊥
    rw [if_pos le_rfl]
  unfold logpK logpR
  rw [ht]
  simp [h0, hl]

end Cert.TopRow
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelRun
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelIdealRun
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.TopK
public import proofs.«01_k».proof.Proof.Gen.TopK.Frame
public import proofs.«01_k».proof.Proof.Gen.TopKIdeal
public import proofs.«01_k».proof.Proof.Gen.TopKIdeal.Frame
public import proofs.«01_k».proof.Proof.Gen.TopKReferenceIdeal
public import proofs.«01_k».proof.Proof.Gen.TopKReferenceIdeal.Run
public import proofs.«01_k».proof.Proof.Gen.TopKReferenceIdeal.Read
public import proofs.«01_k».proof.Proof.Gen.Pre_below_infinity
public import proofs.«01_k».proof.Proof.KernelValue
public import proofs.«01_k».proof.Proof.RefRun
public import proofs.«01_k».proof.Proof.Tables
public import proofs.«01_k».proof.Proof.TopOut
public import proofs.«01_k».proof.Proof.TopSpec
public import proofs.«01_k».proof.Proof.TopInfinity
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- From memories that agree on the arguments, the kernel and the reference end with equal results. -/
theorem equal : algebraic_KernelIdeal_ReferenceIdeal (hKernelIdeal := Cert.KernelIdeal.Gen.facts) (hReferenceIdeal := Cert.ReferenceIdeal.Gen.facts) := by
  intro m g m' g' _ hargs
  have reads : ∀ c, Cert.Mla.ReadsAt m' c (Cert.Mla.aK m g c) := by
    intro c
    obtain ⟨h0, h1, h2, h3, h4, h5, h6, h7, h8, h9, h10, h11, h12, h13, h14, h15⟩ := hargs c
    exact {
      x := fun r k => congrFun h0 (ix3 r 0 k)
      am := fun r k => congrFun h1 (ix4 0 0 r k)
      wqd := fun n k => congrFun h2 (ix2 n k)
      qln := fun k => congrFun h3 (ix1 k)
      wqup := fun n k => congrFun h4 (ix2 n k)
      wkv := fun n k => congrFun h5 (ix2 n k)
      kvln := fun k => congrFun h6 (ix1 k)
      wkup := fun n k => congrFun h7 (ix2 n k)
      wvup := fun n k => congrFun h8 (ix2 n k)
      wproj := fun n k => congrFun h9 (ix2 n k)
      iqb := fun n k => congrFun h10 (ix2 n k)
      iki := fun n k => congrFun h11 (ix2 n k)
      kiw := fun k => congrFun h12 (ix1 k)
      kib := fun k => congrFun h13 (ix1 k)
      wwp := fun n k => congrFun h14 (ix2 n k)
      th := fun r => congrFun h15 (ix2 r 0)
      cos := fun r k => Cert.Mla.cos_at (Cert.KernelIdeal.Gen.W0 m g c) r k
      sin := fun r k => Cert.Mla.sin_at (Cert.KernelIdeal.Gen.W0 m g c) r k }
  exact ⟨_, _, Cert.Mla.kernel_run m g, Cert.Mla.reference_run m' g' (Cert.Mla.aK m g) reads⟩

/-- The reference runs to its end and leaves its arguments as they were. -/
theorem frame_reference : quiescent_ReferenceIdeal (hReferenceIdeal := Cert.ReferenceIdeal.Gen.facts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- From memories that agree on the logits, none of which is `+∞`, the top-k call and its reference end with equal results. -/
theorem topk_equal : algebraic_TopKIdeal_TopKReferenceIdeal_pre_below_infinity (hTopKIdeal := Cert.TopKIdeal.Gen.facts)
    (hTopKReferenceIdeal := Cert.TopKReferenceIdeal.Gen.facts) (hPre_below_infinity := Cert.Pre_below_infinity.Gen.facts) := by
  intro m g m' g' hpre hargs
  exact ⟨_, _, Cert.TopRow.topk_run m g, Cert.TopRow.topk_reference_run m' g' _ hargs hpre⟩

/-- The top-k reference runs to its end and leaves its argument as it was. -/
theorem topk_frame_reference : quiescent_TopKReferenceIdeal (hTopKReferenceIdeal := Cert.TopKReferenceIdeal.Gen.facts) := fun m ρ _ =>
  (θ_run Cert.TopKReferenceIdeal.defs _ _).mono (fun r h => ⟨fun c => (h c).2.2,
      Idealize.ShloMosaic.sem_eq_zero_of_no_sems (by decide) r.2⟩)
    (Cert.TopKReferenceIdeal.Value.run (F := Ideal) m ρ)

theorem claim : Cert.Claim := ⟨Cert.Kernel.Gen.facts, Cert.KernelIdeal.Gen.facts, Cert.ReferenceIdeal.Gen.facts,
  Cert.TopK.Gen.facts, Cert.TopKIdeal.Gen.facts, Cert.TopKReferenceIdeal.Gen.facts, Cert.Pre_below_infinity.Gen.facts,
  fun m ρ _ => Cert.Kernel.Gen.frame m ρ, fun m ρ _ => Cert.KernelIdeal.Gen.frame m ρ, frame_reference,
  fun m ρ _ => Cert.TopK.Gen.frame m ρ, fun m ρ _ => Cert.TopKIdeal.Gen.frame m ρ, fun m ρ _ => Cert.TopKIdeal.Gen.frame m ρ,
  topk_frame_reference, fun m ρ _ => topk_frame_reference m ρ trivial, trivial, equal, trivial, topk_equal⟩

end Cert.Proof

end
